-- ==== Defs.lean ====
def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix [hPre_finite_mix : Cert.Pre_finite_mix.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_finite_mlp [hPre_finite_mlp : Cert.Pre_finite_mlp.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdIdeal_pre_finite_mix [hMixBwdIdeal : Cert.MixBwdIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5)
      ∧ r.2.mem ((c.tc : Thread Cert.MlpBwd.nD Cert.MlpBwd.τ).loc Cert.MlpBwd.main_arg6) = m ((c.tc : Thread Cert.MlpBwd.nD Cert.MlpBwd.τ).loc Cert.MlpBwd.main_arg6))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6))
      ∧ r.2.sem = fun _ => 0)

def quiescent_MlpBwdIdeal_pre_finite_mlp [hMlpBwdIdeal : Cert.MlpBwdIdeal.Facts] [hPre_finite_mlp : Cert.Pre_finite_mlp.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_finite_mlp m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def preserves_MixBwd_MixBwdIdeal : Prop :=
  True

def algebraic_MixBwdIdeal_MixRefIdeal_pre_finite_mix [hMixBwdIdeal : Cert.MixBwdIdeal.Facts] [hMixRefIdeal : Cert.MixRefIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal_finite_mix m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v3_0)) (v1 : (c : Dev Cert.MixBwdIdeal.nD) → Buf (Elt Ideal) ((c.tc : Thread Cert.MixBwdIdeal.nD Cert.MixBwdIdeal.τ).loc Cert.MixBwdIdeal.main_v3_1)) (v2 : (c : Dev Cert.MixBwdIdeal.nD) → Buf (Elt Ideal) ((c.tc : Thread Cert.MixBwdIdeal.nD Cert.MixBwdIdeal.τ).loc Cert.MixBwdIdeal.main_v3_2)) (v3 : (c : Dev Cert.MixBwdIdeal.nD) → Buf (Elt Ideal) ((c.tc : Thread Cert.MixBwdIdeal.nD Cert.MixBwdIdeal.τ).loc Cert.MixBwdIdeal.main_v3_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v3_0) = v0 c
          ∧ r.2.mem ((c.tc : Thread Cert.MixBwdIdeal.nD Cert.MixBwdIdeal.τ).loc Cert.MixBwdIdeal.main_v3_1) = v1 c
          ∧ r.2.mem ((c.tc : Thread Cert.MixBwdIdeal.nD Cert.MixBwdIdeal.τ).loc Cert.MixBwdIdeal.main_v3_2) = v2 c
          ∧ r.2.mem ((c.tc : Thread Cert.MixBwdIdeal.nD Cert.MixBwdIdeal.τ).loc Cert.MixBwdIdeal.main_v3_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v54) = v0 c
          ∧ r.2.mem ((c.tc : Thread Cert.MixRefIdeal.nD Cert.MixRefIdeal.τ).loc Cert.MixRefIdeal.main_v55) = v1 c
          ∧ r.2.mem ((c.tc : Thread Cert.MixRefIdeal.nD Cert.MixRefIdeal.τ).loc Cert.MixRefIdeal.main_v57) = v2 c
          ∧ r.2.mem ((c.tc : Thread Cert.MixRefIdeal.nD Cert.MixRefIdeal.τ).loc Cert.MixRefIdeal.main_v53) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_MlpBwd_MlpBwdIdeal : Prop :=
  True

def algebraic_MlpBwdIdeal_MlpRefIdeal_pre_finite_mlp [hMlpBwdIdeal : Cert.MlpBwdIdeal.Facts] [hMlpRefIdeal : Cert.MlpRefIdeal.Facts] [hPre_finite_mlp : Cert.Pre_finite_mlp.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpBwdIdeal_finite_mlp m →
    (∀ c : Dev Cert.MlpBwdIdeal.nD,
      m' ((c.tc : Thread Cert.MlpRefIdeal.nD Cert.MlpRefIdeal.τ).loc Cert.MlpRefIdeal.main_arg0) = m ((c.tc : Thread Cert.MlpBwdIdeal.nD Cert.MlpBwdIdeal.τ).loc Cert.MlpBwdIdeal.main_arg0)
      ∧ m' ((c.tc : Thread Cert.MlpRefIdeal.nD Cert.MlpRefIdeal.τ).loc Cert.MlpRefIdeal.main_arg1) = m ((c.tc : Thread Cert.MlpBwdIdeal.nD Cert.MlpBwdIdeal.τ).loc Cert.MlpBwdIdeal.main_arg1)
      ∧ m' ((c.tc : Thread Cert.MlpRefIdeal.nD Cert.MlpRefIdeal.τ).loc Cert.MlpRefIdeal.main_arg2) = m ((c.tc : Thread Cert.MlpBwdIdeal.nD Cert.MlpBwdIdeal.τ).loc Cert.MlpBwdIdeal.main_arg2)
      ∧ m' ((c.tc : Thread Cert.MlpRefIdeal.nD Cert.MlpRefIdeal.τ).loc Cert.MlpRefIdeal.main_arg3) = m ((c.tc : Thread Cert.MlpBwdIdeal.nD Cert.MlpBwdIdeal.τ).loc Cert.MlpBwdIdeal.main_arg3)
      ∧ m' ((c.tc : Thread Cert.MlpRefIdeal.nD Cert.MlpRefIdeal.τ).loc Cert.MlpRefIdeal.main_arg4) = m ((c.tc : Thread Cert.MlpBwdIdeal.nD Cert.MlpBwdIdeal.τ).loc Cert.MlpBwdIdeal.main_arg4)
      ∧ m' ((c.tc : Thread Cert.MlpRefIdeal.nD Cert.MlpRefIdeal.τ).loc Cert.MlpRefIdeal.main_arg5) = m ((c.tc : Thread Cert.MlpBwdIdeal.nD Cert.MlpBwdIdeal.τ).loc Cert.MlpBwdIdeal.main_arg5)
      ∧ m' ((c.tc : Thread Cert.MlpRefIdeal.nD Cert.MlpRefIdeal.τ).loc Cert.MlpRefIdeal.main_arg6) = m ((c.tc : Thread Cert.MlpBwdIdeal.nD Cert.MlpBwdIdeal.τ).loc Cert.MlpBwdIdeal.main_arg6)) →
    ∃ (v0 : (c : Dev Cert.MlpBwdIdeal.nD) → Buf (Elt Ideal) ((c.tc : Thread Cert.MlpBwdIdeal.nD Cert.MlpBwdIdeal.τ).loc Cert.MlpBwdIdeal.main_v37_0)) (v1 : (c : Dev Cert.MlpBwdIdeal.nD) → Buf (Elt Ideal) ((c.tc : Thread Cert.MlpBwdIdeal.nD Cert.MlpBwdIdeal.τ).loc Cert.MlpBwdIdeal.main_v37_1)) (v2 : (c : Dev Cert.MlpBwdIdeal.nD) → Buf (Elt Ideal) ((c.tc : Thread Cert.MlpBwdIdeal.nD Cert.MlpBwdIdeal.τ).loc Cert.MlpBwdIdeal.main_v37_2)) (v3 : (c : Dev Cert.MlpBwdIdeal.nD) → Buf (Elt Ideal) ((c.tc : Thread Cert.MlpBwdIdeal.nD Cert.MlpBwdIdeal.τ).loc Cert.MlpBwdIdeal.main_v37_3)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v37_0) = v0 c
          ∧ r.2.mem ((c.tc : Thread Cert.MlpBwdIdeal.nD Cert.MlpBwdIdeal.τ).loc Cert.MlpBwdIdeal.main_v37_1) = v1 c
          ∧ r.2.mem ((c.tc : Thread Cert.MlpBwdIdeal.nD Cert.MlpBwdIdeal.τ).loc Cert.MlpBwdIdeal.main_v37_2) = v2 c
          ∧ r.2.mem ((c.tc : Thread Cert.MlpBwdIdeal.nD Cert.MlpBwdIdeal.τ).loc Cert.MlpBwdIdeal.main_v37_3) = v3 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
          ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v136) = v0 c
          ∧ r.2.mem ((c.tc : Thread Cert.MlpRefIdeal.nD Cert.MlpRefIdeal.τ).loc Cert.MlpRefIdeal.main_v138) = v1 c
          ∧ r.2.mem ((c.tc : Thread Cert.MlpRefIdeal.nD Cert.MlpRefIdeal.τ).loc Cert.MlpRefIdeal.main_v140) = v2 c
          ∧ r.2.mem ((c.tc : Thread Cert.MlpRefIdeal.nD Cert.MlpRefIdeal.τ).loc Cert.MlpRefIdeal.main_v134) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_InBwd_InBwdIdeal : Prop :=
  True

def algebraic_InBwdIdeal_InRefIdeal_pre_finite_in [hInBwdIdeal : Cert.InBwdIdeal.Facts] [hInRefIdeal : Cert.InRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_finite_in m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)
      ∧ m' ((c.tc : Thread Cert.InRefIdeal.nD Cert.InRefIdeal.τ).loc Cert.InRefIdeal.main_arg7) = m ((c.tc : Thread Cert.InBwdIdeal.nD Cert.InBwdIdeal.τ).loc Cert.InBwdIdeal.main_arg7)
      ∧ m' ((c.tc : Thread Cert.InRefIdeal.nD Cert.InRefIdeal.τ).loc Cert.InRefIdeal.main_arg8) = m ((c.tc : Thread Cert.InBwdIdeal.nD Cert.InBwdIdeal.τ).loc Cert.InBwdIdeal.main_arg8)
      ∧ m' ((c.tc : Thread Cert.InRefIdeal.nD Cert.InRefIdeal.τ).loc Cert.InRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v2_0)) (v1 : (c : Dev Cert.InBwdIdeal.nD) → Buf (Elt Ideal) ((c.tc : Thread Cert.InBwdIdeal.nD Cert.InBwdIdeal.τ).loc Cert.InBwdIdeal.main_v2_1)) (v2 : (c : Dev Cert.InBwdIdeal.nD) → Buf (Elt Ideal) ((c.tc : Thread Cert.InBwdIdeal.nD Cert.InBwdIdeal.τ).loc Cert.InBwdIdeal.main_v2_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2_0) = v0 c
          ∧ r.2.mem ((c.tc : Thread Cert.InBwdIdeal.nD Cert.InBwdIdeal.τ).loc Cert.InBwdIdeal.main_v2_1) = v1 c
          ∧ r.2.mem ((c.tc : Thread Cert.InBwdIdeal.nD Cert.InBwdIdeal.τ).loc Cert.InBwdIdeal.main_v2_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v60) = v0 c
          ∧ r.2.mem ((c.tc : Thread Cert.InRefIdeal.nD Cert.InRefIdeal.τ).loc Cert.InRefIdeal.main_v26) = v1 c
          ∧ r.2.mem ((c.tc : Thread Cert.InRefIdeal.nD Cert.InRefIdeal.τ).loc Cert.InRefIdeal.main_v58) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9))

def preserves_OutBwd_OutBwdIdeal : Prop :=
  True

def algebraic_OutBwdIdeal_OutRefIdeal [hOutBwdIdeal : Cert.OutBwdIdeal.Facts] [hOutRefIdeal : Cert.OutRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutBwdIdeal m →
    (∀ c : Dev Cert.OutBwdIdeal.nD,
      m' ((c.tc : Thread Cert.OutRefIdeal.nD Cert.OutRefIdeal.τ).loc Cert.OutRefIdeal.main_arg0) = m ((c.tc : Thread Cert.OutBwdIdeal.nD Cert.OutBwdIdeal.τ).loc Cert.OutBwdIdeal.main_arg0)
      ∧ m' ((c.tc : Thread Cert.OutRefIdeal.nD Cert.OutRefIdeal.τ).loc Cert.OutRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_MlpFwd_MlpFwdIdeal : Prop :=
  True

def algebraic_MlpFwdIdeal_FwdRefIdeal [hMlpFwdIdeal : Cert.MlpFwdIdeal.Facts] [hFwdRefIdeal : Cert.FwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_MlpFwdIdeal m →
    (∀ c : Dev Cert.MlpFwdIdeal.nD,
      m' ((c.tc : Thread Cert.FwdRefIdeal.nD Cert.FwdRefIdeal.τ).loc Cert.FwdRefIdeal.main_arg0) = m ((c.tc : Thread Cert.MlpFwdIdeal.nD Cert.MlpFwdIdeal.τ).loc Cert.MlpFwdIdeal.main_arg0)
      ∧ m' ((c.tc : Thread Cert.FwdRefIdeal.nD Cert.FwdRefIdeal.τ).loc Cert.FwdRefIdeal.main_arg1) = m ((c.tc : Thread Cert.MlpFwdIdeal.nD Cert.MlpFwdIdeal.τ).loc Cert.MlpFwdIdeal.main_arg1)
      ∧ m' ((c.tc : Thread Cert.FwdRefIdeal.nD Cert.FwdRefIdeal.τ).loc Cert.FwdRefIdeal.main_arg2) = m ((c.tc : Thread Cert.MlpFwdIdeal.nD Cert.MlpFwdIdeal.τ).loc Cert.MlpFwdIdeal.main_arg2)
      ∧ m' ((c.tc : Thread Cert.FwdRefIdeal.nD Cert.FwdRefIdeal.τ).loc Cert.FwdRefIdeal.main_arg3) = m ((c.tc : Thread Cert.MlpFwdIdeal.nD Cert.MlpFwdIdeal.τ).loc Cert.MlpFwdIdeal.main_arg3)
      ∧ m' ((c.tc : Thread Cert.FwdRefIdeal.nD Cert.FwdRefIdeal.τ).loc Cert.FwdRefIdeal.main_arg4) = m ((c.tc : Thread Cert.MlpFwdIdeal.nD Cert.MlpFwdIdeal.τ).loc Cert.MlpFwdIdeal.main_arg4)) →
    ∃ (v0 : (c : Dev Cert.MlpFwdIdeal.nD) → Buf (Elt Ideal) ((c.tc : Thread Cert.MlpFwdIdeal.nD Cert.MlpFwdIdeal.τ).loc Cert.MlpFwdIdeal.main_v10_0)) (v1 : (c : Dev Cert.MlpFwdIdeal.nD) → Buf (Elt Ideal) ((c.tc : Thread Cert.MlpFwdIdeal.nD Cert.MlpFwdIdeal.τ).loc Cert.MlpFwdIdeal.main_v10_1)) (v2 : (c : Dev Cert.MlpFwdIdeal.nD) → Buf (Elt Ideal) ((c.tc : Thread Cert.MlpFwdIdeal.nD Cert.MlpFwdIdeal.τ).loc Cert.MlpFwdIdeal.main_v10_2)) (v3 : (c : Dev Cert.MlpFwdIdeal.nD) → Buf (Elt Ideal) ((c.tc : Thread Cert.MlpFwdIdeal.nD Cert.MlpFwdIdeal.τ).loc Cert.MlpFwdIdeal.main_v10_3)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v10_0) = v0 c
          ∧ r.2.mem ((c.tc : Thread Cert.MlpFwdIdeal.nD Cert.MlpFwdIdeal.τ).loc Cert.MlpFwdIdeal.main_v10_1) = v1 c
          ∧ r.2.mem ((c.tc : Thread Cert.MlpFwdIdeal.nD Cert.MlpFwdIdeal.τ).loc Cert.MlpFwdIdeal.main_v10_2) = v2 c
          ∧ r.2.mem ((c.tc : Thread Cert.MlpFwdIdeal.nD Cert.MlpFwdIdeal.τ).loc Cert.MlpFwdIdeal.main_v10_3) = v3 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v25) = v0 c
          ∧ r.2.mem ((c.tc : Thread Cert.FwdRefIdeal.nD Cert.FwdRefIdeal.τ).loc Cert.FwdRefIdeal.main_v27) = v1 c
          ∧ r.2.mem ((c.tc : Thread Cert.FwdRefIdeal.nD Cert.FwdRefIdeal.τ).loc Cert.FwdRefIdeal.main_v29) = v2 c
          ∧ r.2.mem ((c.tc : Thread Cert.FwdRefIdeal.nD Cert.FwdRefIdeal.τ).loc Cert.FwdRefIdeal.main_v31) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v1) = v0 c
          ∧ r.2.mem ((c.tc : Thread Cert.StepInRefIdeal.nD Cert.StepInRefIdeal.τ).loc Cert.StepInRefIdeal.main_v25) = v1 c
          ∧ r.2.mem ((c.tc : Thread Cert.StepInRefIdeal.nD Cert.StepInRefIdeal.τ).loc Cert.StepInRefIdeal.main_v6) = v2 c
          ∧ r.2.mem ((c.tc : Thread Cert.StepInRefIdeal.nD Cert.StepInRefIdeal.τ).loc Cert.StepInRefIdeal.main_v12) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def Claim : Prop :=
  ∃ (hMixBwd : Cert.MixBwd.Facts) (hMixBwdIdeal : Cert.MixBwdIdeal.Facts) (hMixRefIdeal : Cert.MixRefIdeal.Facts) (hMlpBwd : Cert.MlpBwd.Facts) (hMlpBwdIdeal : Cert.MlpBwdIdeal.Facts) (hMlpRefIdeal : Cert.MlpRefIdeal.Facts) (hInBwd : Cert.InBwd.Facts) (hInBwdIdeal : Cert.InBwdIdeal.Facts) (hInRefIdeal : Cert.InRefIdeal.Facts) (hOutBwd : Cert.OutBwd.Facts) (hOutBwdIdeal : Cert.OutBwdIdeal.Facts) (hOutRefIdeal : Cert.OutRefIdeal.Facts) (hMlpFwd : Cert.MlpFwd.Facts) (hMlpFwdIdeal : Cert.MlpFwdIdeal.Facts) (hFwdRefIdeal : Cert.FwdRefIdeal.Facts) (hStepIn : Cert.StepIn.Facts) (hStepInIdeal : Cert.StepInIdeal.Facts) (hStepInRefIdeal : Cert.StepInRefIdeal.Facts) (hPre_finite_mix : Cert.Pre_finite_mix.Facts) (hPre_finite_mlp : Cert.Pre_finite_mlp.Facts) (hPre_finite_in : Cert.Pre_finite_in.Facts),
    quiescent_MixBwd (hMixBwd := hMixBwd)
    ∧ quiescent_MixBwdIdeal (hMixBwdIdeal := hMixBwdIdeal)
    ∧ quiescent_MixBwdIdeal_pre_finite_mix (hMixBwdIdeal := hMixBwdIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_MlpBwd (hMlpBwd := hMlpBwd)
    ∧ quiescent_MlpBwdIdeal (hMlpBwdIdeal := hMlpBwdIdeal)
    ∧ quiescent_MlpBwdIdeal_pre_finite_mlp (hMlpBwdIdeal := hMlpBwdIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_OutBwd (hOutBwd := hOutBwd)
    ∧ quiescent_OutBwdIdeal (hOutBwdIdeal := hOutBwdIdeal)
    ∧ quiescent_OutRefIdeal (hOutRefIdeal := hOutRefIdeal)
    ∧ quiescent_MlpFwd (hMlpFwd := hMlpFwd)
    ∧ quiescent_MlpFwdIdeal (hMlpFwdIdeal := hMlpFwdIdeal)
    ∧ quiescent_FwdRefIdeal (hFwdRefIdeal := hFwdRefIdeal)
    ∧ quiescent_StepIn (hStepIn := hStepIn)
    ∧ quiescent_StepInIdeal (hStepInIdeal := hStepInIdeal)
    ∧ quiescent_StepInRefIdeal (hStepInRefIdeal := hStepInRefIdeal)
    ∧ preserves_MixBwd_MixBwdIdeal
    ∧ algebraic_MixBwdIdeal_MixRefIdeal_pre_finite_mix (hMixBwdIdeal := hMixBwdIdeal) (hMixRefIdeal := hMixRefIdeal) (hPre_finite_mix := hPre_finite_mix)
    ∧ preserves_MlpBwd_MlpBwdIdeal
    ∧ algebraic_MlpBwdIdeal_MlpRefIdeal_pre_finite_mlp (hMlpBwdIdeal := hMlpBwdIdeal) (hMlpRefIdeal := hMlpRefIdeal) (hPre_finite_mlp := hPre_finite_mlp)
    ∧ preserves_InBwd_InBwdIdeal
    ∧ algebraic_InBwdIdeal_InRefIdeal_pre_finite_in (hInBwdIdeal := hInBwdIdeal) (hInRefIdeal := hInRefIdeal) (hPre_finite_in := hPre_finite_in)
    ∧ preserves_OutBwd_OutBwdIdeal
    ∧ algebraic_OutBwdIdeal_OutRefIdeal (hOutBwdIdeal := hOutBwdIdeal) (hOutRefIdeal := hOutRefIdeal)
    ∧ preserves_MlpFwd_MlpFwdIdeal
    ∧ algebraic_MlpFwdIdeal_FwdRefIdeal (hMlpFwdIdeal := hMlpFwdIdeal) (hFwdRefIdeal := hFwdRefIdeal)
    ∧ preserves_StepIn_StepInIdeal
    ∧ algebraic_StepInIdeal_StepInRefIdeal (hStepInIdeal := hStepInIdeal) (hStepInRefIdeal := hStepInRefIdeal)
-- ==== Pre_finite_in.lean ====
abbrev S4096x1024 : Shape := ⟨2, ![4096, 1024]⟩
abbrev S4096x768 : Shape := ⟨2, ![4096, 768]⟩
abbrev S4096x512 : Shape := ⟨2, ![4096, 512]⟩
abbrev S2x8x1024 : Shape := ⟨3, ![2, 8, 1024]⟩
abbrev S1x1024 : Shape := ⟨2, ![1, 1024]⟩
abbrev S1024x2816 : Shape := ⟨2, ![1024, 2816]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S2x8x1024 : S_.BroadcastsInDim S2x8x1024 (![] : Fin 0 → Fin S2x8x1024.rank)
  reducesTo_S2x8x1024_S_d0_1_2 : S2x8x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part3 {F : FTy → Type} [FloatOps F] (main_v48 : IVec S_ 1) (main_v51 : IVec S1024x2816 1) (main_c_17 : IVec S_ 1) : IVec S_ 1 :=
  let main_v52 : IVec S_ 1 := (fun x v => Host.reduce IntOp.andi x v reducesTo_S1024x2816_S_d0_1 h_S_) main_v51 main_c_17
  let main_v53 : IVec S_ 1 := andi main_v48 main_v52
  main_v53

def fn_part2 {F : FTy → Type} [FloatOps F] (main_arg7 : FVec F S2x8x1024 .f32) (main_arg8 : FVec F S1x1024 .f32) (main_arg9 : FVec F S1024x2816 .f32) (main_v4 : IVec S_ 1) (main_v9 : IVec S_ 1) (main_v14 : IVec S_ 1) (main_v19 : IVec S_ 1) (main_v24 : IVec S_ 1) (main_v33 : IVec S_ 1) : IVec S_ 1 :=
  let main_v34 : IVec S_ 1 := andi main_v33 main_v4
  let main_v35 : IVec S_ 1 := andi main_v34 main_v9
  let main_v36 : IVec S_ 1 := andi main_v35 main_v14
  let main_v37 : IVec S_ 1 := andi main_v36 main_v19
  let main_v38 : IVec S_ 1 := andi main_v37 main_v24
  let main_v39 : FVec F S2x8x1024 .f32 := Host.absf main_arg7
  let main_cst_12 : FVec F S_ .f32 := constant S_ .f32 0x7F7FFFFF#32
  let main_v40 : FVec F S2x8x1024 .f32 := broadcastInDim S2x8x1024 ![] bcast_S_S2x8x1024 main_cst_12
  let main_v41 : IVec S2x8x1024 1 := cmpf .ole main_v39 main_v40
  let main_c_13 : IVec S_ 1 := constantI S_ 1 1#1
  let main_v42 : IVec S_ 1 := (fun x v => Host.reduce IntOp.andi x v reducesTo_S2x8x1024_S_d0_1_2 h_S_) main_v41 main_c_13
  let main_v43 : IVec S_ 1 := andi main_v38 main_v42
  let main_v44 : FVec F S1x1024 .f32 := Host.absf main_arg8
  let main_cst_14 : FVec F S_ .f32 := constant S_ .f32 0x7F7FFFFF#32
  let main_v45 : FVec F S1x1024 .f32 := broadcastInDim S1x1024 ![] bcast_S_S1x1024 main_cst_14
  let main_v46 : IVec S1x1024 1 := cmpf .ole main_v44 main_v45
  let main_c_15 : IVec S_ 1 := constantI S_ 1 1#1
  let main_v47 : IVec S_ 1 := (fun x v => Host.reduce IntOp.andi x v reducesTo_S1x1024_S_d0_1 h_S_) main_v46 main_c_15
  let main_v48 : IVec S_ 1 := andi main_v43 main_v47
  let main_v49 : FVec F S1024x2816 .f32 := Host.absf main_arg9
  let main_cst_16 : FVec F S_ .f32 := constant S_ .f32 0x7F7FFFFF#32
  let main_v50 : FVec F S1024x2816 .f32 := broadcastInDim S1024x2816 ![] bcast_S_S1024x2816 main_cst_16
  let main_v51 : IVec S1024x2816 1 := cmpf .ole main_v49 main_v50
  let main_c_17 : IVec S_ 1 := constantI S_ 1 1#1
  fn_part3 (F := F) main_v48 main_v51 main_c_17

def fn_part1 {F : FTy → Type} [FloatOps F] (main_arg0 : FVec F S4096x1024 .f32) (main_arg1 : FVec F S4096x1024 .f32) (main_arg6 : FVec F S4096x512 .bf16) (main_arg7 : FVec F S2x8x1024 .f32) (main_arg8 : FVec F S1x1024 .f32) (main_arg9 : FVec F S1024x2816 .f32) (main_v4 : IVec S_ 1) (main_v9 : IVec S_ 1) (main_v14 : IVec S_ 1) (main_v16 : FVec F S4096x512 .f32) (main_cst_4 : FVec F S_ .f32) : IVec S_ 1 :=
  let main_v17 : FVec F S4096x512 .f32 := broadcastInDim S4096x512 ![] bcast_S_S4096x512 main_cst_4
  let main_v18 : IVec S4096x512 1 := cmpf .ole main_v16 main_v17
  let main_c_5 : IVec S_ 1 := constantI S_ 1 1#1
  let main_v19 : IVec S_ 1 := (fun x v => Host.reduce IntOp.andi x v reducesTo_S4096x512_S_d0_1 h_S_) main_v18 main_c_5
  let main_v20 : FVec F S4096x512 .f32 := (extf .f32 · bitsLt_bf16_f32) main_arg6
  let main_v21 : FVec F S4096x512 .f32 := Host.absf main_v20
  let main_cst_6 : FVec F S_ .f32 := constant S_ .f32 0x7F7FFFFF#32
  let main_v22 : FVec F S4096x512 .f32 := broadcastInDim S4096x512 ![] bcast_S_S4096x512 main_cst_6
  let main_v23 : IVec S4096x512 1 := cmpf .ole main_v21 main_v22
  let main_c_7 : IVec S_ 1 := constantI S_ 1 1#1
  let main_v24 : IVec S_ 1 := (fun x v => Host.reduce IntOp.andi x v reducesTo_S4096x512_S_d0_1 h_S_) main_v23 main_c_7
  let main_v25 : FVec F S4096x1024 .f32 := Host.absf main_arg0
  let main_cst_8 : FVec F S_ .f32 := constant S_ .f32 0x7F7FFFFF#32
  let main_v26 : FVec F S4096x1024 .f32 := broadcastInDim S4096x1024 ![] bcast_S_S4096x1024 main_cst_8
  let main_v27 : IVec S4096x1024 1 := cmpf .ole main_v25 main_v26
  let main_c_9 : IVec S_ 1 := constantI S_ 1 1#1
  let main_v28 : IVec S_ 1 := (fun x v => Host.reduce IntOp.andi x v reducesTo_S4096x1024_S_d0_1 h_S_) main_v27 main_c_9
  let main_v29 : FVec F S4096x1024 .f32 := Host.absf main_arg1
  let main_cst_10 : FVec F S_ .f32 := constant S_ .f32 0x7F7FFFFF#32
  let main_v30 : FVec F S4096x1024 .f32 := broadcastInDim S4096x1024 ![] bcast_S_S4096x1024 main_cst_10
  let main_v31 : IVec S4096x1024 1 := cmpf .ole main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_v4 main_v9 main_v14 main_v19 main_v24 main_v33

def fn {F : FTy → Type} [FloatOps F] (main_arg0 : FVec F S4096x1024 .f32) (main_arg1 : FVec F S4096x1024 .f32) (main_arg2 : FVec F S4096x768 .bf16) (main_arg3 : FVec F S4096x512 .bf16) (main_arg4 : FVec F S4096x512 .bf16) (main_arg5 : FVec F S4096x512 .bf16) (main_arg6 : FVec F S4096x512 .bf16) (main_arg7 : FVec F S2x8x1024 .f32) (main_arg8 : FVec F S1x1024 .f32) (main_arg9 : FVec F S1024x2816 .f32) : IVec S_ 1 :=
  let main_v0 : FVec F S4096x768 .f32 := (extf .f32 · bitsLt_bf16_f32) main_arg2
  let main_v1 : FVec F S4096x768 .f32 := Host.absf main_v0
  let main_cst : FVec F S_ .f32 := constant S_ .f32 0x7F7FFFFF#32
  let main_v2 : FVec F S4096x768 .f32 := broadcastInDim S4096x768 ![] bcast_S_S4096x768 main_cst
  let main_v3 : IVec S4096x768 1 := cmpf .ole main_v1 main_v2
  let main_c : IVec S_ 1 := constantI S_ 1 1#1
  let main_v4 : IVec S_ 1 := (fun x v => Host.reduce IntOp.andi x v reducesTo_S4096x768_S_d0_1 h_S_) main_v3 main_c
  let main_v5 : FVec F S4096x512 .f32 := (extf .f32 · bitsLt_bf16_f32) main_arg3
  let main_v6 : FVec F S4096x512 .f32 := Host.absf main_v5
  let main_cst_0 : FVec F S_ .f32 := constant S_ .f32 0x7F7FFFFF#32
  let main_v7 : FVec F S4096x512 .f32 := broadcastInDim S4096x512 ![] bcast_S_S4096x512 main_cst_0
  let main_v8 : IVec S4096x512 1 := cmpf .ole main_v6 main_v7
  let main_c_1 : IVec S_ 1 := constantI S_ 1 1#1
  let main_v9 : IVec S_ 1 := (fun x v => Host.reduce IntOp.andi x v reducesTo_S4096x512_S_d0_1 h_S_) main_v8 main_c_1
  let main_v10 : FVec F S4096x512 .f32 := (extf .f32 · bitsLt_bf16_f32) main_arg4
  let main_v11 : FVec F S4096x512 .f32 := Host.absf main_v10
  let main_cst_2 : FVec F S_ .f32 := constant S_ .f32 0x7F7FFFFF#32
  let main_v12 : FVec F S4096x512 .f32 := broadcastInDim S4096x512 ![] bcast_S_S4096x512 main_cst_2
  let main_v13 : IVec S4096x512 1 := cmpf .ole main_v11 main_v12
  let main_c_3 : IVec S_ 1 := constantI S_ 1 1#1
  let main_v14 : IVec S_ 1 := (fun x v => Host.reduce IntOp.andi x v reducesTo_S4096x512_S_d0_1 h_S_) main_v13 main_c_3
  let main_v15 : FVec F S4096x512 .f32 := (extf .f32 · bitsLt_bf16_f32) main_arg5
  let main_v16 : FVec F S4096x512 .f32 := Host.absf main_v15
  let main_cst_4 : FVec F S_ .f32 := constant S_ .f32 0x7F7FFFFF#32
  fn_part1 (F := F) main_arg0 main_arg1 main_arg6 main_arg7 main_arg8 main_arg9 main_v4 main_v9 main_v14 main_v16 main_cst_4
-- ==== Pre_finite_mix.lean ====
abbrev S4096x512 : Shape := ⟨2, ![4096, 512]⟩
abbrev S4096x1024 : Shape := ⟨2, ![4096, 1024]⟩
abbrev S2x8x1024 : Shape := ⟨3, ![2, 8, 1024]⟩
abbrev S1x1024 : Shape := ⟨2, ![1, 1024]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2x8x1024 : S_.BroadcastsInDim S2x8x1024 (![] : Fin 0 → Fin S2x8x1024.rank)
  reducesTo_S2x8x1024_S_d0_1_2 : S2x8x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1x1024 .f32) (main_arg5 : FVec F S1024x1024 .f32) (main_v13 : IVec S_ 1) (main_v16 : IVec S2x8x1024 1) : IVec S_ 1 :=
  let main_c_5 : IVec S_ 1 := constantI S_ 1 1#1
  let main_v17 : IVec S_ 1 := (fun x v => Host.reduce IntOp.andi x v reducesTo_S2x8x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F7FFFFF#32
  let main_v20 : FVec F S1x1024 .f32 := broadcastInDim S1x1024 ![] bcast_S_S1x1024 main_cst_6
  let main_v21 : IVec S1x1024 1 := cmpf .ole main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F7FFFFF#32
  let main_v25 : FVec F S1024x1024 .f32 := broadcastInDim S1024x1024 ![] bcast_S_S1024x1024 main_cst_8
  let main_v26 : IVec S1024x1024 1 := cmpf .ole main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S4096x1024 .f32) (main_arg3 : FVec F S2x8x1024 .f32) (main_arg4 : FVec F S1x1024 .f32) (main_arg5 : FVec F S1024x1024 .f32) : IVec S_ 1 :=
  let main_v0 : FVec F S4096x512 .f32 := Host.absf main_arg0
  let main_cst : FVec F S_ .f32 := constant S_ .f32 0x7F7FFFFF#32
  let main_v1 : FVec F S4096x512 .f32 := broadcastInDim S4096x512 ![] bcast_S_S4096x512 main_cst
  let main_v2 : IVec S4096x512 1 := cmpf .ole main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F7FFFFF#32
  let main_v5 : FVec F S4096x512 .f32 := broadcastInDim S4096x512 ![] bcast_S_S4096x512 main_cst_0
  let main_v6 : IVec S4096x512 1 := cmpf .ole main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x1024 .f32 := Host.absf main_arg2
  let main_cst_2 : FVec F S_ .f32 := constant S_ .f32 0x7F7FFFFF#32
  let main_v10 : FVec F S4096x1024 .f32 := broadcastInDim S4096x1024 ![] bcast_S_S4096x1024 main_cst_2
  let main_v11 : IVec S4096x1024 1 := cmpf .ole main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2x8x1024 .f32 := Host.absf main_arg3
  let main_cst_4 : FVec F S_ .f32 := constant S_ .f32 0x7F7FFFFF#32
  let main_v15 : FVec F S2x8x1024 .f32 := broadcastInDim S2x8x1024 ![] bcast_S_S2x8x1024 main_cst_4
  let main_v16 : IVec S2x8x1024 1 := cmpf .ole main_v14 main_v15
  fn_part1 (F := F) main_arg4 main_arg5 main_v13 main_v16
-- ==== Pre_finite_mlp.lean ====
abbrev S4096x1024 : Shape := ⟨2, ![4096, 1024]⟩
abbrev S2x8x1024 : Shape := ⟨3, ![2, 8, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x8x1024 : S_.BroadcastsInDim S2x8x1024 (![] : Fin 0 → Fin S2x8x1024.rank)
  reducesTo_S2x8x1024_S_d0_1_2 : S2x8x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1x1024 .f32) (main_arg5 : FVec F S1024x4096 .f32) (main_arg6 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F7FFFFF#32
  let main_v20 : FVec F S1x1024 .f32 := broadcastInDim S1x1024 ![] bcast_S_S1x1024 main_cst_6
  let main_v21 : IVec S1x1024 1 := cmpf .ole main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x4096 .f32 := Host.absf main_arg5
  let main_cst_8 : FVec F S_ .f32 := constant S_ .f32 0x7F7FFFFF#32
  let main_v25 : FVec F S1024x4096 .f32 := broadcastInDim S1024x4096 ![] bcast_S_S1024x4096 main_cst_8
  let main_v26 : IVec S1024x4096 1 := cmpf .ole main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096x1024 .f32 := Host.absf main_arg6
  let main_cst_10 : FVec F S_ .f32 := constant S_ .f32 0x7F7FFFFF#32
  let main_v30 : FVec F S4096x1024 .f32 := broadcastInDim S4096x1024 ![] bcast_S_S4096x1024 main_cst_10
  let main_v31 : IVec S4096x1024 1 := cmpf .ole main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S2x8x1024 .f32) (main_arg3 : FVec F S1x1024 .f32) (main_arg4 : FVec F S1x1024 .f32) (main_arg5 : FVec F S1024x4096 .f32) (main_arg6 : FVec F S4096x1024 .f32) : IVec S_ 1 :=
  let main_v0 : FVec F S4096x1024 .f32 := Host.absf main_arg0
  let main_cst : FVec F S_ .f32 := constant S_ .f32 0x7F7FFFFF#32
  let main_v1 : FVec F S4096x1024 .f32 := broadcastInDim S4096x1024 ![] bcast_S_S4096x1024 main_cst
  let main_v2 : IVec S4096x1024 1 := cmpf .ole main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F7FFFFF#32
  let main_v5 : FVec F S4096x1024 .f32 := broadcastInDim S4096x1024 ![] bcast_S_S4096x1024 main_cst_0
  let main_v6 : IVec S4096x1024 1 := cmpf .ole main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2x8x1024 .f32 := Host.absf main_arg2
  let main_cst_2 : FVec F S_ .f32 := constant S_ .f32 0x7F7FFFFF#32
  let main_v10 : FVec F S2x8x1024 .f32 := broadcastInDim S2x8x1024 ![] bcast_S_S2x8x1024 main_cst_2
  let main_v11 : IVec S2x8x1024 1 := cmpf .ole main_v9 main_v10
  let main_c_3 : IVec S_ 1 := constantI S_ 1 1#1
  let main_v12 : IVec S_ 1 := (fun x v => Host.reduce IntOp.andi x v reducesTo_S2x8x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F7FFFFF#32
  let main_v15 : FVec F S1x1024 .f32 := broadcastInDim S1x1024 ![] bcast_S_S1x1024 main_cst_4
  let main_v16 : IVec S1x1024 1 := cmpf .ole main_v14 main_v15
  fn_part1 (F := F) main_arg4 main_arg5 main_arg6 main_v13 main_v16
-- ==== MixBwd.lean ====
abbrev S4096x512 : Shape := ⟨2, ![4096, 512]⟩
abbrev S4096x1024 : Shape := ⟨2, ![4096, 1024]⟩
abbrev S2x8x1024 : Shape := ⟨3, ![2, 8, 1024]⟩
abbrev S1x1024 : Shape := ⟨2, ![1, 1024]⟩
abbrev S1024x1024 : Shape := ⟨2, ![1024, 1024]⟩
abbrev S512x1024 : Shape := ⟨2, ![512, 1024]⟩
abbrev S1x8x1024 : Shape := ⟨3, ![1, 8, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S8x1024 : Shape := ⟨2, ![8, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2x8x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S4096x1024, .bf16⟩
  | .hbm, ⟨12, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S1x8x1024, .f32⟩
  | .local _ .vmem, ⟨15, _⟩ => ⟨S1x8x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S4096x512 : Shape := ⟨2, ![4096, 512]⟩
abbrev S4096x1024 : Shape := ⟨2, ![4096, 1024]⟩
abbrev S2x8x1024 : Shape := ⟨3, ![2, 8, 1024]⟩
abbrev S1x1024 : Shape := ⟨2, ![1, 1024]⟩
abbrev S1024x1024 : Shape := ⟨2, ![1024, 1024]⟩
abbrev S2x2048x512 : Shape := ⟨3, ![2, 2048, 512]⟩
abbrev S2x2048x1024 : Shape := ⟨3, ![2, 2048, 1024]⟩
abbrev S2x1x1024 : Shape := ⟨3, ![2, 1, 1024]⟩
abbrev S1x1x1024 : Shape := ⟨3, ![1, 1, 1024]⟩
abbrev S_ : Shape := ⟨0, ![]⟩
abbrev S2x2048 : Shape := ⟨2, ![2, 2048]⟩
abbrev S2x2048x1 : Shape := ⟨3, ![2, 2048, 1]⟩
abbrev S2x1024 : Shape := ⟨2, ![2, 1024]⟩
abbrev S2x6x1024 : Shape := ⟨3, ![2, 6, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2x8x1024, .f32⟩
  | .hbm, ⟨4, _⟩ => ⟨S1x1024, .f32⟩
  | .hbm, ⟨5, _⟩ => ⟨S1024x1024, .f32⟩
  | .hbm, ⟨6, _⟩ => ⟨S2x2048x512, .f32⟩
  | .hbm, ⟨7, _⟩ => ⟨S2x2048x512, .f32⟩
  | .hbm, ⟨8, _⟩ => ⟨S2x2048x1024, .f32⟩
  | .hbm, ⟨9, _⟩ => ⟨S2x2048x1024, .f32⟩
  | .hbm, ⟨10, _⟩ => ⟨S2x1x1024, .f32⟩
  | .hbm, ⟨11, _⟩ => ⟨S1x1x1024, .f32⟩
  | .hbm, ⟨12, _⟩ => ⟨S2x1x1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S2x2048x1024, .f32⟩
  | .hbm, ⟨42, _⟩ => ⟨S_, .f32⟩
  | .hbm, ⟨43, _⟩ => ⟨S2x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S2x2048x1024, .f32⟩
  | .hbm, ⟨52, _⟩ => ⟨S2x2048x1024, .f32⟩
  | .hbm, ⟨53, _⟩ => ⟨S2x2048x1, .f32⟩
  | .hbm, ⟨54, _⟩ => ⟨S_, .f32⟩
  | .hbm, ⟨55, _⟩ => ⟨S2x2048x1, .f32⟩
  | .hbm, ⟨56, _⟩ => ⟨S2x2048x1, .f32⟩
  | .hbm, ⟨57, _⟩ => ⟨S_, .f32⟩
  | .hbm, ⟨58, _⟩ => ⟨S2x2048, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x512, .f32⟩
  | .hbm, ⟨66, _⟩ => ⟨S2x2048x512, .f32⟩
  | .hbm, ⟨67, _⟩ => ⟨S_, .f32⟩
  | .hbm, ⟨68, _⟩ => ⟨S2x6x1024, .f32⟩
  | .hbm, ⟨69, _⟩ => ⟨S2x8x1024, .f32⟩
  | .hbm, ⟨70, _⟩ => ⟨S4096x512, .f32⟩
  | .hbm, ⟨71, _⟩ => ⟨S4096x512, .f32⟩
  | .hbm, ⟨72, _⟩ => ⟨S4096x1024, .f32⟩
  | .hbm, ⟨73, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== MlpBwd.lean ====
abbrev S4096x1024 : Shape := ⟨2, ![4096, 1024]⟩
abbrev S2x8x1024 : Shape := ⟨3, ![2, 8, 1024]⟩
abbrev S1x1024 : Shape := ⟨2, ![1, 1024]⟩
abbrev S1024x4096 : Shape := ⟨2, ![1024, 4096]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x4096 : Shape := ⟨3, ![2, 2048, 4096]⟩
abbrev S4096x4096 : Shape := ⟨2, ![4096, 4096]⟩
abbrev S2x512x8x512 : Shape := ⟨4, ![2, 512, 8, 512]⟩
abbrev S2x8x512x512 : Shape := ⟨4, ![2, 8, 512, 512]⟩
abbrev S1x8x512x512 : Shape := ⟨4, ![1, 8, 512, 512]⟩
abbrev S8x512x512 : Shape := ⟨3, ![8, 512, 512]⟩
abbrev S4096x640 : Shape := ⟨2, ![4096, 640]⟩
abbrev S4096x384 : Shape := ⟨2, ![4096, 384]⟩
abbrev S256x1024 : Shape := ⟨2, ![256, 1024]⟩
abbrev S256x4096 : Shape := ⟨2, ![256, 4096]⟩
abbrev S1x8x1024 : Shape := ⟨3, ![1, 8, 1024]⟩
abbrev S18 : Shape := ⟨1, ![18]⟩
abbrev S1 : Shape := ⟨1, ![1]⟩
abbrev S512x512 : Shape := ⟨2, ![512, 512]⟩
abbrev S1x512x512 : Shape := ⟨3, ![1, 512, 512]⟩
abbrev S256 : Shape := ⟨1, ![256]⟩
abbrev S256x1 : Shape := ⟨2, ![256, 1]⟩
abbrev S1024 : Shape := ⟨1, ![1024]⟩
abbrev S1x1 : Shape := ⟨2, ![1, 1]⟩
abbrev S8x1024 : Shape := ⟨2, ![8, 1024]⟩

abbrev nBuf : Space → Nat
  | .hbm => 54
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x8x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S1024x4096, .bf16⟩
  | .hbm, ⟨41, _⟩ => ⟨S2x512x8x512, .bf16⟩
  | .hbm, ⟨42, _⟩ => ⟨S2x8x512x512, .bf16⟩
  | .hbm, ⟨43, _⟩ => ⟨S4096x1024, .bf16⟩
  | .hbm, ⟨44, _⟩ => ⟨S1x8x512x512, .bf16⟩
  | .hbm, ⟨45, _⟩ => ⟨S8x512x512, .bf16⟩
  | .hbm, ⟨46, _⟩ => ⟨S1x8x512x512, .bf16⟩
  | .hbm, ⟨47, _⟩ => ⟨S8x512x512, .bf16⟩
  | .hbm, ⟨48, _⟩ => ⟨S4096x640, .bf16⟩
  | .hbm, ⟨49, _⟩ => ⟨S4096x384, .bf16⟩
  | .hbm, ⟨50, _⟩ => ⟨S4096x1024, .f32⟩
  | .hbm, ⟨51, _⟩ => ⟨S4096x4096, .bf16⟩
  | .hbm, ⟨52, _⟩ => ⟨S4096x1024, .bf16⟩
  | .hbm, ⟨53, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S1x8x1024, .f32⟩
  | .local _ .vmem, ⟨19, _⟩ => ⟨S1x8x1024, .f32⟩
  | .local _ .vmem, ⟨20, _⟩ => ⟨S4096x1024, .bf16⟩
  | .local _ .vmem, ⟨21, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpRefIdeal.lean ====
abbrev S4096x1024 : Shape := ⟨2, ![4096, 1024]⟩
abbrev S2x8x1024 : Shape := ⟨3, ![2, 8, 1024]⟩
abbrev S1x1024 : Shape := ⟨2, ![1, 1024]⟩
abbrev S1024x4096 : Shape := ⟨2, ![1024, 4096]⟩
abbrev S2x1x1024 : Shape := ⟨3, ![2, 1, 1024]⟩
abbrev S1x1x1024 : Shape := ⟨3, ![1, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S2 : Shape := ⟨1, ![2]⟩
abbrev S2x1024 : Shape := ⟨2, ![2, 1024]⟩
abbrev S2x1x1 : Shape := ⟨3, ![2, 1, 1]⟩
abbrev S2x2x1024 : Shape := ⟨3, ![2, 2, 1024]⟩
abbrev S4096x4096 : Shape := ⟨2, ![4096, 4096]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096x1024, .f32⟩
  | 2 => ⟨S2x8x1024, .f32⟩
  | 3 => ⟨S1x1024, .f32⟩
  | 4 => ⟨S1x1024, .f32⟩
  | 5 => ⟨S1024x4096, .f32⟩
  | 6 => ⟨S4096x1024, .f32⟩
  | 7 => ⟨S2x1x1024, .f32⟩
  | 8 => ⟨S2x1x1024, .f32⟩
  | 9 => ⟨S2x1x1024, .f32⟩
  | 10 => ⟨S1x1x1024, .f32⟩
  | 11 => ⟨S2x1x1024, .f32⟩
  | 12 => ⟨S1x1x1024, .f32⟩
  | 13 => ⟨S2x1x1024, .f32⟩
  | 14 => ⟨S2x2048x1024, .f32⟩
  | 15 => ⟨S2x2048x1024, .f32⟩
  | 16 => ⟨S_, .f32⟩
  | 17 => ⟨S2x2048, .f32⟩
  | 18 => ⟨S2x2048x1, .f32⟩
  | 19 => ⟨S_, .f32⟩
  | 20 => ⟨S2x2048x1, .f32⟩
  | 21 => ⟨S2x2048x1, .f32⟩
  | 22 => ⟨S_, .f32⟩
  | 23 => ⟨S2x2048x1, .f32⟩
  | 24 => ⟨S2x2048x1, .f32⟩
  | 25 => ⟨S2x2048x1, .f32⟩
  | 26 => ⟨S2x2048x1, .f32⟩
  | 27 => ⟨S_, .f32⟩
  | 28 => ⟨S2x2048x1, .f32⟩
  | 29 => ⟨S2x2048x1, .f32⟩
  | 30 => ⟨S2x2048x1024, .f32⟩
  | 31 => ⟨S2x2048x1024, .f32⟩
  | 32 => ⟨S2x2048x1024, .f32⟩
  | 33 => ⟨S2x2048x1024, .f32⟩
  | 34 => ⟨S_, .f32⟩
  | 35 => ⟨S2x1x1024, .f32⟩
  | 36 => ⟨S2x1x1024, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x4096, .f32⟩
  | 42 => ⟨S_, .f32⟩
  | 43 => ⟨S2x2048x4096, .f32⟩
  | 44 => ⟨S2x2048x4096, .f32⟩
  | 45 => ⟨S_, .f32⟩
  | 46 => ⟨S2x2048x4096, .f32⟩
  | 47 => ⟨S2x2048x4096, .i1⟩
  | 48 => ⟨S_, .f32⟩
  | 49 => ⟨S2x2048x4096, .f32⟩
  | 50 => ⟨S2x2048x4096, .f32⟩
  | 51 => ⟨S_, .f32⟩
  | 52 => ⟨S2x2048x4096, .f32⟩
  | 53 => ⟨S2x2048x4096, .f32⟩
  | 54 => ⟨S2x2048x1024, .f32⟩
  | 55 => ⟨S2x2048x1024, .f32⟩
  | 56 => ⟨S2x2048x1024, .f32⟩
  | 57 => ⟨S_, .f32⟩
  | 58 => ⟨S2x2048, .f32⟩
  | 59 => ⟨S2x2048x1, .f32⟩
  | 60 => ⟨S_, .f32⟩
  | 61 => ⟨S2x2048x1, .f32⟩
  | 62 => ⟨S2x2048x1, .f32⟩
  | 63 => ⟨S_, .f32⟩
  | 64 => ⟨S2x2048x1, .f32⟩
  | 65 => ⟨S2x2048x1, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S_, .f32⟩
  | 82 => ⟨S2x2048x1024, .f32⟩
  | 83 => ⟨S2x2048x1024, .f32⟩
  | 84 => ⟨S_, .f32⟩
  | 85 => ⟨S2x2048, .f32⟩
  | 86 => ⟨S_, .f32⟩
  | 87 => ⟨S2x2048, .f32⟩
  | 88 => ⟨S2x2048, .f32⟩
  | 89 => ⟨S_, .f32⟩
  | 90 => ⟨S2, .f32⟩
  | 91 => ⟨S_, .f32⟩
  | 92 => ⟨S2, .f32⟩
  | 93 => ⟨S2, .f32⟩
  | 94 => ⟨S_, .f32⟩
  | 95 => ⟨S2, .f32⟩
  | 96 => ⟨S_, .f32⟩
  | 97 => ⟨S2, .f32⟩
  | 98 => ⟨S2, .f32⟩
  | 99 => ⟨S2x2048, .f32⟩
  | 100 => ⟨S_, .f32⟩
  | 101 => ⟨S2x2048, .f32⟩
  | 102 => ⟨S2x2048, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S_, .f32⟩
  | 109 => ⟨S2x1024, .f32⟩
  | 110 => ⟨S2x1x1024, .f32⟩
  | 111 => ⟨S2x2048x1024, .f32⟩
  | 112 => ⟨S_, .f32⟩
  | 113 => ⟨S2x1024, .f32⟩
  | 114 => ⟨S2x1x1024, .f32⟩
  | 115 => ⟨S2x2048x1024, .f32⟩
  | 116 => ⟨S2x2048x1024, .f32⟩
  | 117 => ⟨S2x2048x1024, .f32⟩
  | 118 => ⟨S_, .f32⟩
  | 119 => ⟨S2x2048, .f32⟩
  | 120 => ⟨S2x2048x1, .f32⟩
  | 121 => ⟨S2x2048x1024, .f32⟩
  | 122 => ⟨S2x2048x1024, .f32⟩
  | 123 => ⟨S2x2048x1, .f32⟩
  | 124 => ⟨S_, .f32⟩
  | 125 => ⟨S2x2048x1, .f32⟩
  | 126 => ⟨S2x2048x1, .f32⟩
  | 127 => ⟨S_, .f32⟩
  | _ => ⟨S4096x1024, .f32⟩

abbrev hbmTy0_1 (i : Nat) : BufTy := match i % 128 with
  | 0 => ⟨S2x2048, .f32⟩
  | 1 => ⟨S2x2048x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S2x2048x4096, .f32⟩
  | 7 => ⟨S2x2048x4096, .f32⟩
  | 8 => ⟨S_, .f32⟩
  | 9 => ⟨S2x2048x4096, .f32⟩
  | 10 => ⟨S2x2048x4096, .f32⟩
  | 11 => ⟨S2x2048x1024, .f32⟩
  | 12 => ⟨S_, .f32⟩
  | 13 => ⟨S2x1024, .f32⟩
  | 14 => ⟨S2x1x1024, .f32⟩
  | 15 => ⟨S2x2048x1024, .f32⟩
  | 16 => ⟨S_, .f32⟩
  | 17 => ⟨S2x1024, .f32⟩
  | 18 => ⟨S2x1x1024, .f32⟩
  | 19 => ⟨S2x2048x1024, .f32⟩
  | 20 => ⟨S2x2048x1024, .f32⟩
  | 21 => ⟨S2x2048x1024, .f32⟩
  | 22 => ⟨S_, .f32⟩
  | 23 => ⟨S2x1024, .f32⟩
  | 24 => ⟨S2x1x1024, .f32⟩
  | 25 => ⟨S2x2048x1024, .f32⟩
  | 26 => ⟨S2x2048x1024, .f32⟩
  | 27 => ⟨S2x2048x1024, .f32⟩
  | 28 => ⟨S_, .f32⟩
  | 29 => ⟨S2x2048, .f32⟩
  | 30 => ⟨S2x2048x1, .f32⟩
  | 31 => ⟨S2x2048x1024, .f32⟩
  | 32 => ⟨S2x2048x1024, .f32⟩
  | 33 => ⟨S2x2048x1, .f32⟩
  | 34 => ⟨S_, .f32⟩
  | 35 => ⟨S2x2048x1, .f32⟩
  | 36 => ⟨S2x2048x1, .f32⟩
  | 37 => ⟨S_, .f32⟩
  | 38 => ⟨S2x2048, .f32⟩
  | 39 => ⟨S2x2048x1024, .f32⟩
  | 40 => ⟨S2x2048x1024, .f32⟩
  | 41 => ⟨S2x2048x1024, .f32⟩
  | 42 => ⟨S2x2048x1024, .f32⟩
  | 43 => ⟨S2x2048x1024, .f32⟩
  | 44 => ⟨S2x1x1, .f32⟩
  | 45 => ⟨S2x1x1024, .f32⟩
  | 46 => ⟨S_, .f32⟩
  | 47 => ⟨S2x2x1024, .f32⟩
  | 48 => ⟨S2x8x1024, .f32⟩
  | 49 => ⟨S2x2048x1024, .f32⟩
  | 50 => ⟨S4096x1024, .f32⟩
  | 51 => ⟨S4096x4096, .f32⟩
  | 52 => ⟨S4096x4096, .bf16⟩
  | 53 => ⟨S4096x1024, .f32⟩
  | 54 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_22 : Ref sig .tc := ⟨.hbm, 124, rfl⟩
abbrev main_v92 : Ref sig .tc := ⟨.hbm, 125, rfl⟩
abbrev main_v93 : Ref sig .tc := ⟨.hbm, 126, rfl⟩
abbrev main_cst_23 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_25 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_26 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_27 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_28 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_29 : Ref sig .tc := ⟨.hbm, 162, rfl⟩
abbrev main_v123 : Ref sig .tc := ⟨.hbm, 163, rfl⟩
abbrev main_v124 : Ref sig .tc := ⟨.hbm, 164, rfl⟩
abbrev main_cst_30 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_31 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩

abbrev nD : Nat := 1
abbrev τ : Topo := Topo.v7x

variable {F : FTy → Type} [FloatOps F]
-- ==== InBwd.lean ====
abbrev S4096x1024 : Shape := ⟨2, ![4096, 1024]⟩
abbrev S4096x768 : Shape := ⟨2, ![4096, 768]⟩
abbrev S4096x512 : Shape := ⟨2, ![4096, 512]⟩
abbrev S2x8x1024 : Shape := ⟨3, ![2, 8, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x768 : Shape := ⟨2, ![512, 768]⟩
abbrev S512x512 : Shape := ⟨2, ![512, 512]⟩
abbrev S1x8x1024 : Shape := ⟨3, ![1, 8, 1024]⟩
abbrev S512x2816 : Shape := ⟨2, ![512, 2816]⟩
abbrev S1x1x1024 : Shape := ⟨3, ![1, 1, 1024]⟩
abbrev S768x1024 : Shape := ⟨2, ![768, 1024]⟩
abbrev S512 : Shape := ⟨1, ![512]⟩
abbrev S512x1 : Shape := ⟨2, ![512, 1]⟩
abbrev S1024 : Shape := ⟨1, ![1024]⟩
abbrev S8x1024 : Shape := ⟨2, ![8, 1024]⟩

abbrev nBuf : Space → Nat
  | .hbm => 15
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x768, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S2x8x1024, .f32⟩
  | .hbm, ⟨8, _⟩ => ⟨S1x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S4096x1024, .f32⟩
  | .hbm, ⟨13, _⟩ => ⟨S4096x2816, .bf16⟩
  | .hbm, ⟨14, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x768, .bf16⟩
  | .local _ .vmem, ⟨5, _⟩ => ⟨S512x768, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x8x1024, .f32⟩
  | .local _ .vmem, ⟨15, _⟩ => ⟨S1x8x1024, .f32⟩
  | .local _ .vmem, ⟨16, _⟩ => ⟨S1x1024, .f32⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | .local _ .vmem, ⟨21, _⟩ => ⟨S512x2816, .bf16⟩
  | .local _ .vmem, ⟨22, _⟩ => ⟨S1x8x1024, .f32⟩
  | .local _ .vmem, ⟨23, _⟩ => ⟨S1x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InRefIdeal.lean ====
abbrev S4096x1024 : Shape := ⟨2, ![4096, 1024]⟩
abbrev S4096x768 : Shape := ⟨2, ![4096, 768]⟩
abbrev S4096x512 : Shape := ⟨2, ![4096, 512]⟩
abbrev S2x8x1024 : Shape := ⟨3, ![2, 8, 1024]⟩
abbrev S1x1024 : Shape := ⟨2, ![1, 1024]⟩
abbrev S1024x2816 : Shape := ⟨2, ![1024, 2816]⟩
abbrev S2x1x1024 : Shape := ⟨3, ![2, 1, 1024]⟩
abbrev S1x1x1024 : Shape := ⟨3, ![1, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S4096x2816 : Shape := ⟨2, ![4096, 2816]⟩
abbrev S2x2048x2816 : Shape := ⟨3, ![2, 2048, 2816]⟩
abbrev S2x1024 : Shape := ⟨2, ![2, 1024]⟩
abbrev S2x5x1024 : Shape := ⟨3, ![2, 5, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x768, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S2x8x1024, .f32⟩
  | .hbm, ⟨8, _⟩ => ⟨S1x1024, .f32⟩
  | .hbm, ⟨9, _⟩ => ⟨S1024x2816, .f32⟩
  | .hbm, ⟨10, _⟩ => ⟨S2x1x1024, .f32⟩
  | .hbm, ⟨11, _⟩ => ⟨S2x1x1024, .f32⟩
  | .hbm, ⟨12, _⟩ => ⟨S1x1x1024, .f32⟩
  | .hbm, ⟨13, _⟩ => ⟨S2x1x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S4096x2816, .bf16⟩
  | .hbm, ⟨42, _⟩ => ⟨S2x2048x2816, .f32⟩
  | .hbm, ⟨43, _⟩ => ⟨S2x2048x2816, .bf16⟩
  | .hbm, ⟨44, _⟩ => ⟨S2x2048x2816, .f32⟩
  | .hbm, ⟨45, _⟩ => ⟨S2x2048x1024, .f32⟩
  | .hbm, ⟨46, _⟩ => ⟨S_, .f32⟩
  | .hbm, ⟨47, _⟩ => ⟨S2x1024, .f32⟩
  | .hbm, ⟨48, _⟩ => ⟨S2x1x1024, .f32⟩
  | .hbm, ⟨49, _⟩ => ⟨S2x2048x1024, .f32⟩
  | .hbm, ⟨50, _⟩ => ⟨S_, .f32⟩
  | .hbm, ⟨51, _⟩ => ⟨S2x1024, .f32⟩
  | .hbm, ⟨52, _⟩ => ⟨S2x1x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S2x1024, .f32⟩
  | .hbm, ⟨58, _⟩ => ⟨S2x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S_, .f32⟩
  | .hbm, ⟨79, _⟩ => ⟨S2x5x1024, .f32⟩
  | .hbm, ⟨80, _⟩ => ⟨S2x8x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpFwd.lean ====
abbrev S4096x1024 : Shape := ⟨2, ![4096, 1024]⟩
abbrev S2x8x1024 : Shape := ⟨3, ![2, 8, 1024]⟩
abbrev S1x1024 : Shape := ⟨2, ![1, 1024]⟩
abbrev S1024x4096 : Shape := ⟨2, ![1024, 4096]⟩
abbrev S2x512x8x512 : Shape := ⟨4, ![2, 512, 8, 512]⟩
abbrev S2x8x512x512 : Shape := ⟨4, ![2, 8, 512, 512]⟩
abbrev S1x8x512x512 : Shape := ⟨4, ![1, 8, 512, 512]⟩
abbrev S8x512x512 : Shape := ⟨3, ![8, 512, 512]⟩
abbrev S4096x640 : Shape := ⟨2, ![4096, 640]⟩
abbrev S4096x384 : Shape := ⟨2, ![4096, 384]⟩
abbrev S4096x4096 : Shape := ⟨2, ![4096, 4096]⟩
abbrev S256x1024 : Shape := ⟨2, ![256, 1024]⟩
abbrev S1x8x1024 : Shape := ⟨3, ![1, 8, 1024]⟩
abbrev S256x4096 : Shape := ⟨2, ![256, 4096]⟩
abbrev S18 : Shape := ⟨1, ![18]⟩
abbrev S1 : Shape := ⟨1, ![1]⟩
abbrev S_ : Shape := ⟨0, ![]⟩
abbrev S512x512 : Shape := ⟨2, ![512, 512]⟩
abbrev S1x512x512 : Shape := ⟨3, ![1, 512, 512]⟩
abbrev S256 : Shape := ⟨1, ![256]⟩
abbrev S256x1 : Shape := ⟨2, ![256, 1]⟩
abbrev S1x1x1024 : Shape := ⟨3, ![1, 1, 1024]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x8x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S2x512x8x512, .bf16⟩
  | .hbm, ⟨7, _⟩ => ⟨S2x8x512x512, .bf16⟩
  | .hbm, ⟨8, _⟩ => ⟨S4096x1024, .bf16⟩
  | .hbm, ⟨9, _⟩ => ⟨S1x8x512x512, .bf16⟩
  | .hbm, ⟨10, _⟩ => ⟨S8x512x512, .bf16⟩
  | .hbm, ⟨11, _⟩ => ⟨S1x8x512x512, .bf16⟩
  | .hbm, ⟨12, _⟩ => ⟨S8x512x512, .bf16⟩
  | .hbm, ⟨13, _⟩ => ⟨S4096x640, .bf16⟩
  | .hbm, ⟨14, _⟩ => ⟨S4096x384, .bf16⟩
  | .hbm, ⟨15, _⟩ => ⟨S4096x4096, .f32⟩
  | .hbm, ⟨16, _⟩ => ⟨S4096x4096, .bf16⟩
  | .hbm, ⟨17, _⟩ => ⟨S4096x1024, .f32⟩
  | .hbm, ⟨18, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1024x4096, .bf16⟩
  | .local _ .vmem, ⟨14, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdRefIdeal.lean ====
abbrev S4096x1024 : Shape := ⟨2, ![4096, 1024]⟩
abbrev S2x8x1024 : Shape := ⟨3, ![2, 8, 1024]⟩
abbrev S1x1024 : Shape := ⟨2, ![1, 1024]⟩
abbrev S1024x4096 : Shape := ⟨2, ![1024, 4096]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x4096 : Shape := ⟨3, ![2, 2048, 4096]⟩
abbrev S4096x4096 : Shape := ⟨2, ![4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x8x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x2048x1024, .f32⟩
  | .hbm, ⟨27, _⟩ => ⟨S2x2048x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x4096, .f32⟩
  | .hbm, ⟨32, _⟩ => ⟨S_, .f32⟩
  | .hbm, ⟨33, _⟩ => ⟨S2x2048x4096, .f32⟩
  | .hbm, ⟨34, _⟩ => ⟨S2x2048x4096, .f32⟩
  | .hbm, ⟨35, _⟩ => ⟨S2x2048x4096, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S2x2048x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== StepIn.lean ====
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepInRefIdeal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Reals.lean ====
/- Arrays of real numbers inside the extended reals, and the gradient of a root-mean-square normalisation over the reals. -/
module

public import Idealize.ShloMosaic.Lib.Pointwise
public import Idealize.ShloMosaic.PureOps.Ideal
public import Idealize.ShloMosaic.PureOps.Ideal.Laws

@[expose] public section

noncomputable section

namespace Cert.Reals

open Idealize.ShloMosaic
open scoped BigOperators

/-- A sum of real numbers is the same sum taken in the extended reals. -/
theorem sum_coe {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A matrix of real numbers, as an array of extended ones. -/
def arr2 {a b : ℕ} (f : Fin a → Fin b → ℝ) : (⟨2, ![a, b]⟩ : Shape).Idx → EReal := fun i => (f (i 0) (i 1) : EReal)

theorem arr2_ix {a b : ℕ} (f : Fin a → Fin b → ℝ) (i : Fin a) (j : Fin b) : arr2 f (ix2 i j) = (f i j : EReal) := rfl

/-- A tensor of three axes of real numbers, as an array of extended ones. -/
def arr3 {a b c : ℕ} (f : Fin a → Fin b → Fin c → ℝ) : (⟨3, ![a, b, c]⟩ : Shape).Idx → EReal :=
  fun i => (f (i 0) (i 1) (i 2) : EReal)

theorem arr3_ix {a b c : ℕ} (f : Fin a → Fin b → Fin c → ℝ) (i : Fin a) (j : Fin b) (k : Fin c) :
    arr3 f (ix3 i j k) = (f i j k : EReal) := rfl

/-- A quotient of real numbers by a real number that is not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real number. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- The word of the number 1024. -/
theorem ofBits_1024 : Ideal.ofBits .f32 0x44800000#32 = ((1024 : ℝ) : EReal) := by
  simp [Ideal.ofBits, Ideal.ieee, -EReal.coe_mul]; norm_num

/-- A quotient of a real number by the word of 1024. -/
theorem div_1024 (x : ℝ) : Ideal.div (x : EReal) (Ideal.ofBits .f32 0x44800000#32) = ((x / 1024 : ℝ) : EReal) := by
  rw [ofBits_1024]; exact div_coe x (by norm_num)

/-- The word of the number minus one half. -/
theorem ofBits_neg_half : Ideal.ofBits .f32 0xBF000000#32 = ((-(1 / 2) : ℝ) : EReal) := by
  simp [Ideal.ofBits, Ideal.ieee, -EReal.coe_mul]; norm_num

/-- The word of the number one. -/
theorem ofBits_one : Ideal.ofBits .f32 0x3F800000#32 = ((1 : ℝ) : EReal) := by
  simp [Ideal.ofBits, Ideal.ieee, -EReal.coe_mul]; norm_num

/-- The word of the number two. -/
theorem ofBits_two : Ideal.ofBits .f32 0x40000000#32 = ((2 : ℝ) : EReal) := by
  simp [Ideal.ofBits, Ideal.ieee, -EReal.coe_mul]; norm_num

/-- The word of the number one half. -/
theorem ofBits_half : Ideal.ofBits .f32 0x3F000000#32 = ((1 / 2 : ℝ) : EReal) := by
  simp [Ideal.ofBits, Ideal.ieee, -EReal.coe_mul]; norm_num

/-- The word of the number 1/1024. -/
theorem ofBits_inv_1024 : Ideal.ofBits .f32 0x3A800000#32 = ((1 / 1024 : ℝ) : EReal) := by
  simp [Ideal.ofBits, Ideal.ieee, -EReal.coe_mul]; norm_num

/-- The rational that the word of the norms' epsilon is. -/
def eps : ℝ := 8796093 * 2 ^ (-43 : ℤ)

theorem eps_pos : 0 < eps := by unfold eps; positivity

/-- The word of the norms' epsilon. -/
theorem ofBits_eps : Ideal.ofBits .f32 0x358637BD#32 = (eps : EReal) := by
  unfold eps; simp [Ideal.ofBits, Ideal.ieee, -EReal.coe_mul]

/-- A row's mean square plus epsilon. -/
def meanSq {n : ℕ} (d : ℝ) (x : Fin n → ℝ) : ℝ := (∑ k, x k * x k) / d + eps

theorem meanSq_pos {n : ℕ} {d : ℝ} (hd : 0 < d) (x : Fin n → ℝ) : 0 < meanSq d x :=
  add_pos_of_nonneg_of_pos (div_nonneg (Finset.sum_nonneg fun k _ => mul_self_nonneg (x k)) hd.le) eps_pos

/-- The reciprocal root mean square of a row. -/
def rms {n : ℕ} (d : ℝ) (x : Fin n → ℝ) : ℝ := (Real.sqrt (meanSq d x))⁻¹

theorem rms_sq {n : ℕ} {d : ℝ} (hd : 0 < d) (x : Fin n → ℝ) : rms d x * rms d x = (meanSq d x)⁻¹ := by
  unfold rms
  rw [← mul_inv, Real.mul_self_sqrt (meanSq_pos hd x).le]

/-- The kernels' reciprocal root mean square, over real numbers. -/
theorem rsqrt_meanSq {n : ℕ} (x : Fin n → ℝ) :
    Ideal.rsqrt ((((∑ k, x k * x k) / 1024 : ℝ) : EReal) + Ideal.ofBits .f32 0x358637BD#32) = (rms 1024 x : EReal) := by
  rw [ofBits_eps, ← EReal.coe_add]
  exact rsqrt_coe (meanSq_pos (by norm_num) x)

/-- The gradient of `x * rms x` in the row `x`, against the row `g`, as a kernel writes it. -/
def normGrad {n : ℕ} (d : ℝ) (x g : Fin n → ℝ) (l : Fin n) : ℝ :=
  rms d x * (g l - x l * rms d x * ((∑ k, g k * (x k * rms d x)) / d))

/-- The same gradient, as the rules of differentiation give it term by term. -/
theorem normGrad_eq {n : ℕ} {d : ℝ} (hd : 0 < d) (x g : Fin n → ℝ) (l : Fin n) :
    g l * rms d x + x l * ((∑ k, x k * g k) * (-(1 / 2) * (rms d x / meanSq d x)) / d)
      + (∑ k, x k * g k) * (-(1 / 2) * (rms d x / meanSq d x)) / d * x l = normGrad d x g l := by
  have hm := (meanSq_pos hd x).ne'
  have hs : ∑ k, g k * (x k * rms d x) = (∑ k, x k * g k) * rms d x := by
    rw [Finset.sum_mul]; exact Finset.sum_congr rfl fun k _ => by ring
  have hq : rms d x / meanSq d x = rms d x * rms d x * rms d x := by
    rw [rms_sq hd, div_eq_mul_inv, mul_comm]
  unfold normGrad
  rw [hs, hq]
  ring

end Cert.Reals

end
-- ==== Proof.MixSpec.lean ====
module

public import proofs.«01_k».proof.Proof.Reals

@[expose] public section

/-! What the gradient of the residual of the joined heads is, over real numbers. -/

noncomputable section

namespace Cert.Mix

open Cert.Reals
open scoped BigOperators

/-- The arguments: the attention's and the recurrence's heads, the gradient that arrives, the eight rows of
    modulation of each sequence, the norm's weight and the weight of the product. -/
structure Args where
  an : Fin 4096 → Fin 512 → ℝ
  rg : Fin 4096 → Fin 512 → ℝ
  dx : Fin 4096 → Fin 1024 → ℝ
  md : Fin 2 → Fin 8 → Fin 1024 → ℝ
  pw : Fin 1 → Fin 1024 → ℝ
  w : Fin 1024 → Fin 1024 → ℝ

variable (A : Args)

/-- The product that the norm is taken of. -/
def mix (n : Fin 4096) (l : Fin 1024) : ℝ :=
  ∑ k : Fin 512, A.an n k * A.w ⟨k.val, by omega⟩ l + ∑ k : Fin 512, A.rg n k * A.w ⟨512 + k.val, by omega⟩ l

/-- The sequence of a token. -/
def seq (n : Fin 4096) : Fin 2 := ⟨n.val / 2048, by omega⟩

/-- The token at a place of a sequence. -/
def tok (b : Fin 2) (s : Fin 2048) : Fin 4096 := ⟨b.val * 2048 + s.val, by omega⟩

/-- The gradient of the normed product, for each token. -/
def up (n : Fin 4096) (l : Fin 1024) : ℝ := A.dx n l * A.md (seq n) 2 l * A.pw 0 l

/-- The gradient of the product. -/
def dmix (n : Fin 4096) (l : Fin 1024) : ℝ := normGrad 1024 (mix A n) (up A n) l

/-- The gradient of the joined heads. -/
def dcat (n : Fin 4096) (j : Fin 1024) : ℝ := ∑ l, dmix A n l * A.w j l

/-- The attention's half of it. -/
def dan (n : Fin 4096) (j : Fin 512) : ℝ := dcat A n ⟨j.val, by omega⟩

/-- The recurrence's half. -/
def drg (n : Fin 4096) (j : Fin 512) : ℝ := dcat A n ⟨512 + j.val, by omega⟩

/-- What a token adds to the gradient of the gate. -/
def gate (n : Fin 4096) (l : Fin 1024) : ℝ := A.dx n l * (mix A n l * rms 1024 (mix A n) * A.pw 0 l)

/-- What a token adds to the gradient of the norm's weight. -/
def weight (n : Fin 4096) (l : Fin 1024) : ℝ := A.dx n l * A.md (seq n) 2 l * (mix A n l * rms 1024 (mix A n))

/-- The rows that a token adds to its sequence's block of sums: the gate's, the weight's and six of zero. -/
def rows (n : Fin 4096) (r : Fin 8) (l : Fin 1024) : ℝ :=
  if r.val = 0 then gate A n l else if r.val = 1 then weight A n l else 0

/-- The block of sums of a sequence. -/
def acc (b : Fin 2) (r : Fin 8) (l : Fin 1024) : ℝ := ∑ s, rows A (tok b s) r l

end Cert.Mix

end
-- ==== Proof.Rows.lean ====
module

public import Idealize.ShloMosaic.Lib.Pipeline.ValueKit
public import Idealize.ShloMosaic.Lib.WritesUnit

@[expose] public section

/-! A block of eight rows into which a kernel adds one row at a time: what the stores of single rows leave in it. -/

noncomputable section

namespace Cert.Rows

open Idealize.ShloMosaic

variable {Val : EltTy → Type} [∀ e, Nonempty (Val e)] {e : EltTy} {n : ℕ}

/-- The block: eight rows of `n` numbers. -/
abbrev Block (n : ℕ) : Shape := ⟨3, ![1, 8, n]⟩

/-- A read of writes over any contents: the store of row `o`, made last, holds row `o`. -/
theorem read_row {sig : RefSig} {κ : Kind} {sp : Space} (v : View sig κ sp (Block n) e) (f : v.ty.Contents Val) (o : ℕ)
    (inb : ∀ a, ![0, o, 0] a + ![1, 1, n] a ≤ (Block n).size a)
    (w : (Rect.unit (s := Block n) ![0, o, 0] ![1, 1, n] inb).shape.Idx → Val e) (L : List (View.Piece Val (Block n) e))
    (r : Fin 8) (l : Fin n) :
    v.read Val (v.writes Val f (⟨Rect.unit (s := Block n) ![0, o, 0] ![1, 1, n] inb, w⟩ :: L)) (ix3 0 r l)
      = if r.val = o then w (ix3 0 0 l) else v.read Val (v.writes Val f L) (ix3 0 r l) := by
  by_cases h : r.val = o
  · rw [if_pos h]
    exact View.read_writes_cons_unit_of_mem v f inb w L _ (ix3 0 0 l) rfl fun a => by
      fin_cases a <;> simp [h]
  · rw [if_neg h]
    exact View.read_writes_cons_unit_of_not_mem v f inb w L _ rfl 1 (by
      show r.val < o ∨ o + 1 ≤ r.val
      omega)

/-- The same for the contents that a covering list of stores leaves. -/
theorem canon_row (o : ℕ) (inb : ∀ a, ![0, o, 0] a + ![1, 1, n] a ≤ (Block n).size a)
    (w : (Rect.unit (s := Block n) ![0, o, 0] ![1, 1, n] inb).shape.Idx → Val e) (L : List (View.Piece Val (Block n) e))
    (r : Fin 8) (l : Fin n) :
    View.canon (⟨Rect.unit (s := Block n) ![0, o, 0] ![1, 1, n] inb, w⟩ :: L) (ix3 0 r l)
      = if r.val = o then w (ix3 0 0 l) else View.canon L (ix3 0 r l) := by
  by_cases h : r.val = o
  · have hy : (Rect.unit (s := Block n) ![0, o, 0] ![1, 1, n] inb).emb (ix3 0 0 l) = ix3 0 r l := by
      funext a; apply Fin.ext; fin_cases a <;> simp [Rect.unit, Rect.emb, h]
    rw [if_pos h, ← hy]
    exact View.canon_cons_emb _ _ _ _
  · rw [if_neg h]
    exact View.canon_cons_of_not_mem _ _ (by
      rw [Rect.mem_set_unit]
      intro hall
      have : o ≤ r.val ∧ r.val < o + 1 := hall 1
      omega)

/-- The store of the whole block holds everywhere. -/
theorem canon_fill (inb : ∀ a, ![0, 0, 0] a + ![1, 8, n] a ≤ (Block n).size a)
    (w : (Rect.unit (s := Block n) ![0, 0, 0] ![1, 8, n] inb).shape.Idx → Val e) (L : List (View.Piece Val (Block n) e))
    (r : Fin 8) (l : Fin n) :
    View.canon (⟨Rect.unit (s := Block n) ![0, 0, 0] ![1, 8, n] inb, w⟩ :: L) (ix3 0 r l) = w (ix3 0 r l) := by
  have hy : (Rect.unit (s := Block n) ![0, 0, 0] ![1, 8, n] inb).emb (ix3 0 r l) = ix3 0 r l := by
    funext a; apply Fin.ext; fin_cases a <;> simp [Rect.unit, Rect.emb]
  exact (congrArg _ hy.symm).trans (View.canon_cons_emb _ _ _ _)

/-- A row read back from the stores made before it. -/
theorem readCov_row {sig : RefSig} {κ : Kind} {sp : Space} (v : View sig κ sp (Block n) e) (L : List (View.Piece Val (Block n) e))
    (o : ℕ) (ho : o < 8) (inb : ∀ a, ![0, o, 0] a + ![1, 1, n] a ≤ (Block n).size a) (l : Fin n) :
    v.readCov L (Rect.unit (s := Block n) ![0, o, 0] ![1, 1, n] inb).toLoadRect (ix3 0 0 l)
      = View.canon L (ix3 0 ⟨o, ho⟩ l) := by
  have hy : (Rect.unit (s := Block n) ![0, o, 0] ![1, 1, n] inb).emb (ix3 0 0 l) = ix3 0 ⟨o, ho⟩ l := by
    funext a; apply Fin.ext; fin_cases a <;> simp [Rect.unit, Rect.emb]
  exact (View.read_writes_junk_apply_eq_canon v _ L).trans (congrArg _ hy)

/-- Row `o` of what a list of stores leaves, the last of which is of row `o`. -/
theorem canon_self (o : ℕ) (ho : o < 8) (inb : ∀ a, ![0, o, 0] a + ![1, 1, n] a ≤ (Block n).size a)
    (w : (Rect.unit (s := Block n) ![0, o, 0] ![1, 1, n] inb).shape.Idx → Val e) (L : List (View.Piece Val (Block n) e))
    (l : Fin n) :
    View.canon (⟨Rect.unit (s := Block n) ![0, o, 0] ![1, 1, n] inb, w⟩ :: L) (ix3 0 ⟨o, ho⟩ l) = w (ix3 0 0 l) :=
  (canon_row o inb w L ⟨o, ho⟩ l).trans (if_pos rfl)

/-- A row other than the one last stored. -/
theorem canon_ne (o : ℕ) (inb : ∀ a, ![0, o, 0] a + ![1, 1, n] a ≤ (Block n).size a)
    (w : (Rect.unit (s := Block n) ![0, o, 0] ![1, 1, n] inb).shape.Idx → Val e) (L : List (View.Piece Val (Block n) e))
    (r : Fin 8) (l : Fin n) (h : r.val ≠ o) :
    View.canon (⟨Rect.unit (s := Block n) ![0, o, 0] ![1, 1, n] inb, w⟩ :: L) (ix3 0 r l) = View.canon L (ix3 0 r l) :=
  (canon_row o inb w L r l).trans (if_neg h)

/-- Row `o` of a read of writes, the last of which is of row `o`. -/
theorem read_self {sig : RefSig} {κ : Kind} {sp : Space} (v : View sig κ sp (Block n) e) (f : v.ty.Contents Val) (o : ℕ)
    (ho : o < 8) (inb : ∀ a, ![0, o, 0] a + ![1, 1, n] a ≤ (Block n).size a)
    (w : (Rect.unit (s := Block n) ![0, o, 0] ![1, 1, n] inb).shape.Idx → Val e) (L : List (View.Piece Val (Block n) e))
    (l : Fin n) :
    v.read Val (v.writes Val f (⟨Rect.unit (s := Block n) ![0, o, 0] ![1, 1, n] inb, w⟩ :: L)) (ix3 0 ⟨o, ho⟩ l)
      = w (ix3 0 0 l) :=
  (read_row v f o inb w L ⟨o, ho⟩ l).trans (if_pos rfl)

/-- A row other than the one last written. -/
theorem read_ne {sig : RefSig} {κ : Kind} {sp : Space} (v : View sig κ sp (Block n) e) (f : v.ty.Contents Val) (o : ℕ)
    (inb : ∀ a, ![0, o, 0] a + ![1, 1, n] a ≤ (Block n).size a)
    (w : (Rect.unit (s := Block n) ![0, o, 0] ![1, 1, n] inb).shape.Idx → Val e) (L : List (View.Piece Val (Block n) e))
    (r : Fin 8) (l : Fin n) (h : r.val ≠ o) :
    v.read Val (v.writes Val f (⟨Rect.unit (s := Block n) ![0, o, 0] ![1, 1, n] inb, w⟩ :: L)) (ix3 0 r l)
      = v.read Val (v.writes Val f L) (ix3 0 r l) :=
  (read_row v f o inb w L r l).trans (if_neg h)

/-- In a block of `m` rows and `n` columns, what the store of the `k` columns from `o` on, made last, leaves. -/
theorem canon_cols {m k : ℕ} (o : ℕ) (inb : ∀ a, ![0, o] a + ![m, k] a ≤ (⟨2, ![m, n]⟩ : Shape).size a)
    (w : (Rect.unit (s := ⟨2, ![m, n]⟩) ![0, o] ![m, k] inb).shape.Idx → Val e)
    (L : List (View.Piece Val (⟨2, ![m, n]⟩ : Shape) e)) (r : Fin m) (l : Fin n) :
    View.canon (⟨Rect.unit (s := ⟨2, ![m, n]⟩) ![0, o] ![m, k] inb, w⟩ :: L) (ix2 r l)
      = if h : o ≤ l.val ∧ l.val < o + k then w (ix2 r ⟨l.val - o, by omega⟩) else View.canon L (ix2 r l) := by
  by_cases h : o ≤ l.val ∧ l.val < o + k
  · have hy : (Rect.unit (s := ⟨2, ![m, n]⟩) ![0, o] ![m, k] inb).emb (ix2 r ⟨l.val - o, by omega⟩) = ix2 r l := by
      funext a; apply Fin.ext; fin_cases a
      · simp [Rect.unit, Rect.emb]
      · simp [Rect.unit, Rect.emb]; omega
    rw [dif_pos h, ← hy]
    exact View.canon_cons_emb _ _ _ _
  · rw [dif_neg h]
    exact View.canon_cons_of_not_mem _ _ (by
      rw [Rect.mem_set_unit]
      intro hall
      exact h (hall 1))

end Cert.Rows

end
-- ==== Proof.MixPure.lean ====
module

public import proofs.«01_k».proof.Proof.Gen.MixBwdIdeal.Value
public import Idealize.ShloMosaic.Lib.Pipeline.ValueKit
public import Idealize.ShloMosaic.Lib.Claim
public import proofs.«01_k».proof.Proof.MixSpec
public import proofs.«01_k».proof.Proof.Rows

@[expose] public section

set_option maxRecDepth 16384

/-! The kernel's arithmetic on one tile of 512 tokens, read at real numbers. -/

noncomputable section

namespace Cert.MixBwdIdeal.Pure

open Cert.MixBwdIdeal Cert.MixBwdIdeal.Gen Cert.Reals
open Idealize.ShloMosaic Idealize.ShloMosaic.TcCoe Idealize.SL.Sem
open scoped BigOperators

variable (x : Fin 512 → Fin 1024 → ℝ) (d : Fin 512 → Fin 1024 → ℝ) (g : Fin 1024 → ℝ) (p : Fin 1 → Fin 1024 → ℝ)
variable {X D : S512x1024.Idx → EReal} {G : S1x1x1024.Idx → EReal} {P : S1x1024.Idx → EReal}
variable (hX : ∀ r l, X (ix2 r l) = (x r l : EReal)) (hD : ∀ r l, D (ix2 r l) = (d r l : EReal))
variable (hG : ∀ l, G (ix3 0 0 l) = (g l : EReal)) (hP : ∀ z l, P (ix2 z l) = (p z l : EReal))

include hX in
/-- The reciprocal root mean square of a row. -/
theorem pay3 (r : Fin 512) (z : Fin 1) : k0_pay3 (F := Ideal) X (ix2 r z) = (rms 1024 (x r) : EReal) := by
  pointwise [k0_pay3, k0_pay2]
  simp only [hX, ← EReal.coe_mul, sum_coe, div_1024]
  exact rsqrt_meanSq _

include hX in
/-- The normed row. -/
theorem pay4 (r : Fin 512) (l : Fin 1024) : k0_pay4 (F := Ideal) X (ix2 r l) = ((x r l * rms 1024 (x r) : ℝ) : EReal) := by
  pointwise [k0_pay4, pay3 x hX, k0_pay2]
  simp only [hX, ← EReal.coe_mul]

include hD hG in
/-- The gated gradient. -/
theorem pay6 (r : Fin 512) (l : Fin 1024) : k0_pay6 (F := Ideal) G D (ix2 r l) = ((d r l * g l : ℝ) : EReal) := by
  pointwise [k0_pay6]
  simp only [hD, hG, ← EReal.coe_mul]

include hX hD hG hP in
/-- The gradient of the product. -/
theorem pay8 (r : Fin 512) (l : Fin 1024) : k0_pay8 (F := Ideal) G X D P (ix2 r l)
    = (normGrad 1024 (x r) (fun l => d r l * g l * p 0 l) l : EReal) := by
  pointwise [k0_pay8, pay6 d g hD hG, pay4 x hX, pay3 x hX]
  simp only [hP, ← EReal.coe_mul, sum_coe, div_1024, ← EReal.coe_sub]
  rfl

include hX hD hP in
/-- The gate's row of sums. -/
theorem pay5 (l : Fin 1024) : k0_pay5 (F := Ideal) X D P (ix2 0 l)
    = ((∑ r, d r l * (x r l * rms 1024 (x r) * p 0 l) : ℝ) : EReal) := by
  pointwise [k0_pay5, pay4 x hX]
  simp only [hP, hD, ← EReal.coe_mul, sum_coe]

include hX hD hG in
/-- The weight's row of sums. -/
theorem pay7 (l : Fin 1024) : k0_pay7 (F := Ideal) G X D (ix2 0 l)
    = ((∑ r, d r l * g l * (x r l * rms 1024 (x r)) : ℝ) : EReal) := by
  pointwise [k0_pay7, pay4 x hX, pay6 d g hD hG]
  simp only [← EReal.coe_mul, sum_coe]

section Product
variable (a : Fin 512 → Fin 1024 → ℝ) (w : Fin 1024 → Fin 1024 → ℝ)
variable {M : S512x1024.Idx → EReal} {W : S1024x1024.Idx → EReal}
variable (hM : ∀ r l, M (ix2 r l) = (a r l : EReal)) (hW : ∀ j l, W (ix2 j l) = (w j l : EReal))

include hM hW in
/-- The product with the transposed weight. -/
theorem pay9 (r : Fin 512) (j : Fin 1024) : k0_pay9 (F := Ideal) M W (ix2 r j) = ((∑ l, a r l * w j l : ℝ) : EReal) := by
  pointwise [k0_pay9]
  simp only [hM, hW, ← EReal.coe_mul, sum_coe]

include hM hW in
/-- Its first 512 columns. -/
theorem pay10 (r : Fin 512) (j : Fin 512) : k0_pay10 (F := Ideal) M W (ix2 r j)
    = ((∑ l, a r l * w ⟨j.val, by omega⟩ l : ℝ) : EReal) := by
  pointwise [k0_pay10, pay9 a w hM hW]

include hM hW in
/-- Its last 512 columns. -/
theorem pay11 (r : Fin 512) (j : Fin 512) : k0_pay11 (F := Ideal) M W (ix2 r j)
    = ((∑ l, a r l * w ⟨512 + j.val, by omega⟩ l : ℝ) : EReal) := by
  pointwise [k0_pay11, pay9 a w hM hW]
end Product

/-- The block is filled with zeros. -/
theorem pay12 (r : Fin 8) (l : Fin 1024) : k0_pay12 (F := Ideal) (ix3 0 r l) = 0 := by
  pointwise [k0_pay12]

/-- The first row of the block: a sum is added. -/
theorem pay13 (u : FVec Ideal S1x1024 .f32) (v : Vec Ideal S1x1x1024 .f32) (l : Fin 1024) :
    k0_pay13 (F := Ideal) u v (ix3 0 0 l) = (show EReal from v (ix3 0 0 l)) + u (ix2 0 l) := by
  pointwise [k0_pay13]

/-- The second row of the block: a sum is added. -/
theorem pay14 (u : FVec Ideal S1x1024 .f32) (v : Vec Ideal S1x1x1024 .f32) (l : Fin 1024) :
    k0_pay1 (F := Ideal) (k0_pay14 u v) (ix3 0 0 l) = (show EReal from v (ix3 0 0 l)) + u (ix2 0 l) := by
  pointwise [k0_pay1, k0_pay14]

end Cert.MixBwdIdeal.Pure

end
-- ==== Proof.MixValue.lean ====
module

public import proofs.«01_k».proof.Proof.MixPure

@[expose] public section

set_option maxRecDepth 16384

/-! The arrays that the kernel leaves, at real arguments. -/

noncomputable section

namespace Cert.MixBwdIdeal.Value

open Cert.MixBwdIdeal Cert.MixBwdIdeal.Gen Cert.Reals Cert.Mix
open Idealize.ShloMosaic Idealize.ShloMosaic.TcCoe Idealize.SL.Sem
open scoped BigOperators

variable (m : (ℓ : Loc nD τ sig) → Buf (Elt Ideal) ℓ) (c : Dev nD) (A : Mix.Args)

/-- The arguments in memory are the real arrays `A`. -/
structure Holds : Prop where
  an : m ((c : Thread nD τ).loc main_arg0) = arr2 A.an
  rg : m ((c : Thread nD τ).loc main_arg1) = arr2 A.rg
  dx : m ((c : Thread nD τ).loc main_arg2) = arr2 A.dx
  md : m ((c : Thread nD τ).loc main_arg3) = arr3 A.md
  pw : m ((c : Thread nD τ).loc main_arg4) = arr2 A.pw
  w : m ((c : Thread nD τ).loc main_arg5) = arr2 A.w

theorem idx : ∀ t : Fin cfg0.N, win0_0.index t = ![t.val, 0]
    ∧ win0_1.index t = ![t.val, 0]
    ∧ win0_2.index t = ![t.val / 4, 0, 0]
    ∧ win0_3.index t = ![0, 0]
    ∧ win0_4.index t = ![0, 0]
    ∧ win0_5.index t = ![t.val, 0]
    ∧ win0_6.index t = ![t.val, 0]
    ∧ win0_7.index t = ![t.val, 0] ∧ win0_8.index t = ![t.val / 4, 0, 0] ∧ t.val < 8 :=
  (by decide +kernel : ∀ t : Fin grid0.N, _)

/-- The token of a row of a tile. -/
def tile (t : Fin cfg0.N) (r : Fin 512) : Fin 4096 := ⟨t.val * 512 + r.val, by have := (idx t).2.2.2.2.2.2.2.2.2; omega⟩

/-- The sequence of a tile. -/
def tseq (t : Fin cfg0.N) : Fin 2 := ⟨t.val / 4, by have := (idx t).2.2.2.2.2.2.2.2.2; omega⟩

theorem seq_tile (t : Fin cfg0.N) (r : Fin 512) : seq (tile t r) = tseq t := by
  apply Fin.ext; show (t.val * 512 + r.val) / 2048 = t.val / 4; omega

variable {m c A}
variable (H : Holds m c A) (t : Fin cfg0.N)
include H

theorem blk0 (r : Fin 512) (l : Fin 1024) : iblk m c 0 t (ix2 r l) = (mix A (tile t r) l : EReal) := by
  blk_simp [iblk, idx t]
  entry_read
  have e : ((View.whole main_v1).slice (win0_0.rect t)).emb (ix2 r l) = ix2 (tile t r) l := by
    blk_ext [idx t, tile]
  rw [e]
  pointwise [H.an, H.rg, H.w, arr2_ix]
  simp only [← EReal.coe_mul, sum_coe, ← EReal.coe_add]
  rfl

theorem blk1 (r : Fin 512) (l : Fin 1024) : iblk m c 1 t (ix2 r l) = (A.dx (tile t r) l : EReal) := by
  blk_simp [iblk, V, idx t]
  entry_read
  have e : ((View.whole main_arg2).slice (win0_1.rect t)).emb (ix2 r l) = ix2 (tile t r) l := by
    blk_ext [idx t, tile]
  rw [e]
  pointwise [H.dx, arr2_ix]

theorem blk2 (r : Fin 8) (l : Fin 1024) : iblk m c 2 t (ix3 0 r l) = (A.md (tseq t) r l : EReal) := by
  blk_simp [iblk, V, idx t]
  entry_read
  have e : ((View.whole main_arg3).slice (win0_2.rect t)).emb (ix3 0 r l) = ix3 (tseq t) r l := by
    blk_ext [idx t, tseq]
  rw [e]
  pointwise [H.md, arr3_ix]

theorem blk3 (r : Fin 1) (l : Fin 1024) : iblk m c 3 t (ix2 r l) = (A.pw r l : EReal) := by
  blk_simp [iblk, V, idx t]
  entry_read
  have e : ((View.whole main_arg4).slice (win0_3.rect t)).emb (ix2 r l) = ix2 r l := by
    blk_ext [idx t]
  rw [e]
  pointwise [H.pw, arr2_ix]

theorem blk4 (r : Fin 1024) (l : Fin 1024) : iblk m c 4 t (ix2 r l) = (A.w r l : EReal) := by
  blk_simp [iblk, V, idx t]
  entry_read
  have e : ((View.whole main_v2).slice (win0_4.rect t)).emb (ix2 r l) = ix2 r l := by
    blk_ext [idx t]
  rw [e]
  pointwise [H.w, arr2_ix]

/-- The gate's row, read from its block. -/
theorem gate_row (l : Fin 1024) :
    View.ld (iblk m c 2 t) (Rect.unit (s := S1x8x1024) ![0, 2, 0] ![1, 1, 1024] inb_S1x8x1024_S1x1x1024_0_2_0) (ix3 0 0 l)
      = (A.md (tseq t) 2 l : EReal) := by
  pointwise [blk2 H t]

theorem dmix_tile (r : Fin 512) (l : Fin 1024) :
    k0_pay8 (F := Ideal) (View.ld (iblk m c 2 t) (Rect.unit (s := S1x8x1024) ![0, 2, 0] ![1, 1, 1024] inb_S1x8x1024_S1x1x1024_0_2_0))
      (iblk m c 0 t) (iblk m c 1 t) (iblk m c 3 t) (ix2 r l) = (dmix A (tile t r) l : EReal) := by
  rw [Pure.pay8 _ _ _ _ (blk0 H t) (blk1 H t) (gate_row H t) (blk3 H t)]
  unfold dmix up
  rw [seq_tile]

/-- The attention's gradient. -/
theorem final_5 : (dats m 0 c).arrAt 5 cfg0.N = arr2 (dan A) := by
  refine (dats m 0 c).arrAt_eq_of_covers 5 _ (by decide +kernel) fun t hf y => ?_
  blk_simp; rw [after0_5]
  have e : ∀ (r : Fin 512) (l : Fin 512), ((View.whole main_v3_0).slice (win0_5.rect t)).emb (ix2 r l) = ix2 (tile t r) l := by
    intro r l; blk_ext [idx t, tile]
  by_cases h : t.val % 4 = 0
  · rw [outsAt0_A m c t h]; dsimp only; frame_out
    idx_vars y
    rw [e]; exact Pure.pay10 _ _ (dmix_tile H t) (blk4 H t) _ _
  · rw [outsAt0_B m c t h]; dsimp only; frame_out
    idx_vars y
    rw [e]; exact Pure.pay10 _ _ (dmix_tile H t) (blk4 H t) _ _

/-- The recurrence's gradient. -/
theorem final_6 : (dats m 0 c).arrAt 6 cfg0.N = arr2 (drg A) := by
  refine (dats m 0 c).arrAt_eq_of_covers 6 _ (by decide +kernel) fun t hf y => ?_
  blk_simp; rw [after0_6]
  have e : ∀ (r : Fin 512) (l : Fin 512), ((View.whole main_v3_1).slice (win0_6.rect t)).emb (ix2 r l) = ix2 (tile t r) l := by
    intro r l; blk_ext [idx t, tile]
  by_cases h : t.val % 4 = 0
  · rw [outsAt0_A m c t h]; dsimp only; frame_out
    idx_vars y
    rw [e]; exact Pure.pay11 _ _ (dmix_tile H t) (blk4 H t) _ _
  · rw [outsAt0_B m c t h]; dsimp only; frame_out
    idx_vars y
    rw [e]; exact Pure.pay11 _ _ (dmix_tile H t) (blk4 H t) _ _

/-- The product's gradient. -/
theorem final_7 : (dats m 0 c).arrAt 7 cfg0.N = arr2 (dmix A) := by
  refine (dats m 0 c).arrAt_eq_of_covers 7 _ (by decide +kernel) fun t hf y => ?_
  blk_simp; rw [after0_7]
  have e : ∀ (r : Fin 512) (l : Fin 1024), ((View.whole main_v3_2).slice (win0_7.rect t)).emb (ix2 r l) = ix2 (tile t r) l := by
    intro r l; blk_ext [idx t, tile]
  by_cases h : t.val % 4 = 0
  · rw [outsAt0_A m c t h]; dsimp only; frame_out
    idx_vars y
    rw [e]; exact dmix_tile H t _ _
  · rw [outsAt0_B m c t h]; dsimp only; frame_out
    idx_vars y
    rw [e]; exact dmix_tile H t _ _

/-- What a tile adds to its sequence's block of sums. -/
def term (A : Mix.Args) (t : Fin cfg0.N) : S1x8x1024.Idx → EReal := arr3 fun _ r l => ∑ s, rows A (tile t s) r l

theorem term_eq (r : Fin 8) (l : Fin 1024) : term A t (ix3 0 r l)
    = if r.val = 1 then k0_pay7 (F := Ideal) (View.ld (iblk m c 2 t) (Rect.unit (s := S1x8x1024) ![0, 2, 0] ![1, 1, 1024] inb_S1x8x1024_S1x1x1024_0_2_0)) (iblk m c 0 t) (iblk m c 1 t) (ix2 0 l)
      else if r.val = 0 then k0_pay5 (F := Ideal) (iblk m c 0 t) (iblk m c 1 t) (iblk m c 3 t) (ix2 0 l) else 0 := by
  rw [Pure.pay7 _ _ _ (blk0 H t) (blk1 H t) (gate_row H t), Pure.pay5 _ _ _ (blk0 H t) (blk1 H t) (blk3 H t)]
  unfold term
  rw [arr3_ix]
  unfold rows gate weight
  split_ifs <;> first | omega | simp [seq_tile]

/-- The block of sums after a sequence's first tile. -/
theorem reset (h : t.val % 4 = 0) (i : S1x8x1024.Idx) :
    (outsAt0 m c t.val t.isLt).2.2.2 i = (fun _ => (0 : EReal)) i + term A t i := by
  rw [outsAt0_A m c t h]; dsimp only; frame_out
  idx_vars i
  obtain rfl : i0 = 0 := Subsingleton.elim _ _
  refine (Rows.canon_row 1 _ _ _ i1 i2).trans ?_
  rw [term_eq H]
  by_cases h1 : i1.val = 1
  · rw [if_pos h1, if_pos h1, Pure.pay14]
    refine congrArg (· + _) ((Rows.readCov_row _ _ 1 (by decide) _ _).trans ((Rows.canon_row 0 _ _ _ _ _).trans ?_))
    rw [if_neg (by decide)]
    exact (Rows.canon_fill _ _ _ _ _).trans (Pure.pay12 _ _)
  · rw [if_neg h1, if_neg h1]
    refine (Rows.canon_row 0 _ _ _ i1 i2).trans ?_
    by_cases h0 : i1.val = 0
    · rw [if_pos h0, if_pos h0, Pure.pay13]
      exact congrArg (· + _) ((Rows.readCov_row _ _ 0 (by decide) _ _).trans ((Rows.canon_fill _ _ _ _ _).trans (Pure.pay12 _ _)))
    · rw [if_neg h0, if_neg h0, add_zero]
      exact (Rows.canon_fill _ _ _ _ _).trans (Pure.pay12 _ _)

/-- The block of sums after each further tile. -/
theorem step (h : ¬ t.val % 4 = 0) (i : S1x8x1024.Idx) :
    (outsAt0 m c t.val t.isLt).2.2.2 i
      = (show EReal from (outsAt0 m c (t.val - 1) (Nat.lt_of_le_of_lt (Nat.sub_le _ _) t.isLt)).2.2.2 i) + term A t i := by
  rw [outsAt0_B m c t h]; dsimp only; frame_out
  generalize (outsAt0 m c (t.val - 1) (Nat.lt_of_le_of_lt (Nat.sub_le _ _) t.isLt)).2.2.2 = Q
  idx_vars i
  obtain rfl : i0 = 0 := Subsingleton.elim _ _
  refine (Rows.read_row _ _ 1 _ _ _ i1 i2).trans ?_
  rw [term_eq H]
  by_cases h1 : i1.val = 1
  · rw [if_pos h1, if_pos h1, Pure.pay14]
    obtain rfl : i1 = 1 := Fin.ext h1
    pointwise; rfl
  · rw [if_neg h1, if_neg h1]
    refine (Rows.read_row _ _ 0 _ _ _ i1 i2).trans ?_
    by_cases h0 : i1.val = 0
    · rw [if_pos h0, if_pos h0, Pure.pay13]
      obtain rfl : i1 = 0 := Fin.ext h0
      pointwise
    · rw [if_neg h0, if_neg h0, add_zero]
      exact congrFun (Memref.IsWhole.read_unread _ Q) _

/-- The sequences' blocks of sums. -/
theorem final_8 : (dats m 0 c).arrAt 8 cfg0.N = arr3 (acc A) := by
  refine (dats m 0 c).arrAt_eq_of_covers 8 _ (by decide +kernel) fun t hf y => ?_
  have e : ∀ (r : Fin 8) (l : Fin 1024), ((View.whole main_v3_3).slice (win0_8.rect t)).emb (ix3 0 r l) = ix3 (tseq t) r l := by
    intro r l; blk_ext [idx t, tseq]
  blk_simp; rw [after0_8, Pipeline.eq_sum_fin_of_reset_step_apply_of_flush (fun n h => (outsAt0 m c n h).2.2.2) 4 (fun _ => 0) (term A)
    (fun t h j => reset H t h j) (fun t h j => step H t h j) t ((flush0_8 t).mp hf) _, zero_add]
  idx_vars y
  obtain rfl : y0 = 0 := Subsingleton.elim _ _
  refine Eq.trans ?_ (congrArg (arr3 (acc A)) (e y1 y2)).symm
  rw [arr3_ix]
  unfold term acc
  simp only [arr3_ix]
  rw [sum_coe]
  congr 1
  refine Fin.sum_mul_add_congr fun s k hl => ?_
  congr 1
  apply Fin.ext
  show (4 * (t.val / 4) + s.val) * 512 + k.val = t.val / 4 * 2048 + (s.val * 512 + k.val)
  omega

end Cert.MixBwdIdeal.Value

end
-- ==== Proof.MixRef.lean ====
module

public import proofs.«01_k».proof.Proof.Gen.MixRefIdeal.Read
public import Idealize.ShloMosaic.Lib.Pointwise
public import proofs.«01_k».proof.Proof.MixSpec

@[expose] public section

set_option maxRecDepth 16384

/-! The arrays that the reference leaves, at real arguments. -/

noncomputable section

namespace Cert.MixRefIdeal.Value

open Cert.MixRefIdeal Cert.MixRefIdeal.Gen Cert.MixRefIdeal.Read Cert.Reals Cert.Mix
open Idealize.ShloMosaic Idealize.ShloMosaic.TcCoe Idealize.SL.Sem
open scoped BigOperators

variable (A : Mix.Args)

/-- The product. -/
theorem v3 (b : Fin 2) (s : Fin 2048) (l : Fin 1024) :
    val_main_v3 (F := Ideal) (arr2 A.an) (arr2 A.rg) (arr2 A.w) (ix3 b s l) = (mix A (tok b s) l : EReal) := by
  pointwise [val_main_v3, val_main_v2, val_main_v0, val_main_v1, arr2_ix]
  simp only [← EReal.coe_mul, sum_coe, ← EReal.coe_add]
  rfl

/-- The mean square plus epsilon. -/
theorem v13 (b : Fin 2) (s : Fin 2048) (z : Fin 1) :
    val_main_v13 (F := Ideal) (arr2 A.an) (arr2 A.rg) (arr2 A.w) (ix3 b s z) = (meanSq 1024 (mix A (tok b s)) : EReal) := by
  pointwise [val_main_v13, val_main_v11, val_main_v9, val_main_v8, val_main_v7, v3 A, val_main_v10, val_main_v12, val_main_cst_0,
    val_main_cst_1, val_main_cst]
  simp only [← EReal.coe_mul, sum_coe, div_1024, ofBits_eps, ← EReal.coe_add]
  rfl

/-- The reciprocal root mean square. -/
theorem v14 (b : Fin 2) (s : Fin 2048) (z : Fin 1) :
    val_main_v14 (F := Ideal) (arr2 A.an) (arr2 A.rg) (arr2 A.w) (ix3 b s z) = (rms 1024 (mix A (tok b s)) : EReal) := by
  pointwise [val_main_v14, v13 A]
  exact rsqrt_coe (meanSq_pos (by norm_num) _)

/-- The derivative of the reciprocal root. -/
theorem v17 (b : Fin 2) (s : Fin 2048) (z : Fin 1) :
    val_main_v17 (F := Ideal) (arr2 A.an) (arr2 A.rg) (arr2 A.w) (ix3 b s z)
      = ((-(1 / 2) * (rms 1024 (mix A (tok b s)) / meanSq 1024 (mix A (tok b s))) : ℝ) : EReal) := by
  pointwise [val_main_v17, val_main_v16, val_main_v15, val_main_cst_2, v14 A, v13 A]
  rw [div_coe _ (meanSq_pos (by norm_num) _).ne', ofBits_neg_half, ← EReal.coe_mul]

/-- The normed product. -/
theorem v19 (b : Fin 2) (s : Fin 2048) (l : Fin 1024) :
    val_main_v19 (F := Ideal) (arr2 A.an) (arr2 A.rg) (arr2 A.w) (ix3 b s l)
      = ((mix A (tok b s) l * rms 1024 (mix A (tok b s)) : ℝ) : EReal) := by
  pointwise [val_main_v19, val_main_v18, v3 A, v14 A]
  rw [← EReal.coe_mul]

/-- The gated gradient. -/
theorem v26 (b : Fin 2) (s : Fin 2048) (l : Fin 1024) :
    val_main_v26 (F := Ideal) (arr2 A.dx) (arr3 A.md) (ix3 b s l) = ((A.md b 2 l * A.dx (tok b s) l : ℝ) : EReal) := by
  pointwise [val_main_v26, val_main_v25, val_main_v24, val_main_v4, arr2_ix, arr3_ix]
  rw [← EReal.coe_mul]
  rfl

theorem seq_tok (b : Fin 2) (s : Fin 2048) : seq (tok b s) = b := by
  apply Fin.ext; show (b.val * 2048 + s.val) / 2048 = b.val; omega

/-- The gradient of the normed product. -/
theorem v34 (b : Fin 2) (s : Fin 2048) (l : Fin 1024) :
    val_main_v34 (F := Ideal) (arr2 A.dx) (arr3 A.md) (arr2 A.pw) (ix3 b s l) = (up A (tok b s) l : EReal) := by
  pointwise [val_main_v34, v26 A, val_main_v33, val_main_v6, val_main_v5, arr2_ix]
  rw [← EReal.coe_mul]
  unfold up
  rw [seq_tok, mul_comm (A.md b 2 l)]

/-- The gradient of the product. -/
theorem v48 (b : Fin 2) (s : Fin 2048) (l : Fin 1024) :
    val_main_v48 (F := Ideal) (arr2 A.an) (arr2 A.rg) (arr2 A.dx) (arr3 A.md) (arr2 A.pw) (arr2 A.w) (ix3 b s l)
      = (dmix A (tok b s) l : EReal) := by
  pointwise [val_main_v48, val_main_v47, val_main_v46, val_main_v45, val_main_v44, val_main_v43, val_main_v42, val_main_v41,
    val_main_v40, val_main_v39, val_main_v38, val_main_v37, val_main_v36, val_main_v35, val_main_cst_6, val_main_cst_7, val_main_cst_5,
    v34 A, v3 A, v14 A, v17 A]
  simp only [← EReal.coe_mul, sum_coe, div_1024, ← EReal.coe_add]
  congr 1
  rw [Fin.sum_univ_one]
  exact normGrad_eq (by norm_num) _ _ _

/-- The gradient of the joined heads. -/
theorem v49 (b : Fin 2) (s : Fin 2048) (j : Fin 1024) :
    val_main_v49 (F := Ideal) (arr2 A.an) (arr2 A.rg) (arr2 A.dx) (arr3 A.md) (arr2 A.pw) (arr2 A.w) (ix3 b s j)
      = (dcat A (tok b s) j : EReal) := by
  pointwise [val_main_v49, v48 A, arr2_ix]
  simp only [← EReal.coe_mul, sum_coe]
  rfl

theorem tok_divmod (n : Fin 4096) (h : n.val / 2048 < 2) (h' : n.val % 2048 < 2048) : tok ⟨n.val / 2048, h⟩ ⟨n.val % 2048, h'⟩ = n := by
  apply Fin.ext; show n.val / 2048 * 2048 + n.val % 2048 = n.val; omega

/-- The attention's half. -/
theorem v54 : val_main_v54 (F := Ideal) (arr2 A.an) (arr2 A.rg) (arr2 A.dx) (arr3 A.md) (arr2 A.pw) (arr2 A.w) = arr2 (dan A) := by
  funext i
  idx_vars i
  pointwise [val_main_v54, val_main_v50, v49 A, arr2_ix]
  simp only [tok_divmod]
  rfl

/-- The recurrence's half. -/
theorem v55 : val_main_v55 (F := Ideal) (arr2 A.an) (arr2 A.rg) (arr2 A.dx) (arr3 A.md) (arr2 A.pw) (arr2 A.w) = arr2 (drg A) := by
  funext i
  idx_vars i
  pointwise [val_main_v55, val_main_v51, v49 A, arr2_ix]
  simp only [tok_divmod]
  rfl

/-- The product's gradient. -/
theorem v57 : val_main_v57 (F := Ideal) (arr2 A.an) (arr2 A.rg) (arr2 A.dx) (arr3 A.md) (arr2 A.pw) (arr2 A.w) = arr2 (dmix A) := by
  funext i
  idx_vars i
  pointwise [val_main_v57, val_main_v56, v48 A, arr2_ix]
  simp only [tok_divmod]

/-- The gate's gradient. -/
theorem v29 (b : Fin 2) (z : Fin 1) (l : Fin 1024) :
    val_main_v29 (F := Ideal) (arr2 A.an) (arr2 A.rg) (arr2 A.dx) (arr2 A.pw) (arr2 A.w) (ix3 b z l)
      = ((∑ s, gate A (tok b s) l : ℝ) : EReal) := by
  pointwise [val_main_v29, val_main_v28, val_main_v27, val_main_v24, val_main_v21, val_main_v20, v19 A, val_main_v6, val_main_v5, val_main_cst_3, arr2_ix]
  simp only [← EReal.coe_mul, sum_coe]
  rfl

/-- The weight's gradient. -/
theorem v32 (b : Fin 2) (z : Fin 1) (l : Fin 1024) :
    val_main_v32 (F := Ideal) (arr2 A.an) (arr2 A.rg) (arr2 A.dx) (arr3 A.md) (arr2 A.w) (ix3 b z l)
      = ((∑ s, weight A (tok b s) l : ℝ) : EReal) := by
  pointwise [val_main_v32, val_main_v31, val_main_v30, v26 A, v19 A, val_main_cst_4]
  simp only [← EReal.coe_mul, sum_coe]
  congr 1
  refine Finset.sum_congr rfl fun s _ => ?_
  unfold weight
  rw [seq_tok]
  ring

/-- The blocks of sums. -/
theorem v53 : val_main_v53 (F := Ideal) (arr2 A.an) (arr2 A.rg) (arr2 A.dx) (arr3 A.md) (arr2 A.pw) (arr2 A.w) = arr3 (acc A) := by
  funext i
  idx_vars i
  pointwise [val_main_v53, v29 A, v32 A, val_main_v52, val_main_cst_8, arr3_ix]
  unfold acc rows
  by_cases h0 : i1.val = 0
  · rw [dif_pos (by omega)]
    simp only [if_pos h0]
  · rw [dif_neg (by omega)]
    by_cases h1 : i1.val = 1
    · rw [dif_pos (by omega)]
      simp only [if_neg h0, if_pos h1]
    · rw [dif_neg (by omega)]
      simp only [if_neg h0, if_neg h1, Finset.sum_const_zero, EReal.coe_zero]

end Cert.MixRefIdeal.Value

end
-- ==== Proof.Finite.lean ====
module

public import Idealize.ShloMosaic.Lib.ReduceAll
public import Idealize.ShloMosaic.Lib.Affine
public import Idealize.ShloMosaic.Lib.Pointwise
public import proofs.«01_k».proof.Proof.Reals

@[expose] public section

/-! What the precondition gives: every argument is an array of real numbers. -/

noncomputable section

namespace Cert.Finite

open Idealize.ShloMosaic Cert.Reals

theorem word : Ideal.ofBits .f32 0x7F7FFFFF#32 = (((16777215 * 2 ^ (104 : ℤ) : ℝ)) : EReal) := by
  simp [Ideal.ofBits, Ideal.ieee, -EReal.coe_mul]

/-- A number whose absolute value is at most the greatest finite word is real. -/
theorem real_of_le (x : EReal) (h : Ideal.cmp .ole (max x (-x)) (Ideal.ofBits .f32 0x7F7FFFFF#32) = 1#1) :
    x = ((x.toReal : ℝ) : EReal) := by
  rw [word] at h
  have h' : max x (-x) ≤ (((16777215 * 2 ^ (104 : ℤ) : ℝ)) : EReal) := by
    by_contra hc
    have h' : BitVec.ofBool (decide (max x (-x) ≤ (((16777215 * 2 ^ (104 : ℤ) : ℝ)) : EReal))) = 1#1 := h
    rw [decide_eq_false hc] at h'
    exact absurd h' (by decide)
  induction x with
  | bot => exact absurd h' (by simp [-EReal.coe_mul])
  | top => exact absurd h' (by simp [-EReal.coe_mul])
  | coe r => rfl

/-- An array all of whose absolute values are at most the greatest finite word is an array of real numbers. -/
theorem real_of_all {s : Shape} {axes : List (Fin s.rank)} {d : Fin 0 → Fin s.rank} (x : FVec Ideal s .f32)
    (hb : (⟨0, ![]⟩ : Shape).BroadcastsInDim s d) (hr : s.ReducesTo axes ⟨0, ![]⟩) (hu : 0 < (⟨0, ![]⟩ : Shape).numel) (j : (⟨0, ![]⟩ : Shape).Idx)
    (e : Host.reduce IntOp.andi (cmpf .ole (Host.absf x) (broadcastInDim s d hb (constant (F := Ideal) ⟨0, ![]⟩ .f32 0x7F7FFFFF#32)))
      (constantI ⟨0, ![]⟩ 1 1#1) hr hu j = 1#1) (i : s.Idx) : (x i : EReal) = (((x i : EReal).toReal : ℝ) : EReal) :=
  real_of_le _ (Host.reduce_andi_all _ _ hr hu j e i)

theorem arr2_of_real {a b : ℕ} (x : (⟨2, ![a, b]⟩ : Shape).Idx → EReal) (h : ∀ i, x i = ((x i).toReal : EReal)) :
    x = arr2 fun i j => (x (ix2 i j)).toReal := by
  funext i
  rw [show i = ix2 (i 0) (i 1) from funext fun a => by fin_cases a <;> rfl]
  exact h _

theorem arr3_of_real {a b c : ℕ} (x : (⟨3, ![a, b, c]⟩ : Shape).Idx → EReal) (h : ∀ i, x i = ((x i).toReal : EReal)) :
    x = arr3 fun i j k => (x (ix3 i j k)).toReal := by
  funext i
  rw [show i = ix3 (i 0) (i 1) (i 2) from funext fun a => by fin_cases a <;> rfl]
  exact h _

end Cert.Finite

end
-- ==== Proof.MixClaim.lean ====
module

public import proofs.«01_k».proof.Defs
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_finite_mix
public import proofs.«01_k».proof.Proof.MixValue
public import proofs.«01_k».proof.Proof.MixRef
public import proofs.«01_k».proof.Proof.Finite

@[expose] public section

set_option maxRecDepth 16384

/-! The claims about the gradient of the residual of the joined heads. -/

noncomputable section

namespace Cert.MixClaim

open Idealize.ShloMosaic Idealize.ShloMosaic.TcCoe Idealize.SL.Sem Cert.Reals

/-- The real arrays that a memory's arguments are. -/
def args (m : (ℓ : Loc Cert.MixBwdIdeal.nD Cert.MixBwdIdeal.τ Cert.MixBwdIdeal.sig) → Buf (Elt Ideal) ℓ) (c : Dev Cert.MixBwdIdeal.nD) : Mix.Args where
  an i j := EReal.toReal (m ((c.tc : Thread Cert.MixBwdIdeal.nD Cert.MixBwdIdeal.τ).loc Cert.MixBwdIdeal.main_arg0) (ix2 i j))
  rg i j := EReal.toReal (m ((c.tc : Thread Cert.MixBwdIdeal.nD Cert.MixBwdIdeal.τ).loc Cert.MixBwdIdeal.main_arg1) (ix2 i j))
  dx i j := EReal.toReal (m ((c.tc : Thread Cert.MixBwdIdeal.nD Cert.MixBwdIdeal.τ).loc Cert.MixBwdIdeal.main_arg2) (ix2 i j))
  md i j k := EReal.toReal (m ((c.tc : Thread Cert.MixBwdIdeal.nD Cert.MixBwdIdeal.τ).loc Cert.MixBwdIdeal.main_arg3) (ix3 i j k))
  pw i j := EReal.toReal (m ((c.tc : Thread Cert.MixBwdIdeal.nD Cert.MixBwdIdeal.τ).loc Cert.MixBwdIdeal.main_arg4) (ix2 i j))
  w i j := EReal.toReal (m ((c.tc : Thread Cert.MixBwdIdeal.nD Cert.MixBwdIdeal.τ).loc Cert.MixBwdIdeal.main_arg5) (ix2 i j))

/-- The precondition makes the arguments those arrays. -/
theorem holds (m : (ℓ : Loc Cert.MixBwdIdeal.nD Cert.MixBwdIdeal.τ Cert.MixBwdIdeal.sig) → Buf (Elt Ideal) ℓ) (c : Dev Cert.MixBwdIdeal.nD)
    (h : Pre_MixBwdIdeal_finite_mix m) : MixBwdIdeal.Value.Holds m c (args m c) := by
  have e := congrFun (h c) ix0
  dsimp only [Cert.Pre_finite_mix.fn, Cert.Pre_finite_mix.fn_part1, andi] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact
    { an := Finite.arr2_of_real _ (Finite.real_of_all _ _ _ _ _ e0)
      rg := Finite.arr2_of_real _ (Finite.real_of_all _ _ _ _ _ e1)
      dx := Finite.arr2_of_real _ (Finite.real_of_all _ _ _ _ _ e2)
      md := Finite.arr3_of_real _ (Finite.real_of_all _ _ _ _ _ e3)
      pw := Finite.arr2_of_real _ (Finite.real_of_all _ _ _ _ _ e4)
      w := Finite.arr2_of_real _ (Finite.real_of_all _ _ _ _ _ e5) }

/-- The kernel's arrays are the reference's. -/
theorem algebraic : algebraic_MixBwdIdeal_MixRefIdeal_pre_finite_mix := by
  intro m g m' g' hp hagree
  refine ⟨fun c => arr2 (Mix.dan (args m c)), fun c => arr2 (Mix.drg (args m c)), fun c => arr2 (Mix.dmix (args m c)),
    fun c => arr3 (Mix.acc (args m c)), ?_, ?_⟩
  · refine (θ_run _ _ _).mono (fun r h c => ?_) (MixBwdIdeal.Value.run_blocks m g)
    have H := holds m c hp
    obtain ⟨h0, h1, h2, h3, hk⟩ := h c
    exact ⟨h0.trans (MixBwdIdeal.Value.final_5 H), h1.trans (MixBwdIdeal.Value.final_6 H), h2.trans (MixBwdIdeal.Value.final_7 H),
      h3.trans (MixBwdIdeal.Value.final_8 H), hk⟩
  · refine (θ_run _ _ _).mono (fun r h c => ?_) (MixRefIdeal.Value.run m' g')
    have H := holds m c hp
    obtain ⟨a0, a1, a2, a3, a4, a5⟩ := hagree c
    obtain ⟨h0, h1, h2, h3, hk⟩ := h c
    refine ⟨h0.trans ?_, h1.trans ?_, h2.trans ?_, h3.trans ?_, hk⟩
    · rw [MixRefIdeal.Read.val_main_v54_eq, a0, a1, a2, a3, a4, a5]
      exact (by rw [H.an, H.rg, H.dx, H.md, H.pw, H.w]; exact MixRefIdeal.Value.v54 _)
    · rw [MixRefIdeal.Read.val_main_v55_eq, a0, a1, a2, a3, a4, a5]
      exact (by rw [H.an, H.rg, H.dx, H.md, H.pw, H.w]; exact MixRefIdeal.Value.v55 _)
    · rw [MixRefIdeal.Read.val_main_v57_eq, a0, a1, a2, a3, a4, a5]
      exact (by rw [H.an, H.rg, H.dx, H.md, H.pw, H.w]; exact MixRefIdeal.Value.v57 _)
    · rw [MixRefIdeal.Read.val_main_v53_eq, a0, a1, a2, a3, a4, a5]
      exact (by rw [H.an, H.rg, H.dx, H.md, H.pw, H.w]; exact MixRefIdeal.Value.v53 _)

end Cert.MixClaim

end
-- ==== Proof.MlpRun.lean ====
module

public import proofs.«01_k».proof.Proof.Gen.MlpBwdIdeal.Frame.Runs

@[expose] public section

set_option maxRecDepth 16384

/-! The runs of the kernel's body at the three kinds of grid points: the first point, at which the weights are copied into
the scratch (eighteen transfers, all in flight at once, each lent its own window of source and destination), the first point
of a later sequence, and the points between. The statements follow the generated set-up of the launch. -/

noncomputable section

namespace Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option sl_exec.dmaWindow true in
set_option sl_exec.dmaWindowSet true in
set_option sl_exec.rejoinHeartbeats 400000 in
set_option maxHeartbeats 12880000 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L7 : List (View.Piece (Elt F) S256x1024 .f32)), Σ' (L8 : List (View.Piece (Elt F) S256x4096 .bf16)), Σ' (L9 : List (View.Piece (Elt F) S256x1024 .bf16)), Σ' (L10 : List (View.Piece (Elt F) S1x8x1024 .f32)), Σ' (LS0 : List (View.Piece (Elt F) S4096x1024 .bf16)), { LS1 : List (View.Piece (Elt F) S1024x4096 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_bwd i arg1 harg1 arg2 harg2 arg3 harg3 arg4 harg4 arg5 harg5 arg6 harg6 arg7 harg7 (Memref.whole main_v32) (Memref.isWhole_whole _) (Memref.whole main_v34) (Memref.isWhole_whole _) (Memref.whole main_v35) (Memref.isWhole_whole _) (Memref.whole main_v36) (Memref.isWhole_whole _) arg12 harg12 arg13 harg13 arg14 harg14 arg15 harg15 arg16 harg16 arg17 harg17 cc0_scratch2) K } := by
  refine ⟨?_, ?_, ?_, ?_, ?_, ?_, fun W K => ?run⟩
  case run =>
    simp only [cc0_mlp_bwd_eq_skeleton]; unfold cc0_mlp_bwd_skel
    simp only [k0_part11_eq_skeleton, k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hq16, Hq17, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [Hh3]; · iexact Hh3
    iexists _; iexact HW

set_option maxHeartbeats 1000000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) :
    Σ' (L7 : List (View.Piece (Elt F) S256x1024 .f32)), Σ' (L8 : List (View.Piece (Elt F) S256x4096 .bf16)), Σ' (L9 : List (View.Piece (Elt F) S256x1024 .bf16)), Σ' (L10 : List (View.Piece (Elt F) S1x8x1024 .f32)), Σ' (LS0 : List (View.Piece (Elt F) S4096x1024 .bf16)), { LS1 : List (View.Piece (Elt F) S1024x4096 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo10 ∗ owns (c : Thread nD τ) arg16 fullShare xs0 ∗ owns (c : Thread nD τ) arg17 fullShare xs1 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (arg15.view.loc (c : Thread nD τ) ↦[arg15.view.set]{fullShare} arg15.view.writes (Elt F) (harg15.unread xo10) L10) ∗ owns (c : Thread nD τ) arg16 fullShare xs0 ∗ owns (c : Thread nD τ) arg17 fullShare xs1 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_bwd i arg1 harg1 arg2 harg2 arg3 harg3 arg4 harg4 arg5 harg5 arg6 harg6 arg7 harg7 (Memref.whole main_v32) (Memref.isWhole_whole _) (Memref.whole main_v34) (Memref.isWhole_whole _) (Memref.whole main_v35) (Memref.isWhole_whole _) (Memref.whole main_v36) (Memref.isWhole_whole _) arg12 harg12 arg13 harg13 arg14 harg14 arg15 harg15 arg16 harg16 arg17 harg17 cc0_scratch2) K } := by
  refine ⟨?_, ?_, ?_, ?_, [], [], fun W K => ?run⟩
  case run =>
    simp only [cc0_mlp_bwd_eq_skeleton]; unfold cc0_mlp_bwd_skel
    simp only [k0_part11_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hq16, Hq17, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg15.eq_unread hf10; obtain rfl := harg16.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexact H10
    isplitl [HS0]
    · iexists _; isplitr; · ipureintro; exact harg16.read_unread _
      iexact HS0
    isplitl [HS1]
    · iexists _; isplitr; · ipureintro; exact harg17.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [Hh3]; · iexact Hh3
    iexists _; iexact HW

set_option maxHeartbeats 1000000 in
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) :
    Σ' (L7 : List (View.Piece (Elt F) S256x1024 .f32)), Σ' (L8 : List (View.Piece (Elt F) S256x4096 .bf16)), Σ' (L9 : List (View.Piece (Elt F) S256x1024 .bf16)), Σ' (L10 : List (View.Piece (Elt F) S1x8x1024 .f32)), Σ' (LS0 : List (View.Piece (Elt F) S4096x1024 .bf16)), { LS1 : List (View.Piece (Elt F) S1024x4096 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ owns (c : Thread nD τ) arg16 fullShare xs0 ∗ owns (c : Thread nD τ) arg17 fullShare xs1 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_bwd i arg1 harg1 arg2 harg2 arg3 harg3 arg4 harg4 arg5 harg5 arg6 harg6 arg7 harg7 (Memref.whole main_v32) (Memref.isWhole_whole _) (Memref.whole main_v34) (Memref.isWhole_whole _) (Memref.whole main_v35) (Memref.isWhole_whole _) (Memref.whole main_v36) (Memref.isWhole_whole _) arg12 harg12 arg13 harg13 arg14 harg14 arg15 harg15 arg16 harg16 arg17 harg17 cc0_scratch2) K } := by
  refine ⟨?_, ?_, ?_, ?_, [], [], fun W K => ?run⟩
  case run =>
    simp only [cc0_mlp_bwd_eq_skeleton]; unfold cc0_mlp_bwd_skel
    simp only [k0_part11_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hq16, Hq17, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg16.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg16.read_unread _
      iexact HS0
    isplitl [HS1]
    · iexists _; isplitr; · ipureintro; exact harg17.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [Hh3]; · iexact Hh3
    iexists _; iexact HW

end Cert.MlpBwdIdeal.Gen

end
-- ==== Proof.MlpFrame.lean ====
module

public import proofs.«01_k».proof.Proof.MlpRun
public import Idealize.ShloMosaic.Lib.Claim

@[expose] public section

set_option maxRecDepth 16384
set_option maxHeartbeats 8000000

/-! The launch of the kernel: what each point leaves, the invariant between points, which carries the weights in the
scratch, and the frame. The statements follow the generated set-up of the launch. -/

noncomputable section

namespace Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).1, y ∈ pc.1.set :=
  View.cover_of_tiledL (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).1 S256x1024.size (by sl_kernel_rfl) y

def out0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_7.read (Elt F) (VO0_7.writes (Elt F) VO0_7.junk (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).1)

theorem cover0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.1, y ∈ pc.1.set :=
  View.cover_of_tiledL (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.1 S256x4096.size (by sl_kernel_rfl) y

def out0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_8.read (Elt F) (VO0_8.writes (Elt F) VO0_8.junk (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.1)

theorem cover0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.1, y ∈ pc.1.set :=
  View.cover_of_tiledL (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.1 S256x1024.size (by sl_kernel_rfl) y

def out0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_9.read (Elt F) (VO0_9.writes (Elt F) VO0_9.junk (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.1)

theorem cover0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) (y : S1x8x1024.Idx) :
    ∃ pc ∈ (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.1, y ∈ pc.1.set :=
  View.cover_of_tiledBy (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.1 ![1, 1, 1024] (by sl_kernel_rfl) y

def out0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S1x8x1024 .f32 :=
  VO0_10.read (Elt F) (VO0_10.writes (Elt F) VO0_10.junk (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.1)

theorem scover0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) (y : S4096x1024.Idx) :
    ∃ pc ∈ (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.2.1, y ∈ pc.1.set :=
  View.cover_of_tiledBy (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.2.1 ![4096, 128] (by sl_kernel_rfl) y

def sout0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S4096x1024 .bf16 :=
  VS0_0.read (Elt F) (VS0_0.writes (Elt F) VS0_0.junk (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.2.1)

theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) (y : S1024x4096.Idx) :
    ∃ pc ∈ (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.2.2.1, y ∈ pc.1.set :=
  View.cover_of_tiledL (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.2.2.1 S512x512.size (by sl_kernel_rfl) y

def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S1024x4096 .bf16 :=
  VS0_1.read (Elt F) (VS0_1.writes (Elt F) VS0_1.junk (kernelRun0_A c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 fh0 fh1 fh2 fh3).2.2.2.2.2.1)

theorem cover0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).1, y ∈ pc.1.set :=
  View.cover_of_tiledL (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).1 S256x1024.size (by sl_kernel_rfl) y

def out0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_7.read (Elt F) (VO0_7.writes (Elt F) VO0_7.junk (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).1)

theorem cover0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.1, y ∈ pc.1.set :=
  View.cover_of_tiledL (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.1 S256x4096.size (by sl_kernel_rfl) y

def out0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_8.read (Elt F) (VO0_8.writes (Elt F) VO0_8.junk (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.1)

theorem cover0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.2.1, y ∈ pc.1.set :=
  View.cover_of_tiledL (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.2.1 S256x1024.size (by sl_kernel_rfl) y

def out0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_9.read (Elt F) (VO0_9.writes (Elt F) VO0_9.junk (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.2.1)

def out0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S1x8x1024 .f32 :=
  arg15.view.read (Elt F) (arg15.view.writes (Elt F) (harg15.unread xo10) (kernelRun0_B c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xo10 xs0 xs1 fh0 fh1 fh2 fh3).2.2.2.1)

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S4096x1024 .bf16 := xs0

def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : ¬cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xo10 : Vec F S1x8x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S1024x4096 .bf16 := xs1

theorem cover0_C_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).1, y ∈ pc.1.set :=
  View.cover_of_tiledL (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).1 S256x1024.size (by sl_kernel_rfl) y

def out0_C_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_7.read (Elt F) (VO0_7.writes (Elt F) VO0_7.junk (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).1)

theorem cover0_C_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.1, y ∈ pc.1.set :=
  View.cover_of_tiledL (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.1 S256x4096.size (by sl_kernel_rfl) y

def out0_C_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_8.read (Elt F) (VO0_8.writes (Elt F) VO0_8.junk (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.1)

theorem cover0_C_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.2.1, y ∈ pc.1.set :=
  View.cover_of_tiledL (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.2.1 S256x1024.size (by sl_kernel_rfl) y

def out0_C_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_9.read (Elt F) (VO0_9.writes (Elt F) VO0_9.junk (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.2.1)

theorem cover0_C_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) (y : S1x8x1024.Idx) :
    ∃ pc ∈ (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.2.2.1, y ∈ pc.1.set :=
  View.cover_of_tiledBy (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.2.2.1 ![1, 1, 1024] (by sl_kernel_rfl) y

def out0_C_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S1x8x1024 .f32 :=
  VO0_10.read (Elt F) (VO0_10.writes (Elt F) VO0_10.junk (kernelRun0_C c i arg1 harg1 arg2 harg2 arg3 harg3 arg4 harg4 arg5 harg5 arg6 harg6 arg7 harg7 arg12 harg12 arg13 harg13 arg14 harg14 arg15 harg15 arg16 harg16 arg17 harg17 hc0 hc1 x0 x1 x2 x3 x4 x5 x6 xs0 xs1 fh0 fh1 fh2 fh3).2.2.2.1)

def sout0_C_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S4096x1024 .bf16 := xs0

def sout0_C_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S256x1024 .f32) (harg12 : arg12.IsWhole) (arg13 : Memref sig .tc .vmem S256x4096 .bf16) (harg13 : arg13.IsWhole) (arg14 : Memref sig .tc .vmem S256x1024 .bf16) (harg14 : arg14.IsWhole) (arg15 : Memref sig .tc .vmem S1x8x1024 .f32) (harg15 : arg15.IsWhole) (arg16 : Memref sig .tc .vmem S4096x1024 .bf16) (harg16 : arg16.IsWhole) (arg17 : Memref sig .tc .vmem S1024x4096 .bf16) (harg17 : arg17.IsWhole) (hc0 : ¬cond0_0 i) (hc1 : cond0_1 i)
    (x0 : Vec F S256x1024 .f32) (x1 : Vec F S256x1024 .f32) (x2 : Vec F S256x4096 .f32) (x3 : Vec F S256x1024 .f32) (x4 : Vec F S1x8x1024 .f32) (x5 : Vec F S1x1024 .f32) (x6 : Vec F S1x1024 .f32) (xs0 : Vec F S4096x1024 .bf16) (xs1 : Vec F S1024x4096 .bf16) (fh0 : HbBuf0 (F := F) c hbM0_0) (fh1 : HbBuf0 (F := F) c hbM0_1) (fh2 : HbBuf0 (F := F) c hbM0_2) (fh3 : HbBuf0 (F := F) c hbM0_3) : Vec F S1024x4096 .bf16 := xs1

def outsAt0 (c : Dev nD) : (n : ℕ) → n < cfg0.N → Vec F S256x1024 .f32 × Vec F S256x4096 .bf16 × Vec F S256x1024 .bf16 × Vec F S1x8x1024 .f32 × Vec F S4096x1024 .bf16 × Vec F S1024x4096 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v32) (V m c main_v34) (V m c main_v35) (V m c main_v36), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v32) (V m c main_v34) (V m c main_v35) (V m c main_v36), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v32) (V m c main_v34) (V m c main_v35) (V m c main_v36), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v32) (V m c main_v34) (V m c main_v35) (V m c main_v36), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v32) (V m c main_v34) (V m c main_v35) (V m c main_v36), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v32) (V m c main_v34) (V m c main_v35) (V m c main_v36))
  | n + 1, hn =>
    if h0 : (n + 1) % 16 = 0 then
      if h1 : (n + 1) % 8 = 0 then
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v32) (V m c main_v34) (V m c main_v35) (V m c main_v36), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v32) (V m c main_v34) (V m c main_v35) (V m c main_v36), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v32) (V m c main_v34) (V m c main_v35) (V m c main_v36), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v32) (V m c main_v34) (V m c main_v35) (V m c main_v36), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v32) (V m c main_v34) (V m c main_v35) (V m c main_v36), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v32) (V m c main_v34) (V m c main_v35) (V m c main_v36))
      else
        False.elim (by have hN : n + 1 < 16 := lt_of_lt_of_eq hn (show cfg0.N = 16 from N_0); omega)
    else
      if h1 : (n + 1) % 8 = 0 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_v32) (V m c main_v34) (V m c main_v35) (V m c main_v36), out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_v32) (V m c main_v34) (V m c main_v35) (V m c main_v36), out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_v32) (V m c main_v34) (V m c main_v35) (V m c main_v36), out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_v32) (V m c main_v34) (V m c main_v35) (V m c main_v36), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_v32) (V m c main_v34) (V m c main_v35) (V m c main_v36), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_v32) (V m c main_v34) (V m c main_v35) (V m c main_v36))
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v32) (V m c main_v34) (V m c main_v35) (V m c main_v36), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v32) (V m c main_v34) (V m c main_v35) (V m c main_v36), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v32) (V m c main_v34) (V m c main_v35) (V m c main_v36), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v32) (V m c main_v34) (V m c main_v35) (V m c main_v36), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v32) (V m c main_v34) (V m c main_v35) (V m c main_v36), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v32) (V m c main_v34) (V m c main_v35) (V m c main_v36))

theorem outsAt0_A (c : Dev nD) (t : Fin cfg0.N) (h0 : t.val % 16 = 0) (h1 : t.val % 8 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36)) := by
  obtain ⟨n, hn⟩ := t
  cases n with
  | zero => exact rfl
  | succ n => exact (dif_pos h0).trans ((dif_pos h1).trans rfl)

theorem outsAt0_B (c : Dev nD) (t : Fin cfg0.N) (h0 : ¬t.val % 16 = 0) (h1 : ¬t.val % 8 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 8 = 0) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v32) (V m c main_v34) (V m c main_v35) (V m c main_v36)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_v32) ∗ hbPt0 c hbM0_1 (V m c main_v34) ∗ hbPt0 c hbM0_2 (V m c main_v35) ∗ hbPt0 c hbM0_3 (V m c main_v36)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_v32) ∗ hbPt0 c hbM0_1 (V m c main_v34) ∗ hbPt0 c hbM0_2 (V m c main_v35) ∗ hbPt0 c hbM0_3 (V m c main_v36))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_v32) ∗ hbPt0 c hbM0_1 (V m c main_v34) ∗ hbPt0 c hbM0_2 (V m c main_v35) ∗ hbPt0 c hbM0_3 (V m c main_v36))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_10_B (c : Dev nD) (t : Fin cfg0.N) (h0 : ¬t.val % 16 = 0) (h1 : ¬t.val % 8 = 0) (d) :
    (dats m 0 c).before 10 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 8 = 0
    · by_cases hz : t.val = 0
      · rw [PhiS_castSucc m c t, PhiS_zero m c _ _ hz, PhiD0_eq]
        rw [outsAt0_A m c t h0 h1]
        unfold out0_A_7 out0_A_8 out0_A_9 out0_A_10 sout0_A_0 sout0_A_1; (try dsimp only)
        iintro ⟨⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (V m c main_v32) (V m c main_v34) (V m c main_v35) (V m c main_v36)).2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, H6, ⟨%e7, H7⟩, ⟨%e8, H8⟩, ⟨%e9, H9⟩, ⟨%e10, H10⟩, ⟨%es0, HS0⟩, ⟨%es1, HS1⟩, Hq0, Hq1, Hq2, Hq3, Hq4, Hq5, Hq6, Hq7, Hq8, Hq9, Hq10, Hq11, Hq12, Hq13, Hq14, Hq15, Hq16, Hq17, Hh0, Hh1, Hh2, Hh3, ⟨%W', HW'⟩⟩
        isplitl [HS0 HS1 Hg Hq0 Hq1 Hq2 Hq3 Hq4 Hq5 Hq6 Hq7 Hq8 Hq9 Hq10 Hq11 Hq12 Hq13 Hq14 Hq15 Hq16 Hq17 Hh0 Hh1 Hh2 Hh3]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _)
          isplitl [Hg]
          · iexact Hg
          isplitl [Hq0 Hq1 Hq2 Hq3 Hq4 Hq5 Hq6 Hq7 Hq8 Hq9 Hq10 Hq11 Hq12 Hq13 Hq14 Hq15 Hq16 Hq17]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            iexact Hq17
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _)
      · exfalso; have hN : t.val < 16 := lt_of_lt_of_eq t.isLt (show cfg0.N = 16 from N_0); omega
    · exfalso; omega
  · by_cases h1 : t.val % 8 = 0
    · by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_7 out0_C_8 out0_C_9 out0_C_10 sout0_C_0 sout0_C_1; (try dsimp only)
        iintro ⟨⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ (V m c main_v32) (V m c main_v34) (V m c main_v35) (V m c main_v36)).2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, H6, ⟨%e7, H7⟩, ⟨%e8, H8⟩, ⟨%e9, H9⟩, ⟨%e10, H10⟩, HS0, HS1, Hq0, Hq1, Hq2, Hq3, Hq4, Hq5, Hq6, Hq7, Hq8, Hq9, Hq10, Hq11, Hq12, Hq13, Hq14, Hq15, Hq16, Hq17, Hh0, Hh1, Hh2, Hh3, ⟨%W', HW'⟩⟩
        isplitl [HS0 HS1 Hg Hq0 Hq1 Hq2 Hq3 Hq4 Hq5 Hq6 Hq7 Hq8 Hq9 Hq10 Hq11 Hq12 Hq13 Hq14 Hq15 Hq16 Hq17 Hh0 Hh1 Hh2 Hh3]
        · isplitl [HS0 HS1]
          · isplitl [HS0]; · iexact HS0
            iexact HS1
          isplitl [Hg]
          · iexact Hg
          isplitl [Hq0 Hq1 Hq2 Hq3 Hq4 Hq5 Hq6 Hq7 Hq8 Hq9 Hq10 Hq11 Hq12 Hq13 Hq14 Hq15 Hq16 Hq17]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            iexact Hq17
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _)
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_10_B m c t h0 h1]
        unfold out0_B_7 out0_B_8 out0_B_9 out0_B_10 sout0_B_0 sout0_B_1; (try dsimp only)
        iintro ⟨⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ (V m c main_v32) (V m c main_v34) (V m c main_v35) (V m c main_v36)).2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexact H10
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, H6, ⟨%e7, H7⟩, ⟨%e8, H8⟩, ⟨%e9, H9⟩, H10, HS0, HS1, Hq0, Hq1, Hq2, Hq3, Hq4, Hq5, Hq6, Hq7, Hq8, Hq9, Hq10, Hq11, Hq12, Hq13, Hq14, Hq15, Hq16, Hq17, Hh0, Hh1, Hh2, Hh3, ⟨%W', HW'⟩⟩
        isplitl [HS0 HS1 Hg Hq0 Hq1 Hq2 Hq3 Hq4 Hq5 Hq6 Hq7 Hq8 Hq9 Hq10 Hq11 Hq12 Hq13 Hq14 Hq15 Hq16 Hq17 Hh0 Hh1 Hh2 Hh3]
        · isplitl [HS0 HS1]
          · isplitl [HS0]; · iexact HS0
            iexact HS1
          isplitl [Hg]
          · iexact Hg
          isplitl [Hq0 Hq1 Hq2 Hq3 Hq4 Hq5 Hq6 Hq7 Hq8 Hq9 Hq10 Hq11 Hq12 Hq13 Hq14 Hq15 Hq16 Hq17]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            iexact Hq17
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _)
        unfold owns; iexists _; isplitr
        swap; · iexact H10
        ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15 Hq16 Hq17]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    iexact Hq17
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.MlpBwdIdeal.Gen

end
-- ==== Proof.MlpBlocks.lean ====
module

public import proofs.«01_k».proof.Proof.MlpFrame
public import Idealize.ShloMosaic.Lib.Pipeline.Value

@[expose] public section

/-! The arrays after a launch, block by block. The statements follow the generated set-up of the launch. -/

noncomputable section

namespace Cert.MlpBwdIdeal.Value

open Cert.MlpBwdIdeal Cert.MlpBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post7 (r : PUnit × MemSt nD τ sig (Elt F)) (h : Pipeline.FramePost cfgs (dats m) 0 (V m) r) (c : Dev nD) :
    r.2.mem ((c : Thread nD τ).loc main_v37_0) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v37_1) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v37_2) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v37_3) = (dats m 0 c).arrAt 10 cfg0.N :=
  (h c).1 10

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem run_blocks : θ_run defs (onTc (τ := τ) (main (F := F))) ⟨m, fun _ => 0, ρ⟩ fun r => ∀ c : Dev nD,
      r.2.mem ((c : Thread nD τ).loc main_v37_0) = (dats m 0 c).arrAt 7 cfg0.N
      ∧ r.2.mem ((c : Thread nD τ).loc main_v37_1) = (dats m 0 c).arrAt 8 cfg0.N
      ∧ r.2.mem ((c : Thread nD τ).loc main_v37_2) = (dats m 0 c).arrAt 9 cfg0.N
      ∧ r.2.mem ((c : Thread nD τ).loc main_v37_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.MlpBwdIdeal.Value

end
-- ==== Proof.MlpSpec.lean ====
module

public import proofs.«01_k».proof.Proof.MixSpec

@[expose] public section

/-! What the gradient of the MLP's residual and of the loss after it is, over real numbers. -/

noncomputable section

namespace Cert.Mlp

open Cert.Reals
open Cert.Mix (seq tok)
open scoped BigOperators

/-- The arguments: the tokens, the target, the eight rows of modulation of each sequence, the weights of the two norms
    and the weights of the two products. -/
structure Args where
  x : Fin 4096 → Fin 1024 → ℝ
  tgt : Fin 4096 → Fin 1024 → ℝ
  md : Fin 2 → Fin 8 → Fin 1024 → ℝ
  pw : Fin 1 → Fin 1024 → ℝ
  qw : Fin 1 → Fin 1024 → ℝ
  wu : Fin 1024 → Fin 4096 → ℝ
  wd : Fin 4096 → Fin 1024 → ℝ

/-- A residual's error: a row `x`, to which the normed row `d` is added, against the row `t`. -/
def err (x t d g q : Fin 1024 → ℝ) (l : Fin 1024) : ℝ := x l + g l * (d l * rms 1024 d * q l) - t l

/-- The gradient of the halved mean square of an error. -/
def gradErr (x t d g q : Fin 1024 → ℝ) (l : Fin 1024) : ℝ := err x t d g q l * (1 / 1024)

/-- Its gradient in the row `d` before the norm. -/
def gradDown (x t d g q : Fin 1024 → ℝ) (l : Fin 1024) : ℝ :=
  normGrad 1024 d (fun l => gradErr x t d g q l * g l * q l) l

/-- The gradient of the squared positive part `u` of a product, from the gradient `dd` after the second product. -/
def gradUp (wd : Fin 4096 → Fin 1024 → ℝ) (dd : Fin 1024 → ℝ) (u : Fin 4096 → ℝ) (j : Fin 4096) : ℝ :=
  (∑ l, dd l * wd j l) * (2 * max (u j) 0)

/-- The gradient of a row before the first product. -/
def gradHid (wu : Fin 1024 → Fin 4096 → ℝ) (du : Fin 4096 → ℝ) (l : Fin 1024) : ℝ := ∑ j, du j * wu l j

/-- The gradient of the row before the modulation and the norm's weight. -/
def gradNormed (dh s p : Fin 1024 → ℝ) (l : Fin 1024) : ℝ := dh l * (1 + s l) * p l

variable (A : Args)

/-- The normed tokens. -/
def normed (n : Fin 4096) (l : Fin 1024) : ℝ := A.x n l * rms 1024 (A.x n)

/-- The normed tokens with the norm's weight. -/
def scaled (n : Fin 4096) (l : Fin 1024) : ℝ := normed A n l * A.pw 0 l

/-- The modulated tokens. -/
def hid (n : Fin 4096) (l : Fin 1024) : ℝ := scaled A n l * (1 + A.md (seq n) 4 l) + A.md (seq n) 3 l

/-- The first product. -/
def up (n : Fin 4096) (j : Fin 4096) : ℝ := ∑ l, hid A n l * A.wu l j

/-- The second product, of the squared positive part of the first. -/
def down (n : Fin 4096) (l : Fin 1024) : ℝ := ∑ j, max (up A n j) 0 * max (up A n j) 0 * A.wd j l

/-- The normed second product. -/
def downNormed (n : Fin 4096) (l : Fin 1024) : ℝ := down A n l * rms 1024 (down A n)

/-- The error. -/
def error (n : Fin 4096) : Fin 1024 → ℝ := err (A.x n) (A.tgt n) (down A n) (A.md (seq n) 5) (A.qw 0)

/-- The gradient that the loss gives to the residual's sum. -/
def dy (n : Fin 4096) : Fin 1024 → ℝ := gradErr (A.x n) (A.tgt n) (down A n) (A.md (seq n) 5) (A.qw 0)

/-- The gradient of the second product. -/
def dd (n : Fin 4096) : Fin 1024 → ℝ := gradDown (A.x n) (A.tgt n) (down A n) (A.md (seq n) 5) (A.qw 0)

/-- The gradient of the first product. -/
def dup (n : Fin 4096) : Fin 4096 → ℝ := gradUp A.wd (dd A n) (up A n)

/-- The gradient of the modulated tokens. -/
def dhid (n : Fin 4096) : Fin 1024 → ℝ := gradHid A.wu (dup A n)

/-- The gradient of the tokens. -/
def dx (n : Fin 4096) (l : Fin 1024) : ℝ :=
  dy A n l + normGrad 1024 (A.x n) (gradNormed (dhid A n) (A.md (seq n) 4) (A.pw 0)) l

/-- What a token adds to the loss. -/
def loss (n : Fin 4096) : ℝ := 1 / 2 * (∑ l, error A n l * error A n l) / 1024

/-- The rows that a token adds to its sequence's block of sums: the shift's, the scale's, the gate's, those of the two
    norms' weights, the loss and two of zero. -/
def rows (n : Fin 4096) (r : Fin 8) (l : Fin 1024) : ℝ :=
  if r.val = 0 then dhid A n l
  else if r.val = 1 then dhid A n l * scaled A n l
  else if r.val = 2 then dy A n l * (downNormed A n l * A.qw 0 l)
  else if r.val = 3 then dhid A n l * (1 + A.md (seq n) 4 l) * normed A n l
  else if r.val = 4 then dy A n l * A.md (seq n) 5 l * downNormed A n l
  else if r.val = 5 then loss A n else 0

/-- The block of sums of a sequence. -/
def acc (b : Fin 2) (r : Fin 8) (l : Fin 1024) : ℝ := ∑ s, rows A (tok b s) r l

end Cert.Mlp

end
-- ==== Proof.MlpPure.lean ====
module

public import proofs.«01_k».proof.Proof.Gen.MlpBwdIdeal.Skeleton
public import Idealize.ShloMosaic.Lib.Pipeline.ValueKit
public import Idealize.ShloMosaic.Lib.Claim
public import proofs.«01_k».proof.Proof.MlpSpec

@[expose] public section

set_option maxRecDepth 16384

/-! The kernel's arithmetic on one tile of 256 tokens, read at real numbers. -/

noncomputable section

namespace Cert.MlpBwdIdeal.Pure

open Cert.MlpBwdIdeal Cert.MlpBwdIdeal.Gen Cert.Reals Cert.Mlp
open Idealize.ShloMosaic Idealize.ShloMosaic.TcCoe Idealize.SL.Sem
open scoped BigOperators

/-- The positive part of a real number. -/
theorem max_coe_zero (u : ℝ) : max (u : EReal) 0 = ((max u 0 : ℝ) : EReal) :=
  (EReal.coe_strictMono.monotone.map_max (a := u) (b := 0)).symm

section Norm
variable (x : Fin 256 → Fin 1024 → ℝ) (p : Fin 1 → Fin 1024 → ℝ)
variable {X : S256x1024.Idx → EReal} {P : S1x1024.Idx → EReal}
variable (hX : ∀ r l, X (ix2 r l) = (x r l : EReal)) (hP : ∀ z l, P (ix2 z l) = (p z l : EReal))

include hX in
/-- The reciprocal root mean square of a row. -/
theorem pay3 (r : Fin 256) (z : Fin 1) : k0_pay3 (F := Ideal) X (ix2 r z) = (rms 1024 (x r) : EReal) := by
  pointwise [k0_pay3]
  simp only [hX, ← EReal.coe_mul, sum_coe, div_1024]
  exact rsqrt_meanSq _

include hX in
/-- The normed row. -/
theorem pay4 (r : Fin 256) (l : Fin 1024) : k0_pay4 (F := Ideal) X (ix2 r l) = ((x r l * rms 1024 (x r) : ℝ) : EReal) := by
  pointwise [k0_pay4, pay3 x hX]
  simp only [hX, ← EReal.coe_mul]

include hX hP in
/-- The normed row with the norm's weight. -/
theorem pay5 (r : Fin 256) (l : Fin 1024) : k0_pay5 (F := Ideal) X P (ix2 r l)
    = ((x r l * rms 1024 (x r) * p 0 l : ℝ) : EReal) := by
  pointwise [k0_pay5, pay4 x hX]
  simp only [hP, ← EReal.coe_mul]
end Norm

section Residual
variable (x d t : Fin 256 → Fin 1024 → ℝ) (g : Fin 1024 → ℝ) (q : Fin 1 → Fin 1024 → ℝ)
variable {X D T : S256x1024.Idx → EReal} {G : S1x1x1024.Idx → EReal} {Q : S1x1024.Idx → EReal}
variable (hX : ∀ r l, X (ix2 r l) = (x r l : EReal)) (hD : ∀ r l, D (ix2 r l) = (d r l : EReal))
variable (hT : ∀ r l, T (ix2 r l) = (t r l : EReal))
variable (hG : ∀ l, G (ix3 0 0 l) = (g l : EReal)) (hQ : ∀ z l, Q (ix2 z l) = (q z l : EReal))

include hD in
/-- The reciprocal root mean square of a row of the second product. -/
theorem pay8 (r : Fin 256) (z : Fin 1) : k0_pay8 (F := Ideal) (k0_pay7 D) (ix2 r z) = (rms 1024 (d r) : EReal) := by
  pointwise [k0_pay8, k0_pay7, k0_pay6]
  simp only [hD, ← EReal.coe_mul, sum_coe, div_1024]
  exact rsqrt_meanSq _

include hD in
/-- The normed second product. -/
theorem pay9 (r : Fin 256) (l : Fin 1024) : k0_pay9 (F := Ideal) (k0_pay6 D) (k0_pay7 D) (ix2 r l)
    = ((d r l * rms 1024 (d r) : ℝ) : EReal) := by
  pointwise [k0_pay9, k0_pay6, pay8 d hD]
  simp only [hD, ← EReal.coe_mul]

include hD hQ in
/-- The normed second product with the norm's weight. -/
theorem pay10 (r : Fin 256) (l : Fin 1024) : k0_pay10 (F := Ideal) (k0_pay6 D) (k0_pay7 D) Q (ix2 r l)
    = ((d r l * rms 1024 (d r) * q 0 l : ℝ) : EReal) := by
  pointwise [k0_pay10, pay9 d hD]
  simp only [hQ, ← EReal.coe_mul]

include hX hD hT hG hQ in
/-- The error. -/
theorem pay11 (r : Fin 256) (l : Fin 1024) : k0_pay11 (F := Ideal) (k0_pay2 G) X (k0_pay6 D) (k0_pay7 D) Q T (ix2 r l)
    = (err (x r) (t r) (d r) g (q 0) l : EReal) := by
  pointwise [k0_pay11, k0_pay2, pay10 d q hD hQ]
  simp only [hX, hT, hG, ← EReal.coe_mul, ← EReal.coe_add, ← EReal.coe_sub]
  rfl

include hX hD hT hG hQ in
/-- The loss of a tile. -/
theorem pay12 (z w : Fin 1) : k0_pay12 (F := Ideal) (k0_pay2 G) X (k0_pay6 D) (k0_pay7 D) Q T (ix2 z w)
    = ((∑ r, 1 / 2 * (∑ l, err (x r) (t r) (d r) g (q 0) l * err (x r) (t r) (d r) g (q 0) l) / 1024 : ℝ) : EReal) := by
  pointwise [k0_pay12, pay11 x d t g q hX hD hT hG hQ]
  simp only [← EReal.coe_mul, sum_coe, ofBits_half, div_1024]
  rw [Finset.sum_comm, Finset.mul_sum, Finset.sum_div]

include hX hD hT hG hQ in
/-- The gradient of the residual's sum. -/
theorem pay13 (r : Fin 256) (l : Fin 1024) : k0_pay13 (F := Ideal) (k0_pay2 G) X (k0_pay6 D) (k0_pay7 D) Q T (ix2 r l)
    = (gradErr (x r) (t r) (d r) g (q 0) l : EReal) := by
  pointwise [k0_pay13, pay11 x d t g q hX hD hT hG hQ]
  rw [ofBits_inv_1024, ← EReal.coe_mul]
  rfl

include hX hD hT hG hQ in
/-- The gate's row of sums. -/
theorem pay14 (l : Fin 1024) : k0_pay14 (F := Ideal) (k0_pay2 G) X (k0_pay6 D) (k0_pay7 D) Q T (ix2 0 l)
    = ((∑ r, gradErr (x r) (t r) (d r) g (q 0) l * (d r l * rms 1024 (d r) * q 0 l) : ℝ) : EReal) := by
  pointwise [k0_pay14, pay13 x d t g q hX hD hT hG hQ, pay10 d q hD hQ]
  simp only [← EReal.coe_mul, sum_coe]

include hG in
/-- The gate's row. -/
theorem pay2 (l : Fin 1024) : k0_pay2 (F := Ideal) G (ix2 0 l) = (g l : EReal) := by
  pointwise [k0_pay2, hG]

include hX hD hT hG hQ in
/-- The gradient of the gated row. -/
theorem pay15 (r : Fin 256) (l : Fin 1024) : k0_pay15 (F := Ideal) (k0_pay2 G) X (k0_pay6 D) (k0_pay7 D) Q T (ix2 r l)
    = ((gradErr (x r) (t r) (d r) g (q 0) l * g l : ℝ) : EReal) := by
  pointwise [k0_pay15, pay2 g hG, pay13 x d t g q hX hD hT hG hQ]
  simp only [← EReal.coe_mul]

include hX hD hT hG hQ in
/-- The second weight's row of sums. -/
theorem pay16 (l : Fin 1024) : k0_pay16 (F := Ideal) (k0_pay2 G) X (k0_pay6 D) (k0_pay7 D) Q T (ix2 0 l)
    = ((∑ r, gradErr (x r) (t r) (d r) g (q 0) l * g l * (d r l * rms 1024 (d r)) : ℝ) : EReal) := by
  pointwise [k0_pay16, pay15 x d t g q hX hD hT hG hQ, pay9 d hD]
  simp only [← EReal.coe_mul, sum_coe]

include hX hD hT hG hQ in
/-- The gradient of the normed second product. -/
theorem pay17 (r : Fin 256) (l : Fin 1024) : k0_pay17 (F := Ideal) (k0_pay2 G) X (k0_pay6 D) (k0_pay7 D) Q T Q (ix2 r l)
    = ((gradErr (x r) (t r) (d r) g (q 0) l * g l * q 0 l : ℝ) : EReal) := by
  pointwise [k0_pay17, pay15 x d t g q hX hD hT hG hQ]
  simp only [hQ, ← EReal.coe_mul]

include hX hD hT hG hQ in
/-- The gradient of the second product. -/
theorem pay20 (r : Fin 256) (l : Fin 1024) :
    k0_pay20 (F := Ideal) (k0_pay8 (k0_pay7 D)) (k0_pay9 (k0_pay6 D) (k0_pay7 D))
      (k0_pay17 (k0_pay2 G) X (k0_pay6 D) (k0_pay7 D) Q T Q) (k0_pay18 (k0_pay2 G) X (k0_pay6 D) (k0_pay7 D) Q T Q) k0_pay19 (ix2 r l)
    = (gradDown (x r) (t r) (d r) g (q 0) l : EReal) := by
  pointwise [k0_pay20, k0_pay18, k0_pay19, pay17 x d t g q hX hD hT hG hQ, pay8 d hD, pay9 d hD]
  simp only [← EReal.coe_mul, sum_coe, div_1024, ← EReal.coe_sub]
  rfl
end Residual

section Products
variable (dd : Fin 256 → Fin 1024 → ℝ) (u : Fin 256 → Fin 4096 → ℝ) (wd : Fin 4096 → Fin 1024 → ℝ)
variable (wu : Fin 1024 → Fin 4096 → ℝ) (du : Fin 256 → Fin 4096 → ℝ)
variable {R C M : S256x1.Idx → EReal} {N E : S256x1024.Idx → EReal} {U : S256x4096.Idx → EReal}
variable {WD : S4096x1024.Idx → EReal} {WU : S1024x4096.Idx → EReal}
variable (hDD : ∀ r l, k0_pay20 (F := Ideal) R N E C M (ix2 r l) = (dd r l : EReal))
variable (hU : ∀ r j, U (ix2 r j) = (u r j : EReal)) (hWD : ∀ j l, WD (ix2 j l) = (wd j l : EReal))
variable (hWU : ∀ l j, WU (ix2 l j) = (wu l j : EReal))
variable (hDU : ∀ r j, k0_pay21 (F := Ideal) R N E C M U WD (ix2 r j) = (du r j : EReal))

include hDD hU hWD in
/-- The gradient of the first product. -/
theorem pay21 (r : Fin 256) (j : Fin 4096) : k0_pay21 (F := Ideal) R N E C M U WD (ix2 r j) = (gradUp wd (dd r) (u r) j : EReal) := by
  pointwise [k0_pay21, hDD]
  simp only [hU, hWD, ← EReal.coe_mul, sum_coe]
  rw [ofBits_two, max_coe_zero, ← EReal.coe_mul, ← EReal.coe_mul]
  rfl

include hDU hWU in
/-- The gradient of the modulated row. -/
theorem pay22 (r : Fin 256) (l : Fin 1024) : k0_pay22 (F := Ideal) R N E C M U WD WU (ix2 r l)
    = (gradHid wu (du r) l : EReal) := by
  pointwise [k0_pay22, hDU]
  simp only [hWU, ← EReal.coe_mul, sum_coe]
  rfl
end Products

section Tokens
variable (x dh dy n : Fin 256 → Fin 1024 → ℝ) (s : Fin 1024 → ℝ) (p : Fin 1 → Fin 1024 → ℝ)
variable {R C M : S256x1.Idx → EReal} {N E X Y Z : S256x1024.Idx → EReal} {U : S256x4096.Idx → EReal}
variable {WD : S4096x1024.Idx → EReal} {WU : S1024x4096.Idx → EReal} {S : S1x1x1024.Idx → EReal} {P : S1x1024.Idx → EReal}
variable (hX : ∀ r l, X (ix2 r l) = (x r l : EReal)) (hY : ∀ r l, Y (ix2 r l) = (dy r l : EReal))
variable (hZ : ∀ r l, Z (ix2 r l) = (n r l : EReal))
variable (hH : ∀ r l, k0_pay22 (F := Ideal) R N E C M U WD WU (ix2 r l) = (dh r l : EReal))
variable (hS : ∀ l, S (ix3 0 0 l) = (s l : EReal)) (hP : ∀ z l, P (ix2 z l) = (p z l : EReal))

include hH in
/-- The shift's row of sums. -/
theorem pay23 (l : Fin 1024) : k0_pay23 (F := Ideal) R N E C M U WD WU (ix2 0 l) = ((∑ r, dh r l : ℝ) : EReal) := by
  pointwise [k0_pay23, hH]
  simp only [sum_coe]

include hH hZ in
/-- The scale's row of sums. -/
theorem pay24 (l : Fin 1024) : k0_pay24 (F := Ideal) Z R N E C M U WD WU (ix2 0 l) = ((∑ r, dh r l * n r l : ℝ) : EReal) := by
  pointwise [k0_pay24, hH]
  simp only [hZ, ← EReal.coe_mul, sum_coe]

include hH hS in
/-- The gradient of the normed row with its weight. -/
theorem pay25 (r : Fin 256) (l : Fin 1024) : k0_pay25 (F := Ideal) (k0_pay1 S) R N E C M U WD WU (ix2 r l)
    = ((dh r l * (1 + s l) : ℝ) : EReal) := by
  pointwise [k0_pay25, k0_pay1, hH]
  simp only [hS, EReal.coe_mul, EReal.coe_add, EReal.coe_one]

include hH hS hX in
/-- The first weight's row of sums. -/
theorem pay26 (l : Fin 1024) : k0_pay26 (F := Ideal) (k0_pay1 S) (k0_pay4 X) R N E C M U WD WU (ix2 0 l)
    = ((∑ r, dh r l * (1 + s l) * (x r l * rms 1024 (x r)) : ℝ) : EReal) := by
  pointwise [k0_pay26, pay25 dh s hH hS, pay4 x hX]
  simp only [← EReal.coe_mul, sum_coe]

include hH hS hP in
/-- The gradient of the normed row. -/
theorem pay27 (r : Fin 256) (l : Fin 1024) : k0_pay27 (F := Ideal) (k0_pay1 S) R N E C M U WD WU P (ix2 r l)
    = (gradNormed (dh r) s (p 0) l : EReal) := by
  pointwise [k0_pay27, pay25 dh s hH hS]
  simp only [hP, ← EReal.coe_mul]
  rfl

include hH hS hP hX hY in
/-- The gradient of the row. -/
theorem pay29 (r : Fin 256) (l : Fin 1024) :
    k0_pay29 (F := Ideal) (k0_pay3 X) (k0_pay4 X) Y (k0_pay27 (k0_pay1 S) R N E C M U WD WU P)
      (k0_pay28 (k0_pay1 S) (k0_pay4 X) R N E C M U WD WU P) (ix2 r l)
    = ((dy r l + normGrad 1024 (x r) (gradNormed (dh r) s (p 0)) l : ℝ) : EReal) := by
  pointwise [k0_pay29, k0_pay28, pay27 dh s p hH hS hP, pay3 x hX, pay4 x hX]
  simp only [hY, ← EReal.coe_mul, sum_coe, div_1024, ← EReal.coe_sub, ← EReal.coe_add]
  rfl
end Tokens

/-- The loss, spread over a row. -/
theorem pay30 (v : FVec Ideal S1x1 .f32) (l : Fin 1024) : k0_pay30 (F := Ideal) v (ix2 0 l) = v (ix2 0 0) := by
  pointwise [k0_pay30]

/-- The block is filled with zeros. -/
theorem pay31 (r : Fin 8) (l : Fin 1024) : k0_pay31 (F := Ideal) (ix3 0 r l) = 0 := by
  pointwise [k0_pay31]

/-- The first row of the block: a sum is added. -/
theorem pay32 (u : FVec Ideal S1x1024 .f32) (v : Vec Ideal S1x1x1024 .f32) (l : Fin 1024) :
    k0_pay32 (F := Ideal) u v (ix3 0 0 l) = (show EReal from v (ix3 0 0 l)) + u (ix2 0 l) := by
  pointwise [k0_pay32]

/-- The second row of the block: a sum is added. -/
theorem pay34 (u : FVec Ideal S1x1024 .f32) (v : Vec Ideal S1x1x1024 .f32) (l : Fin 1024) :
    k0_pay34 (F := Ideal) (k0_pay33 u v) (ix3 0 0 l) = (show EReal from v (ix3 0 0 l)) + u (ix2 0 l) := by
  pointwise [k0_pay34, k0_pay33]

/-- The third row of the block: a sum is added. -/
theorem pay35 (u : FVec Ideal S1x1024 .f32) (v : Vec Ideal S1x1x1024 .f32) (l : Fin 1024) :
    k0_pay35 (F := Ideal) u v (ix3 0 0 l) = (show EReal from v (ix3 0 0 l)) + u (ix2 0 l) := by
  pointwise [k0_pay35]

/-- The fourth row of the block: a sum is added. -/
theorem pay36 (u : FVec Ideal S1x1024 .f32) (v : Vec Ideal S1x1x1024 .f32) (l : Fin 1024) :
    k0_pay36 (F := Ideal) u v (ix3 0 0 l) = (show EReal from v (ix3 0 0 l)) + u (ix2 0 l) := by
  pointwise [k0_pay36]

/-- The fifth row of the block: a sum is added. -/
theorem pay37 (u : FVec Ideal S1x1024 .f32) (v : Vec Ideal S1x1x1024 .f32) (l : Fin 1024) :
    k0_pay37 (F := Ideal) u v (ix3 0 0 l) = (show EReal from v (ix3 0 0 l)) + u (ix2 0 l) := by
  pointwise [k0_pay37]

/-- The sixth row of the block: a sum is added. -/
theorem pay38 (u : FVec Ideal S1x1024 .f32) (v : Vec Ideal S1x1x1024 .f32) (l : Fin 1024) :
    k0_pay38 (F := Ideal) u v (ix3 0 0 l) = (show EReal from v (ix3 0 0 l)) + u (ix2 0 l) := by
  pointwise [k0_pay38]

end Cert.MlpBwdIdeal.Pure

end
-- ==== Proof.MlpRef.lean ====
module

public import proofs.«01_k».proof.Proof.Gen.MlpRefIdeal.Read
public import Idealize.ShloMosaic.Lib.Pointwise
public import proofs.«01_k».proof.Proof.MlpSpec

@[expose] public section

set_option maxRecDepth 16384

/-! The arrays that the reference leaves, at real arguments. -/

noncomputable section

namespace Cert.MlpRefIdeal.Value

open Cert.MlpRefIdeal Cert.MlpRefIdeal.Gen Cert.MlpRefIdeal.Read Cert.Reals Cert.Mlp
open Cert.Mix (seq tok)
open Idealize.ShloMosaic Idealize.ShloMosaic.TcCoe Idealize.SL.Sem
open scoped BigOperators

variable (A : Mlp.Args)

theorem seq_tok (b : Fin 2) (s : Fin 2048) : seq (tok b s) = b := by
  apply Fin.ext; show (b.val * 2048 + s.val) / 2048 = b.val; omega

theorem tok_divmod (n : Fin 4096) (h : n.val / 2048 < 2) (h' : n.val % 2048 < 2048) : tok ⟨n.val / 2048, h⟩ ⟨n.val % 2048, h'⟩ = n := by
  apply Fin.ext; show n.val / 2048 * 2048 + n.val % 2048 = n.val; omega

/-- The positive part of a real number. -/
theorem max_coe_zero (u : ℝ) : max (u : EReal) 0 = ((max u 0 : ℝ) : EReal) :=
  (EReal.coe_strictMono.monotone.map_max (a := u) (b := 0)).symm

/-- The tokens, by sequence. -/
theorem v7 (b : Fin 2) (s : Fin 2048) (l : Fin 1024) :
    val_main_v7 (F := Ideal) (arr2 A.x) (ix3 b s l)
      = ((A.x (tok b s) l : ℝ) : EReal) := by
  pointwise [val_main_v7, arr2_ix]
  rfl

/-- The mean square of the tokens plus epsilon. -/
theorem v14 (b : Fin 2) (s : Fin 2048) (z : Fin 1) :
    val_main_v14 (F := Ideal) (arr2 A.x) (ix3 b s z)
      = ((meanSq 1024 (A.x (tok b s)) : ℝ) : EReal) := by
  pointwise [val_main_v14, val_main_v12, val_main_v10, val_main_v9, val_main_v8, val_main_v7, val_main_v11, val_main_v13, val_main_cst_0,
    val_main_cst_1, val_main_cst, arr2_ix]
  simp only [← EReal.coe_mul, sum_coe, div_1024, ofBits_eps, ← EReal.coe_add]
  rfl

/-- The reciprocal root mean square. -/
theorem v15 (b : Fin 2) (s : Fin 2048) (z : Fin 1) :
    val_main_v15 (F := Ideal) (arr2 A.x) (ix3 b s z)
      = ((rms 1024 (A.x (tok b s)) : ℝ) : EReal) := by
  pointwise [val_main_v15, v14 A]
  exact rsqrt_coe (meanSq_pos (by norm_num) _)

/-- The derivative of the reciprocal root. -/
theorem v18 (b : Fin 2) (s : Fin 2048) (z : Fin 1) :
    val_main_v18 (F := Ideal) (arr2 A.x) (ix3 b s z)
      = ((-(1 / 2) * (rms 1024 (A.x (tok b s)) / meanSq 1024 (A.x (tok b s))) : ℝ) : EReal) := by
  pointwise [val_main_v18, val_main_v17, val_main_v16, val_main_cst_2, v15 A, v14 A]
  rw [div_coe _ (meanSq_pos (by norm_num) _).ne', ofBits_neg_half, ← EReal.coe_mul]

/-- The normed tokens. -/
theorem v20 (b : Fin 2) (s : Fin 2048) (l : Fin 1024) :
    val_main_v20 (F := Ideal) (arr2 A.x) (ix3 b s l)
      = ((normed A (tok b s) l : ℝ) : EReal) := by
  have h19 : val_main_v19 (F := Ideal) (arr2 A.x) (ix3 b s l) = (rms 1024 (A.x (tok b s)) : EReal) := by
    pointwise [val_main_v19, v15 A]
  rw [val_main_v20_apply, v7 A, h19, normed, EReal.coe_mul]
  rfl

/-- The normed tokens with the norm's weight. -/
theorem v22 (b : Fin 2) (s : Fin 2048) (l : Fin 1024) :
    val_main_v22 (F := Ideal) (arr2 A.x) (arr2 A.pw) (ix3 b s l)
      = ((scaled A (tok b s) l : ℝ) : EReal) := by
  have h21 : val_main_v21 (F := Ideal) (arr2 A.pw) (ix3 b s l) = (A.pw 0 l : EReal) := by
    pointwise [val_main_v21, val_main_v4, val_main_v3, arr2_ix]
  rw [val_main_v22_apply, v20 A, h21, scaled, EReal.coe_mul]
  rfl

/-- The modulated tokens. -/
theorem v28 (b : Fin 2) (s : Fin 2048) (l : Fin 1024) :
    val_main_v28 (F := Ideal) (arr2 A.x) (arr3 A.md) (arr2 A.pw) (ix3 b s l)
      = ((hid A (tok b s) l : ℝ) : EReal) := by
  have h25 : val_main_v25 (F := Ideal) (arr3 A.md) (ix3 b s l) = 1 + (A.md b 4 l : EReal) := by
    pointwise [val_main_v25, val_main_v24, val_main_v23, val_main_cst_3, val_main_v1, arr3_ix]
  have h27 : val_main_v27 (F := Ideal) (arr3 A.md) (ix3 b s l) = (A.md b 3 l : EReal) := by
    pointwise [val_main_v27, val_main_v0, arr3_ix]
  rw [val_main_v28_apply, val_main_v26_apply, v22 A, h25, h27, hid, seq_tok, EReal.coe_add, EReal.coe_mul, EReal.coe_add, EReal.coe_one]
  rfl

/-- The first product. -/
theorem v29 (b : Fin 2) (s : Fin 2048) (j : Fin 4096) :
    val_main_v29 (F := Ideal) (arr2 A.x) (arr3 A.md) (arr2 A.pw) (arr2 A.wu) (ix3 b s j)
      = ((up A (tok b s) j : ℝ) : EReal) := by
  pointwise [val_main_v29, v28 A, arr2_ix]
  simp only [← EReal.coe_mul, sum_coe]
  rfl

/-- Its positive part. -/
theorem v30 (b : Fin 2) (s : Fin 2048) (j : Fin 4096) :
    val_main_v30 (F := Ideal) (arr2 A.x) (arr3 A.md) (arr2 A.pw) (arr2 A.wu) (ix3 b s j)
      = ((max (up A (tok b s) j) 0 : ℝ) : EReal) := by
  have h0 : val_main_call0_v0 (F := Ideal) (ix3 b s j) = 0 := by
    pointwise [val_main_call0_v0, val_main_call0_cst]
  rw [val_main_v30_apply, v29 A, h0, ← max_coe_zero]
  rfl

/-- The square. -/
theorem v34 (b : Fin 2) (s : Fin 2048) (j : Fin 4096) :
    val_main_v34 (F := Ideal) (arr2 A.x) (arr3 A.md) (arr2 A.pw) (arr2 A.wu) (ix3 b s j)
      = ((max (up A (tok b s) j) 0 * max (up A (tok b s) j) 0 : ℝ) : EReal) := by
  rw [val_main_v34_apply, v30 A, EReal.coe_mul]
  rfl

/-- The square's derivative. -/
theorem v36 (b : Fin 2) (s : Fin 2048) (j : Fin 4096) :
    val_main_v36 (F := Ideal) (arr2 A.x) (arr3 A.md) (arr2 A.pw) (arr2 A.wu) (ix3 b s j)
      = ((2 * max (up A (tok b s) j) 0 : ℝ) : EReal) := by
  have h35 : val_main_v35 (F := Ideal) (ix3 b s j) = ((2 : ℝ) : EReal) := by
    rw [← ofBits_two]
    pointwise [val_main_v35, val_main_cst_6]
  rw [val_main_v36_apply, v30 A, h35, EReal.coe_mul]
  rfl

/-- The second product. -/
theorem v37 (b : Fin 2) (s : Fin 2048) (l : Fin 1024) :
    val_main_v37 (F := Ideal) (arr2 A.x) (arr3 A.md) (arr2 A.pw) (arr2 A.wu) (arr2 A.wd) (ix3 b s l)
      = ((down A (tok b s) l : ℝ) : EReal) := by
  pointwise [val_main_v37, v34 A, arr2_ix]
  simp only [← EReal.coe_mul, sum_coe]
  rfl

/-- The mean square of the second product plus epsilon. -/
theorem v45 (b : Fin 2) (s : Fin 2048) (z : Fin 1) :
    val_main_v45 (F := Ideal) (arr2 A.x) (arr3 A.md) (arr2 A.pw) (arr2 A.wu) (arr2 A.wd) (ix3 b s z)
      = ((meanSq 1024 (down A (tok b s)) : ℝ) : EReal) := by
  have h39 (k : Fin 1024) : val_main_v39 (F := Ideal) (arr2 A.x) (arr3 A.md) (arr2 A.pw) (arr2 A.wu) (arr2 A.wd) (ix3 b s k)
      = ((down A (tok b s) k * down A (tok b s) k : ℝ) : EReal) := by
    rw [val_main_v39_apply, v37 A, EReal.coe_mul]
    rfl
  have h41 : val_main_v41 (F := Ideal) (arr2 A.x) (arr3 A.md) (arr2 A.pw) (arr2 A.wu) (arr2 A.wd) (ix3 b s z)
      = ((∑ k, down A (tok b s) k * down A (tok b s) k : ℝ) : EReal) := by
    pointwise [val_main_v41, val_main_v40, h39, val_main_cst_7]
    simp only [sum_coe]
  have h42 : val_main_v42 (F := Ideal) (ix3 b s z) = Ideal.ofBits .f32 0x44800000#32 := by
    pointwise [val_main_v42, val_main_cst_8]
  have h44 : val_main_v44 (F := Ideal) (ix3 b s z) = (eps : EReal) := by
    rw [← ofBits_eps]
    pointwise [val_main_v44, val_main_cst_9]
  rw [val_main_v45_apply, val_main_v43_apply, h41, h42, h44, meanSq, EReal.coe_add, ← div_1024]
  rfl

/-- Its reciprocal root. -/
theorem v46 (b : Fin 2) (s : Fin 2048) (z : Fin 1) :
    val_main_v46 (F := Ideal) (arr2 A.x) (arr3 A.md) (arr2 A.pw) (arr2 A.wu) (arr2 A.wd) (ix3 b s z)
      = ((rms 1024 (down A (tok b s)) : ℝ) : EReal) := by
  rw [val_main_v46_apply, v45 A]
  exact rsqrt_coe (meanSq_pos (by norm_num) _)

/-- Its derivative. -/
theorem v49 (b : Fin 2) (s : Fin 2048) (z : Fin 1) :
    val_main_v49 (F := Ideal) (arr2 A.x) (arr3 A.md) (arr2 A.pw) (arr2 A.wu) (arr2 A.wd) (ix3 b s z)
      = ((-(1 / 2) * (rms 1024 (down A (tok b s)) / meanSq 1024 (down A (tok b s))) : ℝ) : EReal) := by
  have h48 : val_main_v48 (F := Ideal) (ix3 b s z) = ((-(1 / 2) : ℝ) : EReal) := by
    rw [← ofBits_neg_half]
    pointwise [val_main_v48, val_main_cst_10]
  rw [val_main_v49_apply, val_main_v47_apply, v46 A, v45 A, h48, EReal.coe_mul, ← div_coe _ (meanSq_pos (by norm_num) _).ne']
  rfl

/-- The normed second product. -/
theorem v51 (b : Fin 2) (s : Fin 2048) (l : Fin 1024) :
    val_main_v51 (F := Ideal) (arr2 A.x) (arr3 A.md) (arr2 A.pw) (arr2 A.wu) (arr2 A.wd) (ix3 b s l)
      = ((downNormed A (tok b s) l : ℝ) : EReal) := by
  have h50 : val_main_v50 (F := Ideal) (arr2 A.x) (arr3 A.md) (arr2 A.pw) (arr2 A.wu) (arr2 A.wd) (ix3 b s l) = (rms 1024 (down A (tok b s)) : EReal) := by
    pointwise [val_main_v50, v46 A]
  rw [val_main_v51_apply, v37 A, h50, downNormed, EReal.coe_mul]
  rfl

/-- The normed second product with its weight. -/
theorem v53 (b : Fin 2) (s : Fin 2048) (l : Fin 1024) :
    val_main_v53 (F := Ideal) (arr2 A.x) (arr3 A.md) (arr2 A.pw) (arr2 A.qw) (arr2 A.wu) (arr2 A.wd) (ix3 b s l)
      = ((downNormed A (tok b s) l * A.qw 0 l : ℝ) : EReal) := by
  have h52 : val_main_v52 (F := Ideal) (arr2 A.qw) (ix3 b s l) = (A.qw 0 l : EReal) := by
    pointwise [val_main_v52, val_main_v6, val_main_v5, arr2_ix]
  rw [val_main_v53_apply, v51 A, h52, EReal.coe_mul]
  rfl

/-- The error. -/
theorem v58 (b : Fin 2) (s : Fin 2048) (l : Fin 1024) :
    val_main_v58 (F := Ideal) (arr2 A.x) (arr2 A.tgt) (arr3 A.md) (arr2 A.pw) (arr2 A.qw) (arr2 A.wu) (arr2 A.wd) (ix3 b s l)
      = ((error A (tok b s) l : ℝ) : EReal) := by
  have h54 : val_main_v54 (F := Ideal) (arr3 A.md) (ix3 b s l) = (A.md b 5 l : EReal) := by
    pointwise [val_main_v54, val_main_v2, arr3_ix]
  have h38 : val_main_v38 (F := Ideal) (arr2 A.x) (ix3 b s l) = (A.x (tok b s) l : EReal) := by
    pointwise [val_main_v38, arr2_ix]
    rfl
  have h57 : val_main_v57 (F := Ideal) (arr2 A.tgt) (ix3 b s l) = (A.tgt (tok b s) l : EReal) := by
    pointwise [val_main_v57, arr2_ix]
    rfl
  rw [val_main_v58_apply, val_main_v56_apply, val_main_v55_apply, h38, h54, h57, v53 A, error, err, seq_tok, EReal.coe_sub, EReal.coe_add,
    EReal.coe_mul (A.md _ _ _)]
  rfl

/-- The gradient of the residual's sum. -/
theorem v75 (b : Fin 2) (s : Fin 2048) (l : Fin 1024) :
    val_main_v75 (F := Ideal) (arr2 A.x) (arr2 A.tgt) (arr3 A.md) (arr2 A.pw) (arr2 A.qw) (arr2 A.wu) (arr2 A.wd) (ix3 b s l)
      = ((dy A (tok b s) l : ℝ) : EReal) := by
  have h60 : val_main_v60 (F := Ideal) (ix3 b s l) = ((2 : ℝ) : EReal) := by
    rw [← ofBits_two]
    pointwise [val_main_v60, val_main_cst_11]
  have h70 (z : S2.Idx) : val_main_v70 (F := Ideal) z = ((1 / 2 : ℝ) : EReal) := by
    have h68 : val_main_v68 (F := Ideal) z = ((1 : ℝ) : EReal) := by
      rw [← ofBits_one]
      pointwise [val_main_v68, val_main_cst_16]
    have h69 : val_main_v69 (F := Ideal) z = ((1 / 2 : ℝ) : EReal) := by
      rw [← ofBits_half]
      pointwise [val_main_v69, val_main_cst_17]
    rw [val_main_v70_apply, h68, h69]
    exact (EReal.coe_mul _ _).symm.trans (by rw [mul_one])
  have h73 : val_main_v73 (F := Ideal) (ix2 b s) = ((1 / 2 / 1024 : ℝ) : EReal) := by
    have h71 : val_main_v71 (F := Ideal) (ix2 b s) = ((1 / 2 : ℝ) : EReal) := by
      pointwise [val_main_v71, h70]
    have h72 : val_main_v72 (F := Ideal) (ix2 b s) = Ideal.ofBits .f32 0x44800000#32 := by
      pointwise [val_main_v72, val_main_cst_18]
    rw [val_main_v73_apply, h71, h72]
    exact div_1024 _
  have h74 : val_main_v74 (F := Ideal) (ix3 b s l) = ((1 / 2 / 1024 : ℝ) : EReal) := by
    pointwise [val_main_v74, h73]
  rw [val_main_v75_apply, val_main_v61_apply, h60, h74, v58 A]
  refine (congrArg _ (EReal.coe_mul _ _).symm).trans ((EReal.coe_mul _ _).symm.trans (congrArg _ ?_))
  show _ = error A (tok b s) l * (1 / 1024)
  ring

/-- The gradient of the gated row. -/
theorem v77 (b : Fin 2) (s : Fin 2048) (l : Fin 1024) :
    val_main_v77 (F := Ideal) (arr2 A.x) (arr2 A.tgt) (arr3 A.md) (arr2 A.pw) (arr2 A.qw) (arr2 A.wu) (arr2 A.wd) (ix3 b s l)
      = ((dy A (tok b s) l * A.md b 5 l : ℝ) : EReal) := by
  have h76 : val_main_v76 (F := Ideal) (arr3 A.md) (ix3 b s l) = (A.md b 5 l : EReal) := by
    pointwise [val_main_v76, val_main_v2, arr3_ix]
  rw [val_main_v77_apply, v75 A, h76, mul_comm (dy A _ _), EReal.coe_mul]
  rfl

/-- The gradient of the normed second product. -/
theorem v85 (b : Fin 2) (s : Fin 2048) (l : Fin 1024) :
    val_main_v85 (F := Ideal) (arr2 A.x) (arr2 A.tgt) (arr3 A.md) (arr2 A.pw) (arr2 A.qw) (arr2 A.wu) (arr2 A.wd) (ix3 b s l)
      = ((dy A (tok b s) l * A.md b 5 l * A.qw 0 l : ℝ) : EReal) := by
  have h84 : val_main_v84 (F := Ideal) (arr2 A.qw) (ix3 b s l) = (A.qw 0 l : EReal) := by
    pointwise [val_main_v84, val_main_v6, val_main_v5, arr2_ix]
  rw [val_main_v85_apply, v77 A, h84, EReal.coe_mul (_ * _)]
  rfl

/-- The sum of the rows against their gradients. -/
theorem v88 (b : Fin 2) (s : Fin 2048) (z : Fin 1) :
    val_main_v88 (F := Ideal) (arr2 A.x) (arr2 A.tgt) (arr3 A.md) (arr2 A.pw) (arr2 A.qw) (arr2 A.wu) (arr2 A.wd) (ix3 b s z)
      = ((∑ k, down A (tok b s) k * (dy A (tok b s) k * A.md b 5 k * A.qw 0 k) : ℝ) : EReal) := by
  have h (k : Fin 1024) : val_main_v86 (F := Ideal) (arr2 A.x) (arr2 A.tgt) (arr3 A.md) (arr2 A.pw) (arr2 A.qw) (arr2 A.wu) (arr2 A.wd) (ix3 b s k)
      = ((down A (tok b s) k * (dy A (tok b s) k * A.md b 5 k * A.qw 0 k) : ℝ) : EReal) := by
    rw [val_main_v86_apply, v85 A, v37 A, EReal.coe_mul (down A (tok b s) k)]
    rfl
  pointwise [val_main_v88, val_main_v87, h, val_main_cst_21]
  simp only [sum_coe]

/-- What the reciprocal root's gradient adds to each entry of a row, over twice the entry. -/
theorem v95 (b : Fin 2) (s : Fin 2048) (l : Fin 1024) :
    val_main_v95 (F := Ideal) (arr2 A.x) (arr2 A.tgt) (arr3 A.md) (arr2 A.pw) (arr2 A.qw) (arr2 A.wu) (arr2 A.wd) (ix3 b s l)
      = (((∑ k, down A (tok b s) k * (dy A (tok b s) k * A.md b 5 k * A.qw 0 k)) * (-(1 / 2) * (rms 1024 (down A (tok b s)) / meanSq 1024 (down A (tok b s)))) / 1024 : ℝ) : EReal) := by
  have h (z : Fin 1) : val_main_v93 (F := Ideal) (arr2 A.x) (arr2 A.tgt) (arr3 A.md) (arr2 A.pw) (arr2 A.qw) (arr2 A.wu) (arr2 A.wd) (ix3 b s z)
      = (((∑ k, down A (tok b s) k * (dy A (tok b s) k * A.md b 5 k * A.qw 0 k)) * (-(1 / 2) * (rms 1024 (down A (tok b s)) / meanSq 1024 (down A (tok b s)))) / 1024 : ℝ) : EReal) := by
    have hc : val_main_v92 (F := Ideal) (ix3 b s z) = Ideal.ofBits .f32 0x44800000#32 := by
      pointwise [val_main_v92, val_main_cst_22]
    rw [val_main_v93_apply, val_main_v91_apply, v88 A, v49 A, hc, ← div_1024, EReal.coe_mul (∑ k, _)]
    rfl
  pointwise [val_main_v95, val_main_v94, h, val_main_cst_23]
  simp only [sum_coe]
  rw [Fin.sum_univ_one]

/-- The second norm's gradient. -/
theorem v99 (b : Fin 2) (s : Fin 2048) (l : Fin 1024) :
    val_main_v99 (F := Ideal) (arr2 A.x) (arr2 A.tgt) (arr3 A.md) (arr2 A.pw) (arr2 A.qw) (arr2 A.wu) (arr2 A.wd) (ix3 b s l)
      = ((normGrad 1024 (down A (tok b s)) (fun l => dy A (tok b s) l * A.md b 5 l * A.qw 0 l) l : ℝ) : EReal) := by
  have h : val_main_v89 (F := Ideal) (arr2 A.x) (arr3 A.md) (arr2 A.pw) (arr2 A.wu) (arr2 A.wd) (ix3 b s l) = (rms 1024 (down A (tok b s)) : EReal) := by
    pointwise [val_main_v89, v46 A]
  rw [val_main_v99_apply, val_main_v97_apply, val_main_v98_apply, val_main_v96_apply, val_main_v90_apply, v85 A, v37 A, v95 A, h,
    ← normGrad_eq (by norm_num), EReal.coe_add, EReal.coe_add, EReal.coe_mul _ (rms _ _), EReal.coe_mul (down A (tok b s) _),
    EReal.coe_mul (_ / _) (down A (tok b s) _)]
  rfl

/-- The gradient of the second product. -/
theorem v99_dd (b : Fin 2) (s : Fin 2048) (l : Fin 1024) :
    val_main_v99 (F := Ideal) (arr2 A.x) (arr2 A.tgt) (arr3 A.md) (arr2 A.pw) (arr2 A.qw) (arr2 A.wu) (arr2 A.wd) (ix3 b s l)
      = ((dd A (tok b s) l : ℝ) : EReal) := by
  rw [v99 A]
  unfold dd gradDown dy
  simp only [seq_tok]

/-- The gradient of the first product. -/
theorem v103 (b : Fin 2) (s : Fin 2048) (j : Fin 4096) :
    val_main_v103 (F := Ideal) (arr2 A.x) (arr2 A.tgt) (arr3 A.md) (arr2 A.pw) (arr2 A.qw) (arr2 A.wu) (arr2 A.wd) (ix3 b s j)
      = ((dup A (tok b s) j : ℝ) : EReal) := by
  have h100 : val_main_v100 (F := Ideal) (arr2 A.x) (arr2 A.tgt) (arr3 A.md) (arr2 A.pw) (arr2 A.qw) (arr2 A.wu) (arr2 A.wd) (ix3 b s j) = ((∑ l, dd A (tok b s) l * A.wd j l : ℝ) : EReal) := by
    pointwise [val_main_v100, v99_dd A, arr2_ix]
    simp only [← EReal.coe_mul, sum_coe]
  have h101 : val_main_v101 (F := Ideal) (arr2 A.x) (arr2 A.tgt) (arr3 A.md) (arr2 A.pw) (arr2 A.qw) (arr2 A.wu) (arr2 A.wd) (ix3 b s j) = (dup A (tok b s) j : EReal) := by
    rw [val_main_v101_apply, h100, v36 A, dup, gradUp, EReal.coe_mul (∑ l, _)]
    rfl
  have h102 : val_main_v102 (F := Ideal) (ix3 b s j) = 0 := by
    pointwise [val_main_v102, val_main_cst_24]
  have h31 : val_main_v31 (F := Ideal) (ix3 b s j) = 0 := by
    pointwise [val_main_v31, val_main_cst_4]
  rw [val_main_v103_apply, val_main_v32_apply, h101, h102, h31, v29 A]
  show Scalar.select (FloatOps.cmpf (F := Ideal) (φ := .f32) CmpFPredicate.ogt ((up A (tok b s) j : ℝ) : EReal) 0) ((dup A (tok b s) j : ℝ) : EReal) 0 = _
  by_cases h : 0 < up A (tok b s) j
  · have e : FloatOps.cmpf (F := Ideal) (φ := .f32) CmpFPredicate.ogt ((up A (tok b s) j : ℝ) : EReal) 0 = 1#1 := by
      simp [FloatOps.cmpf, Ideal.cmp, h]
    rw [e]; rfl
  · have e : FloatOps.cmpf (F := Ideal) (φ := .f32) CmpFPredicate.ogt ((up A (tok b s) j : ℝ) : EReal) 0 = 0#1 := by
      simp [FloatOps.cmpf, Ideal.cmp, h]
    have z : dup A (tok b s) j = 0 := by
      rw [dup, gradUp, max_eq_right (not_lt.1 h)]; ring
    rw [e, z]; rfl

/-- The gradient of the modulated tokens. -/
theorem v104 (b : Fin 2) (s : Fin 2048) (l : Fin 1024) :
    val_main_v104 (F := Ideal) (arr2 A.x) (arr2 A.tgt) (arr3 A.md) (arr2 A.pw) (arr2 A.qw) (arr2 A.wu) (arr2 A.wd) (ix3 b s l)
      = ((dhid A (tok b s) l : ℝ) : EReal) := by
  pointwise [val_main_v104, v103 A, arr2_ix]
  simp only [← EReal.coe_mul, sum_coe]
  rfl

/-- The gradient of the normed tokens with the norm's weight. -/
theorem v111 (b : Fin 2) (s : Fin 2048) (l : Fin 1024) :
    val_main_v111 (F := Ideal) (arr2 A.x) (arr2 A.tgt) (arr3 A.md) (arr2 A.pw) (arr2 A.qw) (arr2 A.wu) (arr2 A.wd) (ix3 b s l)
      = ((dhid A (tok b s) l * (1 + A.md b 4 l) : ℝ) : EReal) := by
  have h110 : val_main_v110 (F := Ideal) (arr3 A.md) (ix3 b s l) = 1 + (A.md b 4 l : EReal) := by
    pointwise [val_main_v110, val_main_v24, val_main_v23, val_main_cst_3, val_main_v1, arr3_ix]
  rw [val_main_v111_apply, v104 A, h110, EReal.coe_mul, EReal.coe_add, EReal.coe_one]
  rfl

/-- The gradient of the normed tokens. -/
theorem v116 (b : Fin 2) (s : Fin 2048) (l : Fin 1024) :
    val_main_v116 (F := Ideal) (arr2 A.x) (arr2 A.tgt) (arr3 A.md) (arr2 A.pw) (arr2 A.qw) (arr2 A.wu) (arr2 A.wd) (ix3 b s l)
      = ((gradNormed (dhid A (tok b s)) (A.md b 4) (A.pw 0) l : ℝ) : EReal) := by
  have h115 : val_main_v115 (F := Ideal) (arr2 A.pw) (ix3 b s l) = (A.pw 0 l : EReal) := by
    pointwise [val_main_v115, val_main_v4, val_main_v3, arr2_ix]
  rw [val_main_v116_apply, v111 A, h115, gradNormed, EReal.coe_mul (_ * _)]
  rfl

/-- The sum of the rows against their gradients. -/
theorem v119 (b : Fin 2) (s : Fin 2048) (z : Fin 1) :
    val_main_v119 (F := Ideal) (arr2 A.x) (arr2 A.tgt) (arr3 A.md) (arr2 A.pw) (arr2 A.qw) (arr2 A.wu) (arr2 A.wd) (ix3 b s z)
      = ((∑ k, A.x (tok b s) k * (gradNormed (dhid A (tok b s)) (A.md b 4) (A.pw 0) k) : ℝ) : EReal) := by
  have h (k : Fin 1024) : val_main_v117 (F := Ideal) (arr2 A.x) (arr2 A.tgt) (arr3 A.md) (arr2 A.pw) (arr2 A.qw) (arr2 A.wu) (arr2 A.wd) (ix3 b s k)
      = ((A.x (tok b s) k * (gradNormed (dhid A (tok b s)) (A.md b 4) (A.pw 0) k) : ℝ) : EReal) := by
    rw [val_main_v117_apply, v116 A, v7 A, EReal.coe_mul (A.x (tok b s) k)]
    rfl
  pointwise [val_main_v119, val_main_v118, h, val_main_cst_28]
  simp only [sum_coe]

/-- What the reciprocal root's gradient adds to each entry of a row, over twice the entry. -/
theorem v126 (b : Fin 2) (s : Fin 2048) (l : Fin 1024) :
    val_main_v126 (F := Ideal) (arr2 A.x) (arr2 A.tgt) (arr3 A.md) (arr2 A.pw) (arr2 A.qw) (arr2 A.wu) (arr2 A.wd) (ix3 b s l)
      = (((∑ k, A.x (tok b s) k * (gradNormed (dhid A (tok b s)) (A.md b 4) (A.pw 0) k)) * (-(1 / 2) * (rms 1024 (A.x (tok b s)) / meanSq 1024 (A.x (tok b s)))) / 1024 : ℝ) : EReal) := by
  have h (z : Fin 1) : val_main_v124 (F := Ideal) (arr2 A.x) (arr2 A.tgt) (arr3 A.md) (arr2 A.pw) (arr2 A.qw) (arr2 A.wu) (arr2 A.wd) (ix3 b s z)
      = (((∑ k, A.x (tok b s) k * (gradNormed (dhid A (tok b s)) (A.md b 4) (A.pw 0) k)) * (-(1 / 2) * (rms 1024 (A.x (tok b s)) / meanSq 1024 (A.x (tok b s)))) / 1024 : ℝ) : EReal) := by
    have hc : val_main_v123 (F := Ideal) (ix3 b s z) = Ideal.ofBits .f32 0x44800000#32 := by
      pointwise [val_main_v123, val_main_cst_29]
    rw [val_main_v124_apply, val_main_v122_apply, v119 A, v18 A, hc, ← div_1024, EReal.coe_mul (∑ k, _)]
    rfl
  pointwise [val_main_v126, val_main_v125, h, val_main_cst_30]
  simp only [sum_coe]
  rw [Fin.sum_univ_one]

/-- The first norm's gradient. -/
theorem v130 (b : Fin 2) (s : Fin 2048) (l : Fin 1024) :
    val_main_v130 (F := Ideal) (arr2 A.x) (arr2 A.tgt) (arr3 A.md) (arr2 A.pw) (arr2 A.qw) (arr2 A.wu) (arr2 A.wd) (ix3 b s l)
      = ((normGrad 1024 (A.x (tok b s)) (fun l => gradNormed (dhid A (tok b s)) (A.md b 4) (A.pw 0) l) l : ℝ) : EReal) := by
  have h : val_main_v120 (F := Ideal) (arr2 A.x) (ix3 b s l) = (rms 1024 (A.x (tok b s)) : EReal) := by
    pointwise [val_main_v120, v15 A]
  rw [val_main_v130_apply, val_main_v128_apply, val_main_v129_apply, val_main_v127_apply, val_main_v121_apply, v116 A, v7 A, v126 A, h,
    ← normGrad_eq (by norm_num), EReal.coe_add, EReal.coe_add, EReal.coe_mul _ (rms _ _), EReal.coe_mul (A.x (tok b s) _),
    EReal.coe_mul (_ / _) (A.x (tok b s) _)]
  rfl

/-- The gradient of the tokens, by sequence. -/
theorem v135 (b : Fin 2) (s : Fin 2048) (l : Fin 1024) :
    val_main_v135 (F := Ideal) (arr2 A.x) (arr2 A.tgt) (arr3 A.md) (arr2 A.pw) (arr2 A.qw) (arr2 A.wu) (arr2 A.wd) (ix3 b s l)
      = ((dx A (tok b s) l : ℝ) : EReal) := by
  rw [val_main_v135_apply, v75 A, v130 A, dx, seq_tok, EReal.coe_add]
  rfl

/-- The gradient of the tokens. -/
theorem v136 : val_main_v136 (F := Ideal) (arr2 A.x) (arr2 A.tgt) (arr3 A.md) (arr2 A.pw) (arr2 A.qw) (arr2 A.wu) (arr2 A.wd) = arr2 (dx A) := by
  funext i
  idx_vars i
  pointwise [val_main_v136, v135 A, arr2_ix]
  simp only [tok_divmod]

/-- The gradient of the first product. -/
theorem v138 : val_main_v138 (F := Ideal) (arr2 A.x) (arr2 A.tgt) (arr3 A.md) (arr2 A.pw) (arr2 A.qw) (arr2 A.wu) (arr2 A.wd) = arr2 (dup A) := by
  funext i
  idx_vars i
  pointwise [val_main_v138, val_main_v137, v103 A, arr2_ix]
  simp only [tok_divmod]

/-- The gradient of the second product. -/
theorem v140 : val_main_v140 (F := Ideal) (arr2 A.x) (arr2 A.tgt) (arr3 A.md) (arr2 A.pw) (arr2 A.qw) (arr2 A.wu) (arr2 A.wd) = arr2 (dd A) := by
  funext i
  idx_vars i
  pointwise [val_main_v140, val_main_v139, v99_dd A, arr2_ix]
  simp only [tok_divmod]

/-- The gate's gradient. -/
theorem v80 (b : Fin 2) (z : Fin 1) (l : Fin 1024) :
    val_main_v80 (F := Ideal) (arr2 A.x) (arr2 A.tgt) (arr3 A.md) (arr2 A.pw) (arr2 A.qw) (arr2 A.wu) (arr2 A.wd) (ix3 b z l)
      = ((∑ s, dy A (tok b s) l * (downNormed A (tok b s) l * A.qw 0 l) : ℝ) : EReal) := by
  have h (s : Fin 2048) : val_main_v78 (F := Ideal) (arr2 A.x) (arr2 A.tgt) (arr3 A.md) (arr2 A.pw) (arr2 A.qw) (arr2 A.wu) (arr2 A.wd) (ix3 b s l) = ((dy A (tok b s) l * (downNormed A (tok b s) l * A.qw 0 l) : ℝ) : EReal) := by
    rw [val_main_v78_apply, v75 A, v53 A, EReal.coe_mul (dy A _ _)]
    rfl
  pointwise [val_main_v80, val_main_v79, h, val_main_cst_19]
  simp only [sum_coe]

/-- The second weight's gradient. -/
theorem v83 (b : Fin 2) (z : Fin 1) (l : Fin 1024) :
    val_main_v83 (F := Ideal) (arr2 A.x) (arr2 A.tgt) (arr3 A.md) (arr2 A.pw) (arr2 A.qw) (arr2 A.wu) (arr2 A.wd) (ix3 b z l)
      = ((∑ s, dy A (tok b s) l * A.md b 5 l * downNormed A (tok b s) l : ℝ) : EReal) := by
  have h (s : Fin 2048) : val_main_v81 (F := Ideal) (arr2 A.x) (arr2 A.tgt) (arr3 A.md) (arr2 A.pw) (arr2 A.qw) (arr2 A.wu) (arr2 A.wd) (ix3 b s l) = ((dy A (tok b s) l * A.md b 5 l * downNormed A (tok b s) l : ℝ) : EReal) := by
    rw [val_main_v81_apply, v51 A, v77 A, mul_comm (_ * _), EReal.coe_mul (downNormed A _ _)]
    rfl
  pointwise [val_main_v83, val_main_v82, h, val_main_cst_20]
  simp only [sum_coe]

/-- The shift's gradient. -/
theorem v106 (b : Fin 2) (z : Fin 1) (l : Fin 1024) :
    val_main_v106 (F := Ideal) (arr2 A.x) (arr2 A.tgt) (arr3 A.md) (arr2 A.pw) (arr2 A.qw) (arr2 A.wu) (arr2 A.wd) (ix3 b z l)
      = ((∑ s, dhid A (tok b s) l : ℝ) : EReal) := by
  pointwise [val_main_v106, val_main_v105, v104 A, val_main_cst_25]
  simp only [sum_coe]

/-- The scale's gradient. -/
theorem v109 (b : Fin 2) (z : Fin 1) (l : Fin 1024) :
    val_main_v109 (F := Ideal) (arr2 A.x) (arr2 A.tgt) (arr3 A.md) (arr2 A.pw) (arr2 A.qw) (arr2 A.wu) (arr2 A.wd) (ix3 b z l)
      = ((∑ s, dhid A (tok b s) l * scaled A (tok b s) l : ℝ) : EReal) := by
  have h (s : Fin 2048) : val_main_v107 (F := Ideal) (arr2 A.x) (arr2 A.tgt) (arr3 A.md) (arr2 A.pw) (arr2 A.qw) (arr2 A.wu) (arr2 A.wd) (ix3 b s l) = ((dhid A (tok b s) l * scaled A (tok b s) l : ℝ) : EReal) := by
    rw [val_main_v107_apply, v22 A, v104 A, mul_comm (dhid A _ _), EReal.coe_mul]
    rfl
  pointwise [val_main_v109, val_main_v108, h, val_main_cst_26]
  simp only [sum_coe]

/-- The first weight's gradient. -/
theorem v114 (b : Fin 2) (z : Fin 1) (l : Fin 1024) :
    val_main_v114 (F := Ideal) (arr2 A.x) (arr2 A.tgt) (arr3 A.md) (arr2 A.pw) (arr2 A.qw) (arr2 A.wu) (arr2 A.wd) (ix3 b z l)
      = ((∑ s, dhid A (tok b s) l * (1 + A.md b 4 l) * normed A (tok b s) l : ℝ) : EReal) := by
  have h (s : Fin 2048) : val_main_v112 (F := Ideal) (arr2 A.x) (arr2 A.tgt) (arr3 A.md) (arr2 A.pw) (arr2 A.qw) (arr2 A.wu) (arr2 A.wd) (ix3 b s l) = ((dhid A (tok b s) l * (1 + A.md b 4 l) * normed A (tok b s) l : ℝ) : EReal) := by
    rw [val_main_v112_apply, v20 A, v111 A, mul_comm (_ * _), EReal.coe_mul (normed A _ _)]
    rfl
  pointwise [val_main_v114, val_main_v113, h, val_main_cst_27]
  simp only [sum_coe]

/-- The loss. -/
theorem v132 (b : Fin 2) (z : Fin 1) (l : Fin 1024) :
    val_main_v132 (F := Ideal) (arr2 A.x) (arr2 A.tgt) (arr3 A.md) (arr2 A.pw) (arr2 A.qw) (arr2 A.wu) (arr2 A.wd) (ix3 b z l)
      = ((∑ s, loss A (tok b s) : ℝ) : EReal) := by
  have h59 (s : Fin 2048) (k : Fin 1024) : val_main_v59 (F := Ideal) (arr2 A.x) (arr2 A.tgt) (arr3 A.md) (arr2 A.pw) (arr2 A.qw) (arr2 A.wu) (arr2 A.wd) (ix3 b s k)
      = ((error A (tok b s) k * error A (tok b s) k : ℝ) : EReal) := by
    rw [val_main_v59_apply, v58 A, EReal.coe_mul]
    rfl
  have h62 (s : Fin 2048) : val_main_v62 (F := Ideal) (arr2 A.x) (arr2 A.tgt) (arr3 A.md) (arr2 A.pw) (arr2 A.qw) (arr2 A.wu) (arr2 A.wd) (ix2 b s)
      = ((∑ k, error A (tok b s) k * error A (tok b s) k : ℝ) : EReal) := by
    pointwise [val_main_v62, h59, val_main_cst_12]
    simp only [sum_coe]
  have h64 (s : Fin 2048) : val_main_v64 (F := Ideal) (arr2 A.x) (arr2 A.tgt) (arr3 A.md) (arr2 A.pw) (arr2 A.qw) (arr2 A.wu) (arr2 A.wd) (ix2 b s)
      = (((∑ k, error A (tok b s) k * error A (tok b s) k) / 1024 : ℝ) : EReal) := by
    have hc : val_main_v63 (F := Ideal) (ix2 b s) = Ideal.ofBits .f32 0x44800000#32 := by
      pointwise [val_main_v63, val_main_cst_13]
    rw [val_main_v64_apply, h62, hc]
    exact div_1024 _
  have h65 : val_main_v65 (F := Ideal) (arr2 A.x) (arr2 A.tgt) (arr3 A.md) (arr2 A.pw) (arr2 A.qw) (arr2 A.wu) (arr2 A.wd) (ix1 b)
      = ((∑ s, (∑ k, error A (tok b s) k * error A (tok b s) k) / 1024 : ℝ) : EReal) := by
    pointwise [val_main_v65, h64, val_main_cst_14]
    simp only [sum_coe]
  have h67 : val_main_v67 (F := Ideal) (arr2 A.x) (arr2 A.tgt) (arr3 A.md) (arr2 A.pw) (arr2 A.qw) (arr2 A.wu) (arr2 A.wd) (ix1 b) = ((∑ s, loss A (tok b s) : ℝ) : EReal) := by
    have h66 : val_main_v66 (F := Ideal) (ix1 b) = ((1 / 2 : ℝ) : EReal) := by
      rw [← ofBits_half]
      pointwise [val_main_v66, val_main_cst_15]
    rw [val_main_v67_apply, h65, h66]
    refine (EReal.coe_mul _ _).symm.trans (congrArg _ ?_)
    rw [Finset.mul_sum]
    exact Finset.sum_congr rfl fun s _ => (mul_div_assoc _ _ _).symm
  pointwise [val_main_v132, val_main_v131, h67]

/-- The blocks of sums. -/
theorem v134 : val_main_v134 (F := Ideal) (arr2 A.x) (arr2 A.tgt) (arr3 A.md) (arr2 A.pw) (arr2 A.qw) (arr2 A.wu) (arr2 A.wd) = arr3 (acc A) := by
  funext i
  idx_vars i
  pointwise [val_main_v134, v106 A, v109 A, v80 A, v114 A, v83 A, v132 A, val_main_v133, val_main_cst_31, arr3_ix]
  unfold acc rows
  simp only [seq_tok]
  obtain h | h | h | h | h | h | h : i1 = 0 ∨ i1 = 1 ∨ i1 = 2 ∨ i1 = 3 ∨ i1 = 4 ∨ i1 = 5 ∨ 6 ≤ i1.val := by omega
  iterate 6
    · subst h
      rfl
  · simp only [dif_neg (show ¬i1.val < 1 by omega), dif_neg (show ¬i1.val - 1 < 1 by omega), dif_neg (show ¬i1.val - 1 - 1 < 1 by omega),
      dif_neg (show ¬i1.val - 1 - 1 - 1 < 1 by omega), dif_neg (show ¬i1.val - 1 - 1 - 1 - 1 < 1 by omega),
      dif_neg (show ¬i1.val - 1 - 1 - 1 - 1 - 1 < 1 by omega), if_neg (show ¬i1.val = 0 by omega), if_neg (show ¬i1.val = 1 by omega),
      if_neg (show ¬i1.val = 2 by omega), if_neg (show ¬i1.val = 3 by omega), if_neg (show ¬i1.val = 4 by omega),
      if_neg (show ¬i1.val = 5 by omega), Finset.sum_const_zero, EReal.coe_zero]

end Cert.MlpRefIdeal.Value

end
-- ==== Proof.MlpHost.lean ====
module

public import proofs.«01_k».proof.Proof.MlpFrame
public import proofs.«01_k».proof.Proof.MlpPure
public import proofs.«01_k».proof.Proof.MlpRef

@[expose] public section

set_option maxRecDepth 16384

/-! What the host gives to the kernel, at real arguments: the two forward products, and the weights in the pieces that
are copied. Then each window's block. -/

noncomputable section

namespace Cert.MlpBwdIdeal.Value

open Cert.MlpBwdIdeal Cert.MlpBwdIdeal.Gen Cert.Reals Cert.Mlp
open Cert.Mix (seq tok)
open Idealize.ShloMosaic Idealize.ShloMosaic.TcCoe Idealize.SL.Sem
open scoped BigOperators

variable (m : (ℓ : Loc nD τ sig) → Buf (Elt Ideal) ℓ) (c : Dev nD) (A : Mlp.Args)

/-- The arguments in memory are the real arrays `A`. -/
structure Holds : Prop where
  x : m ((c : Thread nD τ).loc main_arg0) = arr2 A.x
  tgt : m ((c : Thread nD τ).loc main_arg1) = arr2 A.tgt
  md : m ((c : Thread nD τ).loc main_arg2) = arr3 A.md
  pw : m ((c : Thread nD τ).loc main_arg3) = arr2 A.pw
  qw : m ((c : Thread nD τ).loc main_arg4) = arr2 A.qw
  wu : m ((c : Thread nD τ).loc main_arg5) = arr2 A.wu
  wd : m ((c : Thread nD τ).loc main_arg6) = arr2 A.wd

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val / 8, 0, 0]
    ∧ win0_5.index t = ![0, 0]
    ∧ win0_6.index t = ![0, 0]
    ∧ win0_7.index t = ![t.val, 0]
    ∧ win0_8.index t = ![t.val, 0]
    ∧ win0_9.index t = ![t.val, 0] ∧ win0_10.index t = ![t.val / 8, 0, 0] :=
  (by decide +kernel : ∀ t : Fin grid0.N, _)

theorem lt16 (t : Fin cfg0.N) : t.val < 16 := (by decide +kernel : ∀ t : Fin grid0.N, t.val < 16) t

/-- The token of a row of a tile. -/
def tile (t : Fin cfg0.N) (r : Fin 256) : Fin 4096 := ⟨t.val * 256 + r.val, by have := lt16 t; omega⟩

/-- The sequence of a tile. -/
def tseq (t : Fin cfg0.N) : Fin 2 := ⟨t.val / 8, by have := lt16 t; omega⟩

theorem seq_tile (t : Fin cfg0.N) (r : Fin 256) : seq (tile t r) = tseq t := by
  apply Fin.ext; show (t.val * 256 + r.val) / 2048 = t.val / 8; omega

variable {m c A}
variable (H : Holds m c A) (t : Fin cfg0.N)
include H

omit H in
/-- Host operations in two lots. -/
theorem after_append (l l' : List (HloOp τ sig (Elt Ideal))) (W : Valuation τ sig (Elt Ideal)) :
    StableHlo.after (l ++ l') W = StableHlo.after l' (StableHlo.after l W) := by
  induction l generalizing W with
  | nil => rfl
  | cons a l ih => exact ih _

omit H in
variable (m c) in
/-- The buffers after the lines of the first product. -/
def stage1 : Valuation τ sig (Elt Ideal) := StableHlo.after hostOps0 (fun b => m (c, b))

omit H in
variable (m c) in
/-- The buffers after the positive part. -/
def stage2 : Valuation τ sig (Elt Ideal) := StableHlo.after hostOps0_1 (stage1 m c)

omit H in
theorem V_stage (b : Ref sig .tc) : V m c b = StableHlo.after hostOps0_2 (stage2 m c) b := by
  show StableHlo.after (hostOps0 ++ (hostOps0_1 ++ (hostOps0_2 ++ []))) _ _ = _
  rw [List.append_nil, after_append, after_append]
  rfl

/-- The first product, by sequence. -/
theorem up_seq (b : Fin 2) (r : Fin 2048) (j : Fin 4096) :
    stage1 m c (Proc.tc.devRef main_v22) (ix3 b r j) = (up A (tok b r) j : EReal) := by
  unfold stage1
  entry_read
  rw [show m (c, Proc.tc.devRef main_arg0) = _ from H.x, show m (c, Proc.tc.devRef main_arg2) = _ from H.md,
    show m (c, Proc.tc.devRef main_arg3) = _ from H.pw, show m (c, Proc.tc.devRef main_arg5) = _ from H.wu]
  change Host.dotGeneral (F := Ideal) dot_S2x2048x1024_S1024x4096_S2x2048x4096_2_0_01_1_n_n none
    (addf (mulf (mulf (MlpRefIdeal.Read.val_main_v20 (F := Ideal) (arr2 A.x)) (broadcastInDim S2x2048x1024 ![0, 1, 2] bcast_S1x1x1024_S2x2048x1024_0_1_2
            (broadcastInDim S1x1x1024 ![1, 2] bcast_S1x1024_S1x1x1024_1_2 (arr2 A.pw))))
      (MlpRefIdeal.Read.val_main_v25 (F := Ideal) (arr3 A.md))) (MlpRefIdeal.Read.val_main_v27 (F := Ideal) (arr3 A.md))) (arr2 A.wu) (ix3 b r j) = _
  have e (l : Fin 1024) : (addf (mulf (mulf (MlpRefIdeal.Read.val_main_v20 (F := Ideal) (arr2 A.x)) (broadcastInDim S2x2048x1024 ![0, 1, 2] bcast_S1x1x1024_S2x2048x1024_0_1_2
            (broadcastInDim S1x1x1024 ![1, 2] bcast_S1x1024_S1x1x1024_1_2 (arr2 A.pw))))
      (MlpRefIdeal.Read.val_main_v25 (F := Ideal) (arr3 A.md))) (MlpRefIdeal.Read.val_main_v27 (F := Ideal) (arr3 A.md)) : FVec Ideal S2x2048x1024 .f32) (ix3 b r l)
      = (hid A (tok b r) l : EReal) := by
    have h25 : MlpRefIdeal.Read.val_main_v25 (F := Ideal) (arr3 A.md) (ix3 b r l) = 1 + (A.md b 4 l : EReal) := by
      pointwise [MlpRefIdeal.Read.val_main_v25, MlpRefIdeal.Read.val_main_v24, MlpRefIdeal.Read.val_main_v23, MlpRefIdeal.Read.val_main_cst_3, MlpRefIdeal.Read.val_main_v1, arr3_ix]
    have h27 : MlpRefIdeal.Read.val_main_v27 (F := Ideal) (arr3 A.md) (ix3 b r l) = (A.md b 3 l : EReal) := by
      pointwise [MlpRefIdeal.Read.val_main_v27, MlpRefIdeal.Read.val_main_v0, arr3_ix]
    pointwise [h25, h27, MlpRefIdeal.Value.v20 A, arr2_ix]
    rw [hid, scaled, MlpRefIdeal.Value.seq_tok, EReal.coe_add, EReal.coe_mul, EReal.coe_add, EReal.coe_mul, EReal.coe_one]
  generalize (addf _ _ : FVec Ideal S2x2048x1024 .f32) = X at e ⊢
  pointwise [e, arr2_ix]
  simp only [← EReal.coe_mul, sum_coe]
  rfl

theorem up_of_seq : stage1 m c (Proc.tc.devRef main_v23) = fun i => shapeCast (s := S2x2048x4096) S4096x4096 (stage1 m c (Proc.tc.devRef main_v22)) shapeCasts_S2x2048x4096_S4096x4096 i := by
  unfold stage1
  entry_read
  rfl

/-- The first product, token by token. -/
theorem up_flat : stage1 m c (Proc.tc.devRef main_v23) = arr2 (up A) := by
  rw [up_of_seq H]
  funext i
  idx_vars i
  pointwise [up_seq H, arr2_ix]
  rw [MlpRefIdeal.Value.tok_divmod]

/-- Its positive part. -/
theorem stage2_v24 (n j : Fin 4096) : stage2 m c (Proc.tc.devRef main_v24) (ix2 n j) = ((max (up A n j) 0 : ℝ) : EReal) := by
  unfold stage2
  entry_read
  rw [up_flat H]
  change (maximumf (arr2 (up A)) (broadcastInDim S4096x4096 ![] bcast_S_S4096x4096 (constant (F := Ideal) S_ .f32 0x00000000#32)) : FVec Ideal S4096x4096 .f32) (ix2 n j) = _
  pointwise [arr2_ix]
  exact Pure.max_coe_zero _

theorem stage2_v23 : stage2 m c (Proc.tc.devRef main_v23) = arr2 (up A) := by
  unfold stage2
  entry_read
  exact up_flat H

theorem host23 (n j : Fin 4096) : V m c main_v23 (ix2 n j) = (up A n j : EReal) := by
  rw [V_stage]
  entry_read
  rw [stage2_v23 H]
  rfl

theorem stage2_arg5 : stage2 m c (Proc.tc.devRef main_arg5) = arr2 A.wu := by
  unfold stage2 stage1
  entry_read
  exact H.wu

theorem stage2_arg6 : stage2 m c (Proc.tc.devRef main_arg6) = arr2 A.wd := by
  unfold stage2 stage1
  entry_read
  exact H.wd

/-- The second product. -/
theorem host26 (n : Fin 4096) (l : Fin 1024) : V m c main_v26 (ix2 n l) = (down A n l : EReal) := by
  rw [V_stage]
  entry_read
  rw [stage2_arg6 H]
  pointwise [stage2_v24 H, arr2_ix]
  simp only [← EReal.coe_mul, sum_coe]
  rfl

theorem host32 (p : Fin 8) (i j : Fin 512) : V m c main_v32 (ix3 p i j) = (A.wu ⟨i.val, by omega⟩ ⟨p.val * 512 + j.val, by omega⟩ : EReal) := by
  rw [V_stage]
  entry_read
  rw [stage2_arg5 H]
  pointwise [arr2_ix]

theorem host34 (p : Fin 8) (i j : Fin 512) : V m c main_v34 (ix3 p i j) = (A.wu ⟨512 + i.val, by omega⟩ ⟨p.val * 512 + j.val, by omega⟩ : EReal) := by
  rw [V_stage]
  entry_read
  rw [stage2_arg5 H]
  pointwise [arr2_ix]

theorem host35 (i : Fin 4096) (j : Fin 640) : V m c main_v35 (ix2 i j) = (A.wd i ⟨j.val, by omega⟩ : EReal) := by
  rw [V_stage]
  entry_read
  rw [stage2_arg6 H]
  pointwise [arr2_ix]

theorem host36 (i : Fin 4096) (j : Fin 384) : V m c main_v36 (ix2 i j) = (A.wd i ⟨640 + j.val, by omega⟩ : EReal) := by
  rw [V_stage]
  entry_read
  rw [stage2_arg6 H]
  pointwise [arr2_ix]

theorem entry_arg0 : V m c main_arg0 = arr2 A.x := by
  rw [V_stage]
  unfold stage2 stage1
  entry_read
  exact H.x

theorem entry_arg1 : V m c main_arg1 = arr2 A.tgt := by
  rw [V_stage]
  unfold stage2 stage1
  entry_read
  exact H.tgt

theorem entry_arg2 : V m c main_arg2 = arr3 A.md := by
  rw [V_stage]
  unfold stage2 stage1
  entry_read
  exact H.md

theorem entry_arg3 : V m c main_arg3 = arr2 A.pw := by
  rw [V_stage]
  unfold stage2 stage1
  entry_read
  exact H.pw

theorem entry_arg4 : V m c main_arg4 = arr2 A.qw := by
  rw [V_stage]
  unfold stage2 stage1
  entry_read
  exact H.qw

theorem blk0 (r : Fin 256) (l : Fin 1024) : iblk m c 0 t (ix2 r l) = (A.x (tile t r) l : EReal) := by
  blk_simp [iblk, idx t]
  have e : ((View.whole main_arg0).slice (win0_0.rect t)).emb (ix2 r l) = ix2 (tile t r) l := by
    blk_ext [idx t, tile]
  rw [e, entry_arg0 H]
  rfl

theorem blk1 (r : Fin 256) (l : Fin 1024) : iblk m c 1 t (ix2 r l) = (down A (tile t r) l : EReal) := by
  blk_simp [iblk, idx t]
  have e : ((View.whole main_v26).slice (win0_1.rect t)).emb (ix2 r l) = ix2 (tile t r) l := by
    blk_ext [idx t, tile]
  rw [e]
  exact host26 H _ _

theorem blk2 (r : Fin 256) (j : Fin 4096) : iblk m c 2 t (ix2 r j) = (up A (tile t r) j : EReal) := by
  blk_simp [iblk, idx t]
  have e : ((View.whole main_v23).slice (win0_2.rect t)).emb (ix2 r j) = ix2 (tile t r) j := by
    blk_ext [idx t, tile]
  rw [e]
  exact host23 H _ _

theorem blk3 (r : Fin 256) (l : Fin 1024) : iblk m c 3 t (ix2 r l) = (A.tgt (tile t r) l : EReal) := by
  blk_simp [iblk, idx t]
  have e : ((View.whole main_arg1).slice (win0_3.rect t)).emb (ix2 r l) = ix2 (tile t r) l := by
    blk_ext [idx t, tile]
  rw [e, entry_arg1 H]
  rfl

theorem blk4 (r : Fin 8) (l : Fin 1024) : iblk m c 4 t (ix3 0 r l) = (A.md (tseq t) r l : EReal) := by
  blk_simp [iblk, idx t]
  have e : ((View.whole main_arg2).slice (win0_4.rect t)).emb (ix3 0 r l) = ix3 (tseq t) r l := by
    blk_ext [idx t, tseq]
  rw [e, entry_arg2 H]
  rfl

theorem blk5 (r : Fin 1) (l : Fin 1024) : iblk m c 5 t (ix2 r l) = (A.pw r l : EReal) := by
  blk_simp [iblk, idx t]
  have e : ((View.whole main_arg3).slice (win0_5.rect t)).emb (ix2 r l) = ix2 r l := by
    blk_ext [idx t]
  rw [e, entry_arg3 H]
  rfl

theorem blk6 (r : Fin 1) (l : Fin 1024) : iblk m c 6 t (ix2 r l) = (A.qw r l : EReal) := by
  blk_simp [iblk, idx t]
  have e : ((View.whole main_arg4).slice (win0_6.rect t)).emb (ix2 r l) = ix2 r l := by
    blk_ext [idx t]
  rw [e, entry_arg4 H]
  rfl

/-- The scale's row, read from its block. -/
theorem scale_row (l : Fin 1024) :
    View.ld (iblk m c 4 t) (Rect.unit (s := S1x8x1024) ![0, 4, 0] S1x1x1024.size inb_S1x8x1024_S1x1x1024_0_4_0) (ix3 0 0 l)
      = (A.md (tseq t) 4 l : EReal) := by
  pointwise [blk4 H t]

/-- The gate's row, read from its block. -/
theorem gate_row (l : Fin 1024) :
    View.ld (iblk m c 4 t) (Rect.unit (s := S1x8x1024) ![0, 5, 0] S1x1x1024.size inb_S1x8x1024_S1x1x1024_0_5_0) (ix3 0 0 l)
      = (A.md (tseq t) 5 l : EReal) := by
  pointwise [blk4 H t]

end Cert.MlpBwdIdeal.Value

end
-- ==== Proof.MlpScratch.lean ====
module

public import proofs.«01_k».proof.Proof.Rows
public import proofs.«01_k».proof.Proof.MlpHost

@[expose] public section

set_option maxRecDepth 16384

/-! The weights in the scratch: each is put together from its copied pieces at the first point, and kept by the others. -/

noncomputable section

namespace Cert.Rows

open Idealize.ShloMosaic

variable {Val : EltTy → Type} [∀ e, Nonempty (Val e)] {e : EltTy} {n : ℕ}

/-- In a block of `m` rows and `n` columns, what the store of a window of `j` rows and `k` columns, made last, leaves
inside the window. -/
theorem canon_hit {m j k : ℕ} (o p : ℕ) (inb : ∀ a, ![o, p] a + ![j, k] a ≤ (⟨2, ![m, n]⟩ : Shape).size a)
    (w : (Rect.unit (s := ⟨2, ![m, n]⟩) ![o, p] ![j, k] inb).shape.Idx → Val e)
    (L : List (View.Piece Val (⟨2, ![m, n]⟩ : Shape) e)) (r : Fin m) (l : Fin n)
    (h : o ≤ r.val ∧ r.val < o + j ∧ p ≤ l.val ∧ l.val < p + k) :
    View.canon (⟨Rect.unit (s := ⟨2, ![m, n]⟩) ![o, p] ![j, k] inb, w⟩ :: L) (ix2 r l)
      = w (ix2 ⟨r.val - o, by omega⟩ ⟨l.val - p, by omega⟩) := by
  have hy : (Rect.unit (s := ⟨2, ![m, n]⟩) ![o, p] ![j, k] inb).emb (ix2 ⟨r.val - o, by omega⟩ ⟨l.val - p, by omega⟩) = ix2 r l := by
    funext a; apply Fin.ext; fin_cases a
    · simp [Rect.unit, Rect.emb]; omega
    · simp [Rect.unit, Rect.emb]; omega
  rw [← hy]
  exact View.canon_cons_emb _ _ _ _

/-- And outside the window. -/
theorem canon_miss {m j k : ℕ} (o p : ℕ) (inb : ∀ a, ![o, p] a + ![j, k] a ≤ (⟨2, ![m, n]⟩ : Shape).size a)
    (w : (Rect.unit (s := ⟨2, ![m, n]⟩) ![o, p] ![j, k] inb).shape.Idx → Val e)
    (L : List (View.Piece Val (⟨2, ![m, n]⟩ : Shape) e)) (r : Fin m) (l : Fin n)
    (h : ¬ (o ≤ r.val ∧ r.val < o + j ∧ p ≤ l.val ∧ l.val < p + k)) :
    View.canon (⟨Rect.unit (s := ⟨2, ![m, n]⟩) ![o, p] ![j, k] inb, w⟩ :: L) (ix2 r l) = View.canon L (ix2 r l) :=
  View.canon_cons_of_not_mem _ _ (by
    rw [Rect.mem_set_unit]
    intro hall
    exact h ⟨(hall 0).1, (hall 0).2, (hall 1).1, (hall 1).2⟩)

end Cert.Rows

namespace Cert.MlpBwdIdeal.Value

open Cert.MlpBwdIdeal Cert.MlpBwdIdeal.Gen Cert.Reals Cert.Mlp
open Idealize.ShloMosaic Idealize.ShloMosaic.TcCoe Idealize.SL.Sem
open scoped BigOperators

variable {m : (ℓ : Loc nD τ sig) → Buf (Elt Ideal) ℓ} {c : Dev nD} {A : Mlp.Args}
variable (H : Holds m c A) (t : Fin cfg0.N)
include H

omit H in
/-- A square read from a slab of one. -/
theorem slab (h : (⟨2, ![512, 512]⟩ : Shape).numel = (⟨3, ![1, 512, 512]⟩ : Shape).numel) (i j : Fin 512) :
    Shape.reshapeEquiv h (ix2 i j) = ix3 0 i j :=
  Shape.reshapeEquiv_eq_of_rowMajor h (by
    rw [rowMajor_val3 _ (512 * 512) 512 rfl rfl, rowMajor_val2 _ 512 rfl]
    show 0 * (512 * 512) + i.val * 512 + j.val = i.val * 512 + j.val
    omega)

/-- A piece of the upper half of the first weight. -/
theorem piece32 (p : ℕ) (hp : p < 8) (inb : ∀ a, ![p, 0, 0] a + ![1, 512, 512] a ≤ S8x512x512.size a) (hs) (i j : Fin 512) :
    View.read (Elt Ideal) (((View.whole main_v32).slice (Rect.unit (s := S8x512x512) ![p, 0, 0] ![1, 512, 512] inb)).reshape S512x512 hs)
      (V m c main_v32) (ix2 i j) = (A.wu ⟨i.val, by omega⟩ ⟨p * 512 + j.val, by omega⟩ : EReal) := by
  have e : (((View.whole main_v32).slice (Rect.unit (s := S8x512x512) ![p, 0, 0] ![1, 512, 512] inb)).reshape S512x512 hs).emb (ix2 i j)
      = ix3 ⟨p, hp⟩ i j := by
    show ((View.whole main_v32).slice (Rect.unit (s := S8x512x512) ![p, 0, 0] ![1, 512, 512] inb)).emb (Shape.reshapeEquiv hs (ix2 i j)) = _
    rw [slab hs]
    funext a; apply Fin.ext
    show ((Rect.unit (s := S8x512x512) ![p, 0, 0] ![1, 512, 512] inb).emb (ix3 0 i j) a).val = _
    fin_cases a <;> simp [Rect.unit, Rect.emb]
  refine (congrArg (V m c main_v32) e).trans ?_
  exact host32 H ⟨p, hp⟩ i j

/-- A piece of the lower half of the first weight. -/
theorem piece34 (p : ℕ) (hp : p < 8) (inb : ∀ a, ![p, 0, 0] a + ![1, 512, 512] a ≤ S8x512x512.size a) (hs) (i j : Fin 512) :
    View.read (Elt Ideal) (((View.whole main_v34).slice (Rect.unit (s := S8x512x512) ![p, 0, 0] ![1, 512, 512] inb)).reshape S512x512 hs)
      (V m c main_v34) (ix2 i j) = (A.wu ⟨512 + i.val, by omega⟩ ⟨p * 512 + j.val, by omega⟩ : EReal) := by
  have e : (((View.whole main_v34).slice (Rect.unit (s := S8x512x512) ![p, 0, 0] ![1, 512, 512] inb)).reshape S512x512 hs).emb (ix2 i j)
      = ix3 ⟨p, hp⟩ i j := by
    show ((View.whole main_v34).slice (Rect.unit (s := S8x512x512) ![p, 0, 0] ![1, 512, 512] inb)).emb (Shape.reshapeEquiv hs (ix2 i j)) = _
    rw [slab hs]
    funext a; apply Fin.ext
    show ((Rect.unit (s := S8x512x512) ![p, 0, 0] ![1, 512, 512] inb).emb (ix3 0 i j) a).val = _
    fin_cases a <;> simp [Rect.unit, Rect.emb]
  refine (congrArg (V m c main_v34) e).trans ?_
  exact host34 H ⟨p, hp⟩ i j

/-- The second weight after the first point. -/
theorem scr0 (h0 : t.val % 16 = 0) (h1 : t.val % 8 = 0) (k : Fin 4096) (l : Fin 1024) :
    (outsAt0 m c t.val t.isLt).2.2.2.2.1 (ix2 k l) = (A.wd k l : EReal) := by
  rw [outsAt0_A m c t h0 h1]; dsimp only; frame_out
  by_cases h : 640 ≤ l.val
  · refine (Rows.canon_hit 0 640 _ _ _ k l ⟨by omega, by omega, h, by omega⟩).trans ((host36 H _ _).trans ?_)
    congr 3
    show 640 + (l.val - 640) = l.val
    omega
  · refine (Rows.canon_miss 0 640 _ _ _ k l (by omega)).trans
      ((Rows.canon_hit 0 0 _ _ _ k l (by omega)).trans ((host35 H _ _).trans ?_))
    congr 3

set_option maxHeartbeats 1000000 in
/-- The first weight after the first point. -/
theorem scr1 (h0 : t.val % 16 = 0) (h1 : t.val % 8 = 0) (l : Fin 1024) (k : Fin 4096) :
    (outsAt0 m c t.val t.isLt).2.2.2.2.2 (ix2 l k) = (A.wu l k : EReal) := by
  rw [outsAt0_A m c t h0 h1]; dsimp only; frame_out
  have hk : k.val < 512 ∨ (512 ≤ k.val ∧ k.val < 1024) ∨ (1024 ≤ k.val ∧ k.val < 1536) ∨ (1536 ≤ k.val ∧ k.val < 2048)
      ∨ (2048 ≤ k.val ∧ k.val < 2560) ∨ (2560 ≤ k.val ∧ k.val < 3072) ∨ (3072 ≤ k.val ∧ k.val < 3584) ∨ 3584 ≤ k.val := by omega
  by_cases hl : 512 ≤ l.val
  · obtain hk | hk | hk | hk | hk | hk | hk | hk := hk
    all_goals
      repeat first
        | refine (Rows.canon_hit _ _ _ _ _ l k (by omega)).trans ?_
        | refine (Rows.canon_miss _ _ _ _ _ l k (by omega)).trans ?_
      refine (piece34 H _ (by omega) _ _ _ _).trans ?_
      congr 3 <;> dsimp only <;> omega
  · obtain hk | hk | hk | hk | hk | hk | hk | hk := hk
    all_goals
      repeat first
        | refine (Rows.canon_hit _ _ _ _ _ l k (by omega)).trans ?_
        | refine (Rows.canon_miss _ _ _ _ _ l k (by omega)).trans ?_
      refine (piece32 H _ (by omega) _ _ _ _).trans ?_
      congr 3 <;> dsimp only <;> omega

omit H in
theorem keep_B_0 (h0 : ¬t.val % 16 = 0) (h1 : ¬t.val % 8 = 0) : (outsAt0 m c t.val t.isLt).2.2.2.2.1
    = (outsAt0 m c (t.val - 1) (Nat.lt_of_le_of_lt (Nat.sub_le _ _) t.isLt)).2.2.2.2.1 := by
  rw [outsAt0_B m c t h0 h1]; dsimp only
  unfold sout0_B_0
  rfl

omit H in
theorem keep_B_1 (h0 : ¬t.val % 16 = 0) (h1 : ¬t.val % 8 = 0) : (outsAt0 m c t.val t.isLt).2.2.2.2.2
    = (outsAt0 m c (t.val - 1) (Nat.lt_of_le_of_lt (Nat.sub_le _ _) t.isLt)).2.2.2.2.2 := by
  rw [outsAt0_B m c t h0 h1]; dsimp only
  unfold sout0_B_1
  rfl

omit H in
theorem keep_C_0 (h0 : ¬t.val % 16 = 0) (h1 : t.val % 8 = 0) : (outsAt0 m c t.val t.isLt).2.2.2.2.1
    = (outsAt0 m c (t.val - 1) (Nat.lt_of_le_of_lt (Nat.sub_le _ _) t.isLt)).2.2.2.2.1 := by
  rw [outsAt0_C m c t h0 h1]; dsimp only
  unfold sout0_C_0
  rfl

omit H in
theorem keep_C_1 (h0 : ¬t.val % 16 = 0) (h1 : t.val % 8 = 0) : (outsAt0 m c t.val t.isLt).2.2.2.2.2
    = (outsAt0 m c (t.val - 1) (Nat.lt_of_le_of_lt (Nat.sub_le _ _) t.isLt)).2.2.2.2.2 := by
  rw [outsAt0_C m c t h0 h1]; dsimp only
  unfold sout0_C_1
  rfl

/-- Both weights after every point. -/
theorem scratch (n : ℕ) (h : n < cfg0.N) :
    (∀ k l, (outsAt0 m c n h).2.2.2.2.1 (ix2 k l) = (A.wd k l : EReal)) ∧ (∀ l k, (outsAt0 m c n h).2.2.2.2.2 (ix2 l k) = (A.wu l k : EReal)) := by
  induction n with
  | zero => exact ⟨scr0 H ⟨0, h⟩ rfl rfl, scr1 H ⟨0, h⟩ rfl rfl⟩
  | succ n ih =>
    have h0 : ¬ (n + 1) % 16 = 0 := by have := lt16 ⟨n + 1, h⟩; dsimp only at this; omega
    obtain ⟨i0, i1⟩ := ih (by omega)
    by_cases h1 : (n + 1) % 8 = 0
    · exact ⟨fun k l => (congrFun (keep_C_0 ⟨n + 1, h⟩ h0 h1) _).trans (i0 k l), fun l k => (congrFun (keep_C_1 ⟨n + 1, h⟩ h0 h1) _).trans (i1 l k)⟩
    · exact ⟨fun k l => (congrFun (keep_B_0 ⟨n + 1, h⟩ h0 h1) _).trans (i0 k l), fun l k => (congrFun (keep_B_1 ⟨n + 1, h⟩ h0 h1) _).trans (i1 l k)⟩

/-- The second weight, at the points after the first. -/
theorem kept0 (k : Fin 4096) (l : Fin 1024) :
    (outsAt0 m c (t.val - 1) (Nat.lt_of_le_of_lt (Nat.sub_le _ _) t.isLt)).2.2.2.2.1 (ix2 k l) = (A.wd k l : EReal) :=
  (scratch H _ _).1 k l

/-- The first weight, at the points after the first. -/
theorem kept1 (l : Fin 1024) (k : Fin 4096) :
    (outsAt0 m c (t.val - 1) (Nat.lt_of_le_of_lt (Nat.sub_le _ _) t.isLt)).2.2.2.2.2 (ix2 l k) = (A.wu l k : EReal) :=
  (scratch H _ _).2 l k

end Cert.MlpBwdIdeal.Value

end
-- ==== Proof.MlpValue.lean ====
module

public import proofs.«01_k».proof.Proof.MlpScratch

@[expose] public section

set_option maxRecDepth 16384

/-! The arrays that the kernel leaves, at real arguments. -/

noncomputable section

namespace Cert.Rows

open Idealize.ShloMosaic

/-- A whole array of `n` by `k` read back from the stores made before it. -/
theorem readCov_all {Val : EltTy → Type} [∀ e, Nonempty (Val e)] {e : EltTy} {n k : ℕ} {sig : RefSig} {κ : Kind} {sp : Space}
    (v : View sig κ sp (⟨2, ![n, k]⟩ : Shape) e) (L : List (View.Piece Val (⟨2, ![n, k]⟩ : Shape) e))
    (inb : ∀ a, ![0, 0] a + ![n, k] a ≤ (⟨2, ![n, k]⟩ : Shape).size a) (r : Fin n) (l : Fin k) :
    v.readCov L (Rect.unit (s := ⟨2, ![n, k]⟩) ![0, 0] ![n, k] inb).toLoadRect (ix2 r l) = View.canon L (ix2 r l) := by
  have hy : (Rect.unit (s := ⟨2, ![n, k]⟩) ![0, 0] ![n, k] inb).emb (ix2 r l) = ix2 r l := by
    funext a; apply Fin.ext; fin_cases a <;> simp [Rect.unit, Rect.emb]
  exact (View.read_writes_junk_apply_eq_canon v _ L).trans (congrArg _ hy)

end Cert.Rows

namespace Cert.MlpBwdIdeal.Value

open Cert.MlpBwdIdeal Cert.MlpBwdIdeal.Gen Cert.Reals Cert.Mlp
open Cert.Mix (seq tok)
open Idealize.ShloMosaic Idealize.ShloMosaic.TcCoe Idealize.SL.Sem
open scoped BigOperators

variable {m : (ℓ : Loc nD τ sig) → Buf (Elt Ideal) ℓ} {c : Dev nD} {A : Mlp.Args}
variable (H : Holds m c A) (t : Fin cfg0.N)
include H

/-- The second weight, read back at the first point from its copied pieces. -/
theorem first0 (h0 : t.val % 16 = 0) (h1 : t.val % 8 = 0) (L : List (View.Piece (Elt Ideal) S4096x1024 .bf16)) (inb)
    (hL : (outsAt0 m c t.val t.isLt).2.2.2.2.1 = View.canon L) (k : Fin 4096) (l : Fin 1024) :
    (View.whole cc0_scratch0).readCov L (Rect.unit (s := S4096x1024) ![0, 0] ![4096, 1024] inb).toLoadRect (ix2 k l)
      = (A.wd k l : EReal) :=
  (Rows.readCov_all _ L inb k l).trans ((congrFun hL _).symm.trans (scr0 H t h0 h1 k l))

/-- The first weight, read back at the first point from its copied pieces. -/
theorem first1 (h0 : t.val % 16 = 0) (h1 : t.val % 8 = 0) (L : List (View.Piece (Elt Ideal) S1024x4096 .bf16)) (inb)
    (hL : (outsAt0 m c t.val t.isLt).2.2.2.2.2 = View.canon L) (l : Fin 1024) (k : Fin 4096) :
    (View.whole cc0_scratch1).readCov L (Rect.unit (s := S1024x4096) ![0, 0] ![1024, 4096] inb).toLoadRect (ix2 l k)
      = (A.wu l k : EReal) :=
  (Rows.readCov_all _ L inb l k).trans ((congrFun hL _).symm.trans (scr1 H t h0 h1 l k))

/-- The second weight, read at the other points. -/
theorem later0 (k : Fin 4096) (l : Fin 1024) :
    View.read (Elt Ideal) (View.whole cc0_scratch0) ((Memref.isWhole_whole _).unread
      (outsAt0 m c (t.val - 1) (Nat.lt_of_le_of_lt (Nat.sub_le _ _) t.isLt)).2.2.2.2.1) (ix2 k l) = (A.wd k l : EReal) :=
  (congrFun (Memref.IsWhole.read_unread _ _) _).trans (kept0 H t k l)

/-- The first weight, read at the other points. -/
theorem later1 (l : Fin 1024) (k : Fin 4096) :
    View.read (Elt Ideal) (View.whole cc0_scratch1) ((Memref.isWhole_whole _).unread
      (outsAt0 m c (t.val - 1) (Nat.lt_of_le_of_lt (Nat.sub_le _ _) t.isLt)).2.2.2.2.2) (ix2 l k) = (A.wu l k : EReal) :=
  (congrFun (Memref.IsWhole.read_unread _ _) _).trans (kept1 H t l k)

omit H
variable (m c)

/-- The gate's row of a tile. -/
abbrev gate : FVec Ideal S1x1024 .f32 := k0_pay2 (F := Ideal)
  (View.ld (iblk m c 4 t) (Rect.unit (s := S1x8x1024) ![0, 5, 0] S1x1x1024.size inb_S1x8x1024_S1x1x1024_0_5_0))

/-- The scale's row of a tile. -/
abbrev scl : FVec Ideal S1x1024 .f32 := k0_pay1 (F := Ideal)
  (View.ld (iblk m c 4 t) (Rect.unit (s := S1x8x1024) ![0, 4, 0] S1x1x1024.size inb_S1x8x1024_S1x1x1024_0_4_0))

variable {m c}
include H

theorem dd_tile (r : Fin 256) (l : Fin 1024) :
    k0_pay20 (F := Ideal) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (ix2 r l) = (dd A (tile t r) l : EReal) := by
  rw [Pure.pay20 _ _ _ _ _ (blk0 H t) (blk1 H t) (blk3 H t) (gate_row H t) (blk6 H t)]
  unfold dd
  rw [seq_tile]

section Weights
variable {WD : S4096x1024.Idx → EReal} {WU : S1024x4096.Idx → EReal}
variable (hWD : ∀ k l, WD (ix2 k l) = (A.wd k l : EReal)) (hWU : ∀ l k, WU (ix2 l k) = (A.wu l k : EReal))
include hWD

theorem dup_tile (r : Fin 256) (j : Fin 4096) :
    k0_pay21 (F := Ideal) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD (ix2 r j) = (dup A (tile t r) j : EReal) :=
  Pure.pay21 _ _ _ (dd_tile H t) (blk2 H t) hWD r j

include hWU

theorem dhid_tile (r : Fin 256) (l : Fin 1024) :
    k0_pay22 (F := Ideal) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD WU (ix2 r l) = (dhid A (tile t r) l : EReal) :=
  Pure.pay22 _ _ hWU (dup_tile H t hWD) r l

theorem dx_tile (r : Fin 256) (l : Fin 1024) :
    k0_pay29 (F := Ideal) (k0_pay3 (iblk m c 0 t)) (k0_pay4 (iblk m c 0 t))
      (k0_pay13 (gate m c t) (iblk m c 0 t) (k0_pay6 (iblk m c 1 t)) (k0_pay7 (iblk m c 1 t)) (iblk m c 6 t) (iblk m c 3 t))
      (k0_pay27 (scl m c t) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD WU (iblk m c 5 t))
      (k0_pay28 (scl m c t) (k0_pay4 (iblk m c 0 t)) (k0_pay8 (k0_pay7 (iblk m c 1 t)))
      (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD WU (iblk m c 5 t)) (ix2 r l) = (dx A (tile t r) l : EReal) := by
  rw [Pure.pay29 _ _ _ _ _ (blk0 H t)
    (Pure.pay13 _ _ _ _ _ (blk0 H t) (blk1 H t) (blk3 H t) (gate_row H t) (blk6 H t)) (dhid_tile H t hWD hWU) (scale_row H t) (blk5 H t)]
  unfold dx dy
  rw [seq_tile]
end Weights

theorem dx_A (h0 : t.val % 16 = 0) (h1 : t.val % 8 = 0) (r : Fin 256) (l : Fin 1024) :
    (outsAt0 m c t.val t.isLt).1 (ix2 r l) = (dx A (tile t r) l : EReal) := by
  rw [outsAt0_A m c t h0 h1]; dsimp only; frame_out
  refine dx_tile H t (first0 H t h0 h1 _ _ ?_) (first1 H t h0 h1 _ _ ?_) r l
  · rw [outsAt0_A m c t h0 h1]; dsimp only; frame_out
  · rw [outsAt0_A m c t h0 h1]; dsimp only; frame_out

theorem dx_B (h0 : ¬t.val % 16 = 0) (h1 : ¬t.val % 8 = 0) (r : Fin 256) (l : Fin 1024) :
    (outsAt0 m c t.val t.isLt).1 (ix2 r l) = (dx A (tile t r) l : EReal) := by
  rw [outsAt0_B m c t h0 h1]; dsimp only; frame_out
  exact dx_tile H t (later0 H t) (later1 H t) r l

theorem dx_C (h0 : ¬t.val % 16 = 0) (h1 : t.val % 8 = 0) (r : Fin 256) (l : Fin 1024) :
    (outsAt0 m c t.val t.isLt).1 (ix2 r l) = (dx A (tile t r) l : EReal) := by
  rw [outsAt0_C m c t h0 h1]; dsimp only; frame_out
  exact dx_tile H t (later0 H t) (later1 H t) r l

theorem dup_A (h0 : t.val % 16 = 0) (h1 : t.val % 8 = 0) (r : Fin 256) (j : Fin 4096) :
    (outsAt0 m c t.val t.isLt).2.1 (ix2 r j) = (dup A (tile t r) j : EReal) := by
  rw [outsAt0_A m c t h0 h1]; dsimp only; frame_out
  refine dup_tile H t (first0 H t h0 h1 _ _ ?_) r j
  rw [outsAt0_A m c t h0 h1]; dsimp only; frame_out

theorem dup_B (h0 : ¬t.val % 16 = 0) (h1 : ¬t.val % 8 = 0) (r : Fin 256) (j : Fin 4096) :
    (outsAt0 m c t.val t.isLt).2.1 (ix2 r j) = (dup A (tile t r) j : EReal) := by
  rw [outsAt0_B m c t h0 h1]; dsimp only; frame_out
  exact dup_tile H t (later0 H t) r j

theorem dup_C (h0 : ¬t.val % 16 = 0) (h1 : t.val % 8 = 0) (r : Fin 256) (j : Fin 4096) :
    (outsAt0 m c t.val t.isLt).2.1 (ix2 r j) = (dup A (tile t r) j : EReal) := by
  rw [outsAt0_C m c t h0 h1]; dsimp only; frame_out
  exact dup_tile H t (later0 H t) r j

theorem dd_out (r : Fin 256) (l : Fin 1024) :
    (outsAt0 m c t.val t.isLt).2.2.1 (ix2 r l) = (dd A (tile t r) l : EReal) := by
  by_cases h1 : t.val % 8 = 0
  · by_cases h0 : t.val % 16 = 0
    · rw [outsAt0_A m c t h0 h1]; dsimp only; frame_out
      exact dd_tile H t r l
    · rw [outsAt0_C m c t h0 h1]; dsimp only; frame_out
      exact dd_tile H t r l
  · have h0 : ¬ t.val % 16 = 0 := by omega
    rw [outsAt0_B m c t h0 h1]; dsimp only; frame_out
    exact dd_tile H t r l

/-- The gradient of the tokens. -/
theorem final_7 : (dats m 0 c).arrAt 7 cfg0.N = arr2 (dx A) := by
  refine (dats m 0 c).arrAt_eq_of_covers 7 _ (by decide +kernel) fun t hf y => ?_
  blk_simp; rw [after0_7]
  have e : ∀ (r : Fin 256) (l : Fin 1024), ((View.whole main_v37_0).slice (win0_7.rect t)).emb (ix2 r l) = ix2 (tile t r) l := by
    intro r l; blk_ext [idx t, tile]
  idx_vars y
  rw [e]
  by_cases h1 : t.val % 8 = 0
  · by_cases h0 : t.val % 16 = 0
    · exact dx_A H t h0 h1 _ _
    · exact dx_C H t h0 h1 _ _
  · exact dx_B H t (by omega) h1 _ _

/-- The gradient of the first product. -/
theorem final_8 : (dats m 0 c).arrAt 8 cfg0.N = arr2 (dup A) := by
  refine (dats m 0 c).arrAt_eq_of_covers 8 _ (by decide +kernel) fun t hf y => ?_
  blk_simp; rw [after0_8]
  have e : ∀ (r : Fin 256) (l : Fin 4096), ((View.whole main_v37_1).slice (win0_8.rect t)).emb (ix2 r l) = ix2 (tile t r) l := by
    intro r l; blk_ext [idx t, tile]
  idx_vars y
  rw [e]
  by_cases h1 : t.val % 8 = 0
  · by_cases h0 : t.val % 16 = 0
    · exact dup_A H t h0 h1 _ _
    · exact dup_C H t h0 h1 _ _
  · exact dup_B H t (by omega) h1 _ _

/-- The gradient of the second product. -/
theorem final_9 : (dats m 0 c).arrAt 9 cfg0.N = arr2 (dd A) := by
  refine (dats m 0 c).arrAt_eq_of_covers 9 _ (by decide +kernel) fun t hf y => ?_
  blk_simp; rw [after0_9]
  have e : ∀ (r : Fin 256) (l : Fin 1024), ((View.whole main_v37_2).slice (win0_9.rect t)).emb (ix2 r l) = ix2 (tile t r) l := by
    intro r l; blk_ext [idx t, tile]
  idx_vars y
  rw [e]
  exact dd_out H t _ _

/-- What a tile adds to its sequence's block of sums. -/
def term (A : Mlp.Args) (t : Fin cfg0.N) : S1x8x1024.Idx → EReal := arr3 fun _ r l => ∑ s, rows A (tile t s) r l

omit H in
theorem term_ix (r : Fin 8) (l : Fin 1024) : term A t (ix3 0 r l) = ((∑ s, rows A (tile t s) r l : ℝ) : EReal) := rfl

section Sums
variable {WD : S4096x1024.Idx → EReal} {WU : S1024x4096.Idx → EReal}
variable (hWD : ∀ k l, WD (ix2 k l) = (A.wd k l : EReal)) (hWU : ∀ l k, WU (ix2 l k) = (A.wu l k : EReal))
include hWD hWU

/-- The shift's row of a tile. -/
theorem row0 (l : Fin 1024) : k0_pay23 (F := Ideal) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD WU (ix2 0 l) = term A t (ix3 0 0 l) := by
  rw [Pure.pay23 _ (dhid_tile H t hWD hWU), term_ix]
  rfl

/-- The scale's row of a tile. -/
theorem row1 (l : Fin 1024) : k0_pay24 (F := Ideal) (k0_pay5 (iblk m c 0 t) (iblk m c 5 t)) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD WU (ix2 0 l)
    = term A t (ix3 0 1 l) := by
  rw [Pure.pay24 _ _ (Pure.pay5 _ _ (blk0 H t) (blk5 H t)) (dhid_tile H t hWD hWU), term_ix]
  rfl

/-- The first weight's row of a tile. -/
theorem row3 (l : Fin 1024) : k0_pay26 (F := Ideal) (scl m c t) (k0_pay4 (iblk m c 0 t)) (k0_pay8 (k0_pay7 (iblk m c 1 t))) (k0_pay9 (k0_pay6 (iblk m c 1 t)) (k0_pay7 (iblk m c 1 t)))
      (k0_pay17 (gate m c t) (iblk m c 0 t) (k0_pay6 (iblk m c 1 t)) (k0_pay7 (iblk m c 1 t)) (iblk m c 6 t) (iblk m c 3 t) (iblk m c 6 t))
      (k0_pay18 (gate m c t) (iblk m c 0 t) (k0_pay6 (iblk m c 1 t)) (k0_pay7 (iblk m c 1 t)) (iblk m c 6 t) (iblk m c 3 t) (iblk m c 6 t))
      k0_pay19 (iblk m c 2 t) WD WU (ix2 0 l)
    = term A t (ix3 0 3 l) := by
  rw [Pure.pay26 _ _ _ (blk0 H t) (dhid_tile H t hWD hWU) (scale_row H t), term_ix]
  unfold rows
  simp only [seq_tile]
  rfl
end Sums

/-- The gate's row of a tile. -/
theorem row2 (l : Fin 1024) : k0_pay14 (F := Ideal) (gate m c t) (iblk m c 0 t) (k0_pay6 (iblk m c 1 t)) (k0_pay7 (iblk m c 1 t)) (iblk m c 6 t) (iblk m c 3 t) (ix2 0 l) = term A t (ix3 0 2 l) := by
  rw [Pure.pay14 _ _ _ _ _ (blk0 H t) (blk1 H t) (blk3 H t) (gate_row H t) (blk6 H t), term_ix]
  unfold rows dy
  simp only [seq_tile]
  rfl

/-- The second weight's row of a tile. -/
theorem row4 (l : Fin 1024) : k0_pay16 (F := Ideal) (gate m c t) (iblk m c 0 t) (k0_pay6 (iblk m c 1 t)) (k0_pay7 (iblk m c 1 t)) (iblk m c 6 t) (iblk m c 3 t) (ix2 0 l) = term A t (ix3 0 4 l) := by
  rw [Pure.pay16 _ _ _ _ _ (blk0 H t) (blk1 H t) (blk3 H t) (gate_row H t) (blk6 H t), term_ix]
  unfold rows dy
  simp only [seq_tile]
  rfl

/-- The loss of a tile. -/
theorem row5 (l : Fin 1024) : k0_pay30 (F := Ideal) (k0_pay12 (gate m c t) (iblk m c 0 t) (k0_pay6 (iblk m c 1 t)) (k0_pay7 (iblk m c 1 t)) (iblk m c 6 t) (iblk m c 3 t)) (ix2 0 l) = term A t (ix3 0 5 l) := by
  rw [Pure.pay30, Pure.pay12 _ _ _ _ _ (blk0 H t) (blk1 H t) (blk3 H t) (gate_row H t) (blk6 H t), term_ix]
  unfold rows loss error
  simp only [seq_tile]
  rfl

omit H in
/-- The other rows of a tile. -/
theorem row6 (r : Fin 8) (hr : 6 ≤ r.val) (l : Fin 1024) : term A t (ix3 0 r l) = 0 := by
  rw [term_ix]
  unfold rows
  simp only [if_neg (show ¬ r.val = 0 by omega), if_neg (show ¬ r.val = 1 by omega), if_neg (show ¬ r.val = 2 by omega),
    if_neg (show ¬ r.val = 3 by omega), if_neg (show ¬ r.val = 4 by omega), if_neg (show ¬ r.val = 5 by omega),
    Finset.sum_const_zero]
  rfl

theorem reset_A (h0 : t.val % 16 = 0) (h1 : t.val % 8 = 0) (i : S1x8x1024.Idx) :
    (outsAt0 m c t.val t.isLt).2.2.2.1 i = (fun _ => (0 : EReal)) i + term A t i := by
  rw [outsAt0_A m c t h0 h1]; dsimp only; frame_out
  idx_vars i
  obtain rfl : i0 = 0 := Subsingleton.elim _ _
  obtain rfl | rfl | rfl | rfl | rfl | rfl | h6 : i1 = 0 ∨ i1 = 1 ∨ i1 = 2 ∨ i1 = 3 ∨ i1 = 4 ∨ i1 = 5 ∨ 6 ≤ i1.val := by omega
  · refine (Rows.canon_ne 5 _ _ _ _ i2 (by decide)).trans ((Rows.canon_ne 4 _ _ _ _ i2 (by decide)).trans ((Rows.canon_ne 3 _ _ _ _ i2 (by decide)).trans ((Rows.canon_ne 2 _ _ _ _ i2 (by decide)).trans ((Rows.canon_ne 1 _ _ _ _ i2 (by decide)).trans ((Rows.canon_self 0 (by decide) _ _ _ i2).trans ((Pure.pay32 _ _ _).trans ?_))))))
    refine congrArg₂ (· + ·) ((Rows.readCov_row _ _ 0 (by decide) _ _).trans ?_) (row0 H t (first0 H t h0 h1 _ _ ?_) (first1 H t h0 h1 _ _ ?_) i2)
    · exact (Rows.canon_fill _ _ _ _ _).trans (Pure.pay31 _ _)
    · rw [outsAt0_A m c t h0 h1]; dsimp only; frame_out
    · rw [outsAt0_A m c t h0 h1]; dsimp only; frame_out
  · refine (Rows.canon_ne 5 _ _ _ _ i2 (by decide)).trans ((Rows.canon_ne 4 _ _ _ _ i2 (by decide)).trans ((Rows.canon_ne 3 _ _ _ _ i2 (by decide)).trans ((Rows.canon_ne 2 _ _ _ _ i2 (by decide)).trans ((Rows.canon_self 1 (by decide) _ _ _ i2).trans ((Pure.pay34 _ _ _).trans ?_)))))
    refine congrArg₂ (· + ·) ((Rows.readCov_row _ _ 1 (by decide) _ _).trans ?_) (row1 H t (first0 H t h0 h1 _ _ ?_) (first1 H t h0 h1 _ _ ?_) i2)
    · exact (Rows.canon_ne 0 _ _ _ _ i2 (by decide)).trans ((Rows.canon_fill _ _ _ _ _).trans (Pure.pay31 _ _))
    · rw [outsAt0_A m c t h0 h1]; dsimp only; frame_out
    · rw [outsAt0_A m c t h0 h1]; dsimp only; frame_out
  · refine (Rows.canon_ne 5 _ _ _ _ i2 (by decide)).trans ((Rows.canon_ne 4 _ _ _ _ i2 (by decide)).trans ((Rows.canon_ne 3 _ _ _ _ i2 (by decide)).trans ((Rows.canon_self 2 (by decide) _ _ _ i2).trans ((Pure.pay35 _ _ _).trans ?_))))
    refine congrArg₂ (· + ·) ((Rows.readCov_row _ _ 2 (by decide) _ _).trans ?_) (row2 H t i2)
    exact (Rows.canon_ne 1 _ _ _ _ i2 (by decide)).trans ((Rows.canon_ne 0 _ _ _ _ i2 (by decide)).trans ((Rows.canon_fill _ _ _ _ _).trans (Pure.pay31 _ _)))
  · refine (Rows.canon_ne 5 _ _ _ _ i2 (by decide)).trans ((Rows.canon_ne 4 _ _ _ _ i2 (by decide)).trans ((Rows.canon_self 3 (by decide) _ _ _ i2).trans ((Pure.pay36 _ _ _).trans ?_)))
    refine congrArg₂ (· + ·) ((Rows.readCov_row _ _ 3 (by decide) _ _).trans ?_) (row3 H t (first0 H t h0 h1 _ _ ?_) (first1 H t h0 h1 _ _ ?_) i2)
    · exact (Rows.canon_ne 2 _ _ _ _ i2 (by decide)).trans ((Rows.canon_ne 1 _ _ _ _ i2 (by decide)).trans ((Rows.canon_ne 0 _ _ _ _ i2 (by decide)).trans ((Rows.canon_fill _ _ _ _ _).trans (Pure.pay31 _ _))))
    · rw [outsAt0_A m c t h0 h1]; dsimp only; frame_out
    · rw [outsAt0_A m c t h0 h1]; dsimp only; frame_out
  · refine (Rows.canon_ne 5 _ _ _ _ i2 (by decide)).trans ((Rows.canon_self 4 (by decide) _ _ _ i2).trans ((Pure.pay37 _ _ _).trans ?_))
    refine congrArg₂ (· + ·) ((Rows.readCov_row _ _ 4 (by decide) _ _).trans ?_) (row4 H t i2)
    exact (Rows.canon_ne 3 _ _ _ _ i2 (by decide)).trans ((Rows.canon_ne 2 _ _ _ _ i2 (by decide)).trans ((Rows.canon_ne 1 _ _ _ _ i2 (by decide)).trans ((Rows.canon_ne 0 _ _ _ _ i2 (by decide)).trans ((Rows.canon_fill _ _ _ _ _).trans (Pure.pay31 _ _)))))
  · refine (Rows.canon_self 5 (by decide) _ _ _ i2).trans ((Pure.pay38 _ _ _).trans ?_)
    refine congrArg₂ (· + ·) ((Rows.readCov_row _ _ 5 (by decide) _ _).trans ?_) (row5 H t i2)
    exact (Rows.canon_ne 4 _ _ _ _ i2 (by decide)).trans ((Rows.canon_ne 3 _ _ _ _ i2 (by decide)).trans ((Rows.canon_ne 2 _ _ _ _ i2 (by decide)).trans ((Rows.canon_ne 1 _ _ _ _ i2 (by decide)).trans ((Rows.canon_ne 0 _ _ _ _ i2 (by decide)).trans ((Rows.canon_fill _ _ _ _ _).trans (Pure.pay31 _ _))))))
  · rw [row6 t i1 h6, add_zero]
    exact (Rows.canon_ne 5 _ _ _ _ i2 (by omega)).trans ((Rows.canon_ne 4 _ _ _ _ i2 (by omega)).trans ((Rows.canon_ne 3 _ _ _ _ i2 (by omega)).trans ((Rows.canon_ne 2 _ _ _ _ i2 (by omega)).trans ((Rows.canon_ne 1 _ _ _ _ i2 (by omega)).trans ((Rows.canon_ne 0 _ _ _ _ i2 (by omega)).trans ((Rows.canon_fill _ _ _ _ _).trans (Pure.pay31 _ _)))))))

theorem reset_C (h0 : ¬t.val % 16 = 0) (h1 : t.val % 8 = 0) (i : S1x8x1024.Idx) :
    (outsAt0 m c t.val t.isLt).2.2.2.1 i = (fun _ => (0 : EReal)) i + term A t i := by
  rw [outsAt0_C m c t h0 h1]; dsimp only; frame_out
  idx_vars i
  obtain rfl : i0 = 0 := Subsingleton.elim _ _
  obtain rfl | rfl | rfl | rfl | rfl | rfl | h6 : i1 = 0 ∨ i1 = 1 ∨ i1 = 2 ∨ i1 = 3 ∨ i1 = 4 ∨ i1 = 5 ∨ 6 ≤ i1.val := by omega
  · refine (Rows.canon_ne 5 _ _ _ _ i2 (by decide)).trans ((Rows.canon_ne 4 _ _ _ _ i2 (by decide)).trans ((Rows.canon_ne 3 _ _ _ _ i2 (by decide)).trans ((Rows.canon_ne 2 _ _ _ _ i2 (by decide)).trans ((Rows.canon_ne 1 _ _ _ _ i2 (by decide)).trans ((Rows.canon_self 0 (by decide) _ _ _ i2).trans ((Pure.pay32 _ _ _).trans ?_))))))
    refine congrArg₂ (· + ·) ((Rows.readCov_row _ _ 0 (by decide) _ _).trans ?_) (row0 H t (later0 H t) (later1 H t) i2)
    exact (Rows.canon_fill _ _ _ _ _).trans (Pure.pay31 _ _)
  · refine (Rows.canon_ne 5 _ _ _ _ i2 (by decide)).trans ((Rows.canon_ne 4 _ _ _ _ i2 (by decide)).trans ((Rows.canon_ne 3 _ _ _ _ i2 (by decide)).trans ((Rows.canon_ne 2 _ _ _ _ i2 (by decide)).trans ((Rows.canon_self 1 (by decide) _ _ _ i2).trans ((Pure.pay34 _ _ _).trans ?_)))))
    refine congrArg₂ (· + ·) ((Rows.readCov_row _ _ 1 (by decide) _ _).trans ?_) (row1 H t (later0 H t) (later1 H t) i2)
    exact (Rows.canon_ne 0 _ _ _ _ i2 (by decide)).trans ((Rows.canon_fill _ _ _ _ _).trans (Pure.pay31 _ _))
  · refine (Rows.canon_ne 5 _ _ _ _ i2 (by decide)).trans ((Rows.canon_ne 4 _ _ _ _ i2 (by decide)).trans ((Rows.canon_ne 3 _ _ _ _ i2 (by decide)).trans ((Rows.canon_self 2 (by decide) _ _ _ i2).trans ((Pure.pay35 _ _ _).trans ?_))))
    refine congrArg₂ (· + ·) ((Rows.readCov_row _ _ 2 (by decide) _ _).trans ?_) (row2 H t i2)
    exact (Rows.canon_ne 1 _ _ _ _ i2 (by decide)).trans ((Rows.canon_ne 0 _ _ _ _ i2 (by decide)).trans ((Rows.canon_fill _ _ _ _ _).trans (Pure.pay31 _ _)))
  · refine (Rows.canon_ne 5 _ _ _ _ i2 (by decide)).trans ((Rows.canon_ne 4 _ _ _ _ i2 (by decide)).trans ((Rows.canon_self 3 (by decide) _ _ _ i2).trans ((Pure.pay36 _ _ _).trans ?_)))
    refine congrArg₂ (· + ·) ((Rows.readCov_row _ _ 3 (by decide) _ _).trans ?_) (row3 H t (later0 H t) (later1 H t) i2)
    exact (Rows.canon_ne 2 _ _ _ _ i2 (by decide)).trans ((Rows.canon_ne 1 _ _ _ _ i2 (by decide)).trans ((Rows.canon_ne 0 _ _ _ _ i2 (by decide)).trans ((Rows.canon_fill _ _ _ _ _).trans (Pure.pay31 _ _))))
  · refine (Rows.canon_ne 5 _ _ _ _ i2 (by decide)).trans ((Rows.canon_self 4 (by decide) _ _ _ i2).trans ((Pure.pay37 _ _ _).trans ?_))
    refine congrArg₂ (· + ·) ((Rows.readCov_row _ _ 4 (by decide) _ _).trans ?_) (row4 H t i2)
    exact (Rows.canon_ne 3 _ _ _ _ i2 (by decide)).trans ((Rows.canon_ne 2 _ _ _ _ i2 (by decide)).trans ((Rows.canon_ne 1 _ _ _ _ i2 (by decide)).trans ((Rows.canon_ne 0 _ _ _ _ i2 (by decide)).trans ((Rows.canon_fill _ _ _ _ _).trans (Pure.pay31 _ _)))))
  · refine (Rows.canon_self 5 (by decide) _ _ _ i2).trans ((Pure.pay38 _ _ _).trans ?_)
    refine congrArg₂ (· + ·) ((Rows.readCov_row _ _ 5 (by decide) _ _).trans ?_) (row5 H t i2)
    exact (Rows.canon_ne 4 _ _ _ _ i2 (by decide)).trans ((Rows.canon_ne 3 _ _ _ _ i2 (by decide)).trans ((Rows.canon_ne 2 _ _ _ _ i2 (by decide)).trans ((Rows.canon_ne 1 _ _ _ _ i2 (by decide)).trans ((Rows.canon_ne 0 _ _ _ _ i2 (by decide)).trans ((Rows.canon_fill _ _ _ _ _).trans (Pure.pay31 _ _))))))
  · rw [row6 t i1 h6, add_zero]
    exact (Rows.canon_ne 5 _ _ _ _ i2 (by omega)).trans ((Rows.canon_ne 4 _ _ _ _ i2 (by omega)).trans ((Rows.canon_ne 3 _ _ _ _ i2 (by omega)).trans ((Rows.canon_ne 2 _ _ _ _ i2 (by omega)).trans ((Rows.canon_ne 1 _ _ _ _ i2 (by omega)).trans ((Rows.canon_ne 0 _ _ _ _ i2 (by omega)).trans ((Rows.canon_fill _ _ _ _ _).trans (Pure.pay31 _ _)))))))

/-- The block of sums after a sequence's first tile. -/
theorem reset (h : t.val % 8 = 0) (i : S1x8x1024.Idx) :
    (outsAt0 m c t.val t.isLt).2.2.2.1 i = (fun _ => (0 : EReal)) i + term A t i := by
  by_cases h0 : t.val % 16 = 0
  · exact reset_A H t h0 h i
  · exact reset_C H t h0 h i

/-- The block of sums after each further tile. -/
theorem step (h1 : ¬ t.val % 8 = 0) (i : S1x8x1024.Idx) :
    (outsAt0 m c t.val t.isLt).2.2.2.1 i
      = (show EReal from (outsAt0 m c (t.val - 1) (Nat.lt_of_le_of_lt (Nat.sub_le _ _) t.isLt)).2.2.2.1 i) + term A t i := by
  have h0 : ¬ t.val % 16 = 0 := by omega
  rw [outsAt0_B m c t h0 h1]; dsimp only; frame_out
  have r0 := row0 H t (later0 H t) (later1 H t)
  have r1 := row1 H t (later0 H t) (later1 H t)
  have r3 := row3 H t (later0 H t) (later1 H t)
  generalize (outsAt0 m c (t.val - 1) (Nat.lt_of_le_of_lt (Nat.sub_le _ _) t.isLt)).2.2.2.1 = Q
  idx_vars i
  obtain rfl : i0 = 0 := Subsingleton.elim _ _
  obtain rfl | rfl | rfl | rfl | rfl | rfl | h6 : i1 = 0 ∨ i1 = 1 ∨ i1 = 2 ∨ i1 = 3 ∨ i1 = 4 ∨ i1 = 5 ∨ 6 ≤ i1.val := by omega
  · refine (Rows.read_ne _ _ 5 _ _ _ _ i2 (by decide)).trans ((Rows.read_ne _ _ 4 _ _ _ _ i2 (by decide)).trans ((Rows.read_ne _ _ 3 _ _ _ _ i2 (by decide)).trans ((Rows.read_ne _ _ 2 _ _ _ _ i2 (by decide)).trans ((Rows.read_ne _ _ 1 _ _ _ _ i2 (by decide)).trans ((Rows.read_self _ _ 0 (by decide) _ _ _ i2).trans ((Pure.pay32 _ _ _).trans ?_))))))
    refine congrArg₂ (· + ·) ?_ (r0 i2)
    pointwise
  · refine (Rows.read_ne _ _ 5 _ _ _ _ i2 (by decide)).trans ((Rows.read_ne _ _ 4 _ _ _ _ i2 (by decide)).trans ((Rows.read_ne _ _ 3 _ _ _ _ i2 (by decide)).trans ((Rows.read_ne _ _ 2 _ _ _ _ i2 (by decide)).trans ((Rows.read_self _ _ 1 (by decide) _ _ _ i2).trans ((Pure.pay34 _ _ _).trans ?_)))))
    refine congrArg₂ (· + ·) ?_ (r1 i2)
    pointwise
  · refine (Rows.read_ne _ _ 5 _ _ _ _ i2 (by decide)).trans ((Rows.read_ne _ _ 4 _ _ _ _ i2 (by decide)).trans ((Rows.read_ne _ _ 3 _ _ _ _ i2 (by decide)).trans ((Rows.read_self _ _ 2 (by decide) _ _ _ i2).trans ((Pure.pay35 _ _ _).trans ?_))))
    refine congrArg₂ (· + ·) ?_ (row2 H t i2)
    pointwise
  · refine (Rows.read_ne _ _ 5 _ _ _ _ i2 (by decide)).trans ((Rows.read_ne _ _ 4 _ _ _ _ i2 (by decide)).trans ((Rows.read_self _ _ 3 (by decide) _ _ _ i2).trans ((Pure.pay36 _ _ _).trans ?_)))
    refine congrArg₂ (· + ·) ?_ (r3 i2)
    pointwise
  · refine (Rows.read_ne _ _ 5 _ _ _ _ i2 (by decide)).trans ((Rows.read_self _ _ 4 (by decide) _ _ _ i2).trans ((Pure.pay37 _ _ _).trans ?_))
    refine congrArg₂ (· + ·) ?_ (row4 H t i2)
    pointwise
  · refine (Rows.read_self _ _ 5 (by decide) _ _ _ i2).trans ((Pure.pay38 _ _ _).trans ?_)
    refine congrArg₂ (· + ·) ?_ (row5 H t i2)
    pointwise
  · rw [row6 t i1 h6, add_zero]
    exact (Rows.read_ne _ _ 5 _ _ _ _ i2 (by omega)).trans ((Rows.read_ne _ _ 4 _ _ _ _ i2 (by omega)).trans ((Rows.read_ne _ _ 3 _ _ _ _ i2 (by omega)).trans ((Rows.read_ne _ _ 2 _ _ _ _ i2 (by omega)).trans ((Rows.read_ne _ _ 1 _ _ _ _ i2 (by omega)).trans ((Rows.read_ne _ _ 0 _ _ _ _ i2 (by omega)).trans (congrFun (Memref.IsWhole.read_unread _ Q) _))))))

/-- The sequences' blocks of sums. -/
theorem final_10 : (dats m 0 c).arrAt 10 cfg0.N = arr3 (acc A) := by
  refine (dats m 0 c).arrAt_eq_of_covers 10 _ (by decide +kernel) fun t hf y => ?_
  have e : ∀ (r : Fin 8) (l : Fin 1024), ((View.whole main_v37_3).slice (win0_10.rect t)).emb (ix3 0 r l) = ix3 (tseq t) r l := by
    intro r l; blk_ext [idx t, tseq]
  blk_simp; rw [after0_10, Pipeline.eq_sum_fin_of_reset_step_apply_of_flush (fun n h => (outsAt0 m c n h).2.2.2.1) 8 (fun _ => 0) (term A)
    (fun t h j => reset H t h j) (fun t h j => step H t h j) t ((flush0_10 t).mp hf) _, zero_add]
  idx_vars y
  obtain rfl : y0 = 0 := Subsingleton.elim _ _
  refine Eq.trans ?_ (congrArg (arr3 (acc A)) (e y1 y2)).symm
  rw [arr3_ix]
  unfold term acc
  simp only [arr3_ix]
  rw [sum_coe]
  congr 1
  refine Fin.sum_mul_add_congr fun s k hl => ?_
  congr 1
  apply Fin.ext
  show (8 * (t.val / 8) + s.val) * 256 + k.val = t.val / 8 * 2048 + (s.val * 256 + k.val)
  omega

end Cert.MlpBwdIdeal.Value

end
-- ==== Proof.MlpClaim.lean ====
module

public import proofs.«01_k».proof.Defs
public import proofs.«01_k».proof.Proof.Gen.MlpBwd
public import proofs.«01_k».proof.Proof.Gen.MlpBwdIdeal
public import proofs.«01_k».proof.Proof.MlpFrame
public import proofs.«01_k».proof.Proof.MlpBlocks
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_finite_mlp
public import proofs.«01_k».proof.Proof.MlpValue
public import proofs.«01_k».proof.Proof.MlpRef
public import proofs.«01_k».proof.Proof.Finite

@[expose] public section

set_option maxRecDepth 16384

/-! The claims about the gradient of the MLP, of its two norms and of the loss after it. -/

noncomputable section

namespace Cert.MlpClaim

open Idealize.ShloMosaic Idealize.ShloMosaic.TcCoe Idealize.SL.Sem Cert.Reals

/-- The real arrays that a memory's arguments are. -/
def args (m : (ℓ : Loc Cert.MlpBwdIdeal.nD Cert.MlpBwdIdeal.τ Cert.MlpBwdIdeal.sig) → Buf (Elt Ideal) ℓ) (c : Dev Cert.MlpBwdIdeal.nD) : Mlp.Args where
  x i j := EReal.toReal (m ((c.tc : Thread Cert.MlpBwdIdeal.nD Cert.MlpBwdIdeal.τ).loc Cert.MlpBwdIdeal.main_arg0) (ix2 i j))
  tgt i j := EReal.toReal (m ((c.tc : Thread Cert.MlpBwdIdeal.nD Cert.MlpBwdIdeal.τ).loc Cert.MlpBwdIdeal.main_arg1) (ix2 i j))
  md i j k := EReal.toReal (m ((c.tc : Thread Cert.MlpBwdIdeal.nD Cert.MlpBwdIdeal.τ).loc Cert.MlpBwdIdeal.main_arg2) (ix3 i j k))
  pw i j := EReal.toReal (m ((c.tc : Thread Cert.MlpBwdIdeal.nD Cert.MlpBwdIdeal.τ).loc Cert.MlpBwdIdeal.main_arg3) (ix2 i j))
  qw i j := EReal.toReal (m ((c.tc : Thread Cert.MlpBwdIdeal.nD Cert.MlpBwdIdeal.τ).loc Cert.MlpBwdIdeal.main_arg4) (ix2 i j))
  wu i j := EReal.toReal (m ((c.tc : Thread Cert.MlpBwdIdeal.nD Cert.MlpBwdIdeal.τ).loc Cert.MlpBwdIdeal.main_arg5) (ix2 i j))
  wd i j := EReal.toReal (m ((c.tc : Thread Cert.MlpBwdIdeal.nD Cert.MlpBwdIdeal.τ).loc Cert.MlpBwdIdeal.main_arg6) (ix2 i j))

/-- The precondition makes the arguments those arrays. -/
theorem holds (m : (ℓ : Loc Cert.MlpBwdIdeal.nD Cert.MlpBwdIdeal.τ Cert.MlpBwdIdeal.sig) → Buf (Elt Ideal) ℓ) (c : Dev Cert.MlpBwdIdeal.nD)
    (h : Pre_MlpBwdIdeal_finite_mlp m) : MlpBwdIdeal.Value.Holds m c (args m c) := by
  have e := congrFun (h c) ix0
  dsimp only [Cert.Pre_finite_mlp.fn, Cert.Pre_finite_mlp.fn_part1, andi] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact
    { x := Finite.arr2_of_real _ (Finite.real_of_all _ _ _ _ _ e0)
      tgt := Finite.arr2_of_real _ (Finite.real_of_all _ _ _ _ _ e1)
      md := Finite.arr3_of_real _ (Finite.real_of_all _ _ _ _ _ e2)
      pw := Finite.arr2_of_real _ (Finite.real_of_all _ _ _ _ _ e3)
      qw := Finite.arr2_of_real _ (Finite.real_of_all _ _ _ _ _ e4)
      wu := Finite.arr2_of_real _ (Finite.real_of_all _ _ _ _ _ e5)
      wd := Finite.arr2_of_real _ (Finite.real_of_all _ _ _ _ _ e6) }

/-- The contents of a buffer as the launch finds them are the memory's. -/
theorem at_launch (m : (ℓ : Loc MlpRefIdeal.nD MlpRefIdeal.τ MlpRefIdeal.sig) → Buf (Elt Ideal) ℓ) (c : Dev MlpRefIdeal.nD)
    (b : Ref MlpRefIdeal.sig .tc) : StableHlo.launchContents m c (Proc.devRef .tc b)
      = m ((c.tc : Thread MlpRefIdeal.nD MlpRefIdeal.τ).loc b) := rfl

/-- The kernel's arrays are the reference's. -/
theorem algebraic : algebraic_MlpBwdIdeal_MlpRefIdeal_pre_finite_mlp := by
  intro m g m' g' hp hagree
  refine ⟨fun c => arr2 (Mlp.dx (args m c)), fun c => arr2 (Mlp.dup (args m c)), fun c => arr2 (Mlp.dd (args m c)), fun c => arr3 (Mlp.acc (args m c)), ?_, ?_⟩
  · refine (θ_run _ _ _).mono (fun r h c => ?_) (MlpBwdIdeal.Value.run_blocks m g)
    have H := holds m c hp
    obtain ⟨h0, h1, h2, h3, hk⟩ := h c
    exact ⟨h0.trans (MlpBwdIdeal.Value.final_7 H), h1.trans (MlpBwdIdeal.Value.final_8 H), h2.trans (MlpBwdIdeal.Value.final_9 H), h3.trans (MlpBwdIdeal.Value.final_10 H), hk⟩
  · refine (θ_run _ _ _).mono (fun r h c => ?_) (MlpRefIdeal.Value.run m' g')
    have H := holds m c hp
    obtain ⟨a0, a1, a2, a3, a4, a5, a6⟩ := hagree c
    obtain ⟨h0, h1, h2, h3, hk⟩ := h c
    refine ⟨h0.trans ?_, h1.trans ?_, h2.trans ?_, h3.trans ?_, hk⟩
    · rw [MlpRefIdeal.Read.val_main_v136_eq]
      simp only [at_launch, a0, a1, a2, a3, a4, a5, a6]
      exact (by rw [H.x, H.tgt, H.md, H.pw, H.qw, H.wu, H.wd]; exact MlpRefIdeal.Value.v136 _)
    · rw [MlpRefIdeal.Read.val_main_v138_eq]
      simp only [at_launch, a0, a1, a2, a3, a4, a5, a6]
      exact (by rw [H.x, H.tgt, H.md, H.pw, H.qw, H.wu, H.wd]; exact MlpRefIdeal.Value.v138 _)
    · rw [MlpRefIdeal.Read.val_main_v140_eq]
      simp only [at_launch, a0, a1, a2, a3, a4, a5, a6]
      exact (by rw [H.x, H.tgt, H.md, H.pw, H.qw, H.wu, H.wd]; exact MlpRefIdeal.Value.v140 _)
    · rw [MlpRefIdeal.Read.val_main_v134_eq]
      simp only [at_launch, a0, a1, a2, a3, a4, a5, a6]
      exact (by rw [H.x, H.tgt, H.md, H.pw, H.qw, H.wu, H.wd]; exact MlpRefIdeal.Value.v134 _)

end Cert.MlpClaim

end
-- ==== Proof.InSpec.lean ====
module

public import proofs.«01_k».proof.Proof.MixSpec

@[expose] public section

/-! What the gradient of the input projection, its norm and its modulation is, over real numbers. -/

noncomputable section

namespace Cert.In

open Cert.Reals Cert.Mix
open scoped BigOperators

/-- The arguments: the layer's input, the gradient that reaches it past the heads, the five pieces of the projection's
    gradient, the eight rows of modulation of each sequence, the norm's weight and the projection's weight. -/
structure Args where
  x : Fin 4096 → Fin 1024 → ℝ
  dx : Fin 4096 → Fin 1024 → ℝ
  p0 : Fin 4096 → Fin 768 → ℝ
  p1 : Fin 4096 → Fin 512 → ℝ
  p2 : Fin 4096 → Fin 512 → ℝ
  p3 : Fin 4096 → Fin 512 → ℝ
  p4 : Fin 4096 → Fin 512 → ℝ
  md : Fin 2 → Fin 8 → Fin 1024 → ℝ
  pw : Fin 1 → Fin 1024 → ℝ
  w : Fin 1024 → Fin 2816 → ℝ

variable (A : Args)

/-- The gradient of the projection: the five pieces beside one another. -/
def dproj (n : Fin 4096) (k : Fin 2816) : ℝ :=
  if h0 : k.val < 768 then A.p0 n ⟨k.val, h0⟩
  else if h1 : k.val < 1280 then A.p1 n ⟨k.val - 768, by omega⟩
  else if h2 : k.val < 1792 then A.p2 n ⟨k.val - 1280, by omega⟩
  else if h3 : k.val < 2304 then A.p3 n ⟨k.val - 1792, by omega⟩
  else A.p4 n ⟨k.val - 2304, by omega⟩

/-- The gradient of the modulated norm: the projection's gradient against the weight. -/
def dh (n : Fin 4096) (l : Fin 1024) : ℝ :=
  ∑ k : Fin 768, A.p0 n k * A.w l ⟨k.val, by omega⟩ + ∑ k : Fin 512, A.p1 n k * A.w l ⟨768 + k.val, by omega⟩
    + ∑ k : Fin 512, A.p2 n k * A.w l ⟨1280 + k.val, by omega⟩ + ∑ k : Fin 512, A.p3 n k * A.w l ⟨1792 + k.val, by omega⟩
    + ∑ k : Fin 512, A.p4 n k * A.w l ⟨2304 + k.val, by omega⟩

/-- The gradient of the norm. -/
def dn (n : Fin 4096) (l : Fin 1024) : ℝ := dh A n l * (1 + A.md (seq n) 1 l)

/-- The gradient of the layer's input. -/
def gx (n : Fin 4096) (l : Fin 1024) : ℝ := A.dx n l + normGrad 1024 (A.x n) (fun l => dn A n l * A.pw 0 l) l

/-- What a token adds to the gradient of the scale. -/
def scale (n : Fin 4096) (l : Fin 1024) : ℝ := dh A n l * (A.x n l * rms 1024 (A.x n) * A.pw 0 l)

/-- What a token adds to the gradient of the norm's weight. -/
def weight (n : Fin 4096) (l : Fin 1024) : ℝ := dn A n l * (A.x n l * rms 1024 (A.x n))

/-- The rows that a token adds to its sequence's block of sums: the shift's, the scale's, the weight's and five of zero. -/
def rows (n : Fin 4096) (r : Fin 8) (l : Fin 1024) : ℝ :=
  if r.val = 0 then dh A n l else if r.val = 1 then scale A n l else if r.val = 2 then weight A n l else 0

/-- The block of sums of a sequence. -/
def acc (b : Fin 2) (r : Fin 8) (l : Fin 1024) : ℝ := ∑ s, rows A (tok b s) r l

end Cert.In

end
-- ==== Proof.InPure.lean ====
module

public import proofs.«01_k».proof.Proof.Gen.InBwdIdeal.Value
public import Idealize.ShloMosaic.Lib.Pipeline.ValueKit
public import Idealize.ShloMosaic.Lib.Claim
public import proofs.«01_k».proof.Proof.InSpec
public import proofs.«01_k».proof.Proof.Rows

@[expose] public section

set_option maxRecDepth 16384

/-! The kernel's arithmetic on one tile of 512 tokens, read at real numbers. -/

noncomputable section

namespace Cert.InBwdIdeal.Pure

open Cert.InBwdIdeal Cert.InBwdIdeal.Gen Cert.Reals
open Idealize.ShloMosaic Idealize.ShloMosaic.TcCoe Idealize.SL.Sem
open scoped BigOperators

section Product
variable (p0 : Fin 512 → Fin 768 → ℝ) (p1 p2 p3 p4 : Fin 512 → Fin 512 → ℝ)
variable (w0 : Fin 768 → Fin 1024 → ℝ) (w1 w2 w3 w4 : Fin 512 → Fin 1024 → ℝ) (s : Fin 512 → Fin 1024 → ℝ)
variable {P0 : S512x768.Idx → EReal} {P1 P2 P3 P4 : S512x512.Idx → EReal}
variable {W0 : S768x1024.Idx → EReal} {W1 W2 W3 W4 S : S512x1024.Idx → EReal}
variable (hP0 : ∀ r k, P0 (ix2 r k) = (p0 r k : EReal)) (hP1 : ∀ r k, P1 (ix2 r k) = (p1 r k : EReal))
variable (hP2 : ∀ r k, P2 (ix2 r k) = (p2 r k : EReal)) (hP3 : ∀ r k, P3 (ix2 r k) = (p3 r k : EReal))
variable (hP4 : ∀ r k, P4 (ix2 r k) = (p4 r k : EReal))
variable (hW0 : ∀ k l, W0 (ix2 k l) = (w0 k l : EReal)) (hW1 : ∀ k l, W1 (ix2 k l) = (w1 k l : EReal))
variable (hW2 : ∀ k l, W2 (ix2 k l) = (w2 k l : EReal)) (hW3 : ∀ k l, W3 (ix2 k l) = (w3 k l : EReal))
variable (hW4 : ∀ k l, W4 (ix2 k l) = (w4 k l : EReal)) (hS : ∀ r l, S (ix2 r l) = (s r l : EReal))

include hP0 hP1 hP2 hW0 hW1 hW2 in
/-- The first three pieces' products. -/
theorem pay4 (r : Fin 512) (l : Fin 1024) : k0_pay4 (F := Ideal) P0 W0 P1 W1 P2 W2 (ix2 r l)
    = ((∑ k, p0 r k * w0 k l + ∑ k, p1 r k * w1 k l + ∑ k, p2 r k * w2 k l : ℝ) : EReal) := by
  pointwise [k0_pay4]
  simp only [hP0, hP1, hP2, hW0, hW1, hW2, ← EReal.coe_mul, sum_coe, ← EReal.coe_add, zero_add]

include hP3 hP4 hW3 hW4 hS in
/-- All five pieces' products. -/
theorem pay5 (r : Fin 512) (l : Fin 1024) : k0_pay5 (F := Ideal) S P3 W3 P4 W4 (ix2 r l)
    = ((s r l + ∑ k, p3 r k * w3 k l + ∑ k, p4 r k * w4 k l : ℝ) : EReal) := by
  pointwise [k0_pay5]
  simp only [hP3, hP4, hW3, hW4, hS, ← EReal.coe_mul, sum_coe, ← EReal.coe_add]
end Product

variable (x : Fin 512 → Fin 1024 → ℝ) (h : Fin 512 → Fin 1024 → ℝ) (d : Fin 512 → Fin 1024 → ℝ) (g : Fin 1024 → ℝ)
variable (p : Fin 1 → Fin 1024 → ℝ)
variable {X D S : S512x1024.Idx → EReal} {P3 P4 : S512x512.Idx → EReal} {W3 W4 : S512x1024.Idx → EReal}
variable {G : S1x1x1024.Idx → EReal} {P : S1x1024.Idx → EReal}
variable (hX : ∀ r l, X (ix2 r l) = (x r l : EReal)) (hD : ∀ r l, D (ix2 r l) = (d r l : EReal))
variable (hH : ∀ r l, k0_pay5 (F := Ideal) S P3 W3 P4 W4 (ix2 r l) = (h r l : EReal))
variable (hG : ∀ l, G (ix3 0 0 l) = (g l : EReal)) (hP : ∀ z l, P (ix2 z l) = (p z l : EReal))

include hX in
/-- The reciprocal root mean square of a row. -/
theorem pay6 (r : Fin 512) (z : Fin 1) : k0_pay6 (F := Ideal) X (ix2 r z) = (rms 1024 (x r) : EReal) := by
  pointwise [k0_pay6]
  simp only [hX, ← EReal.coe_mul, sum_coe, div_1024]
  exact rsqrt_meanSq _

include hX in
/-- The normed row. -/
theorem pay7 (r : Fin 512) (l : Fin 1024) : k0_pay7 (F := Ideal) X (ix2 r l) = ((x r l * rms 1024 (x r) : ℝ) : EReal) := by
  pointwise [k0_pay7, pay6 x hX]
  simp only [hX, ← EReal.coe_mul]

include hH in
/-- The shift's row of sums. -/
theorem pay8 (l : Fin 1024) : k0_pay8 (F := Ideal) S P3 W3 P4 W4 (ix2 0 l) = ((∑ r, h r l : ℝ) : EReal) := by
  pointwise [k0_pay8, hH]
  simp only [sum_coe]

include hX hH hP in
/-- The scale's row of sums. -/
theorem pay9 (l : Fin 1024) : k0_pay9 (F := Ideal) S P3 W3 P4 W4 X P (ix2 0 l)
    = ((∑ r, h r l * (x r l * rms 1024 (x r) * p 0 l) : ℝ) : EReal) := by
  pointwise [k0_pay9, hH, pay7 x hX]
  simp only [hP, ← EReal.coe_mul, sum_coe]

include hH hG in
/-- The gradient of the norm. -/
theorem pay10 (r : Fin 512) (l : Fin 1024) : k0_pay10 (F := Ideal) (k0_pay3 G) S P3 W3 P4 W4 (ix2 r l)
    = ((h r l * (1 + g l) : ℝ) : EReal) := by
  pointwise [k0_pay10, k0_pay3, hH]
  simp only [hG, EReal.coe_mul, EReal.coe_add, EReal.coe_one]

include hX hH hG in
/-- The weight's row of sums. -/
theorem pay11 (l : Fin 1024) : k0_pay11 (F := Ideal) (k0_pay3 G) S P3 W3 P4 W4 X (ix2 0 l)
    = ((∑ r, h r l * (1 + g l) * (x r l * rms 1024 (x r)) : ℝ) : EReal) := by
  pointwise [k0_pay11, pay10 h g hH hG, pay7 x hX]
  simp only [← EReal.coe_mul, sum_coe]

include hH hG hP in
/-- The gradient of the normed row. -/
theorem pay12 (r : Fin 512) (l : Fin 1024) : k0_pay12 (F := Ideal) (k0_pay3 G) S P3 W3 P4 W4 P (ix2 r l)
    = ((h r l * (1 + g l) * p 0 l : ℝ) : EReal) := by
  pointwise [k0_pay12, pay10 h g hH hG]
  simp only [hP, ← EReal.coe_mul]

include hX hH hG hP hD in
/-- The gradient of the row. -/
theorem pay13 (r : Fin 512) (l : Fin 1024) :
    k0_pay13 (F := Ideal) (k0_pay6 X) (k0_pay7 X) (k0_pay12 (k0_pay3 G) S P3 W3 P4 W4 P) D (ix2 r l)
    = ((d r l + normGrad 1024 (x r) (fun l => h r l * (1 + g l) * p 0 l) l : ℝ) : EReal) := by
  pointwise [k0_pay13, pay12 h g p hH hG hP, pay6 x hX, pay7 x hX]
  simp only [hD, ← EReal.coe_mul, sum_coe, div_1024, ← EReal.coe_sub, ← EReal.coe_add]
  rfl

/-- The block is filled with zeros. -/
theorem pay14 (r : Fin 8) (l : Fin 1024) : k0_pay14 (F := Ideal) (ix3 0 r l) = 0 := by
  pointwise [k0_pay14]

/-- The first row of the block: a sum is added. -/
theorem pay15 (u : FVec Ideal S1x1024 .f32) (v : Vec Ideal S1x1x1024 .f32) (l : Fin 1024) :
    k0_pay15 (F := Ideal) u v (ix3 0 0 l) = (show EReal from v (ix3 0 0 l)) + u (ix2 0 l) := by
  pointwise [k0_pay15]

/-- The second row of the block: a sum is added. -/
theorem pay1 (u : FVec Ideal S1x1024 .f32) (v : Vec Ideal S1x1x1024 .f32) (l : Fin 1024) :
    k0_pay1 (F := Ideal) u (k0_pay16 v) (ix3 0 0 l) = (show EReal from v (ix3 0 0 l)) + u (ix2 0 l) := by
  pointwise [k0_pay1, k0_pay16]

/-- The third row of the block: a sum is added. -/
theorem pay2 (u : FVec Ideal S1x1024 .f32) (v : Vec Ideal S1x1x1024 .f32) (l : Fin 1024) :
    k0_pay2 (F := Ideal) u v (ix3 0 0 l) = (show EReal from v (ix3 0 0 l)) + u (ix2 0 l) := by
  pointwise [k0_pay2]

end Cert.InBwdIdeal.Pure

end
-- ==== Proof.InValue.lean ====
module

public import proofs.«01_k».proof.Proof.InPure

@[expose] public section

set_option maxRecDepth 16384

/-! The arrays that the kernel leaves, at real arguments. -/

noncomputable section

namespace Cert.InBwdIdeal.Value

open Cert.InBwdIdeal Cert.InBwdIdeal.Gen Cert.Reals Cert.In
open Cert.Mix (seq tok)
open Idealize.ShloMosaic Idealize.ShloMosaic.TcCoe Idealize.SL.Sem
open scoped BigOperators

variable (m : (ℓ : Loc nD τ sig) → Buf (Elt Ideal) ℓ) (c : Dev nD) (A : In.Args)

/-- The arguments in memory are the real arrays `A`. -/
structure Holds : Prop where
  x : m ((c : Thread nD τ).loc main_arg0) = arr2 A.x
  dx : m ((c : Thread nD τ).loc main_arg1) = arr2 A.dx
  p0 : m ((c : Thread nD τ).loc main_arg2) = arr2 A.p0
  p1 : m ((c : Thread nD τ).loc main_arg3) = arr2 A.p1
  p2 : m ((c : Thread nD τ).loc main_arg4) = arr2 A.p2
  p3 : m ((c : Thread nD τ).loc main_arg5) = arr2 A.p3
  p4 : m ((c : Thread nD τ).loc main_arg6) = arr2 A.p4
  md : m ((c : Thread nD τ).loc main_arg7) = arr3 A.md
  pw : m ((c : Thread nD τ).loc main_arg8) = arr2 A.pw
  w : m ((c : Thread nD τ).loc main_arg9) = arr2 A.w

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val / 4, 0, 0]
    ∧ win0_8.index t = ![0, 0]
    ∧ win0_9.index t = ![0, 0]
    ∧ win0_10.index t = ![t.val, 0]
    ∧ win0_11.index t = ![t.val, 0] ∧ win0_12.index t = ![t.val / 4, 0, 0] :=
  (by decide +kernel : ∀ t : Fin grid0.N, _)

theorem lt8 (t : Fin cfg0.N) : t.val < 8 := (by decide +kernel : ∀ t : Fin grid0.N, t.val < 8) t

/-- The token of a row of a tile. -/
def tile (t : Fin cfg0.N) (r : Fin 512) : Fin 4096 := ⟨t.val * 512 + r.val, by have := lt8 t; omega⟩

/-- The sequence of a tile. -/
def tseq (t : Fin cfg0.N) : Fin 2 := ⟨t.val / 4, by have := lt8 t; omega⟩

theorem seq_tile (t : Fin cfg0.N) (r : Fin 512) : seq (tile t r) = tseq t := by
  apply Fin.ext; show (t.val * 512 + r.val) / 2048 = t.val / 4; omega

variable {m c A}
variable (H : Holds m c A) (t : Fin cfg0.N)
include H

theorem blk0 (r : Fin 512) (l : Fin 1024) : iblk m c 0 t (ix2 r l) = (A.x (tile t r) l : EReal) := by
  blk_simp [iblk, V, idx t]
  entry_read
  have e : ((View.whole main_arg0).slice (win0_0.rect t)).emb (ix2 r l) = ix2 (tile t r) l := by
    blk_ext [idx t, tile]
  rw [e]
  pointwise [H.x, arr2_ix]

theorem blk1 (r : Fin 512) (l : Fin 1024) : iblk m c 1 t (ix2 r l) = (A.dx (tile t r) l : EReal) := by
  blk_simp [iblk, V, idx t]
  entry_read
  have e : ((View.whole main_arg1).slice (win0_1.rect t)).emb (ix2 r l) = ix2 (tile t r) l := by
    blk_ext [idx t, tile]
  rw [e]
  pointwise [H.dx, arr2_ix]

theorem blk2 (r : Fin 512) (l : Fin 768) : iblk m c 2 t (ix2 r l) = (A.p0 (tile t r) l : EReal) := by
  blk_simp [iblk, V, idx t]
  entry_read
  have e : ((View.whole main_arg2).slice (win0_2.rect t)).emb (ix2 r l) = ix2 (tile t r) l := by
    blk_ext [idx t, tile]
  rw [e]
  pointwise [H.p0, arr2_ix]

theorem blk3 (r : Fin 512) (l : Fin 512) : iblk m c 3 t (ix2 r l) = (A.p1 (tile t r) l : EReal) := by
  blk_simp [iblk, V, idx t]
  entry_read
  have e : ((View.whole main_arg3).slice (win0_3.rect t)).emb (ix2 r l) = ix2 (tile t r) l := by
    blk_ext [idx t, tile]
  rw [e]
  pointwise [H.p1, arr2_ix]

theorem blk4 (r : Fin 512) (l : Fin 512) : iblk m c 4 t (ix2 r l) = (A.p2 (tile t r) l : EReal) := by
  blk_simp [iblk, V, idx t]
  entry_read
  have e : ((View.whole main_arg4).slice (win0_4.rect t)).emb (ix2 r l) = ix2 (tile t r) l := by
    blk_ext [idx t, tile]
  rw [e]
  pointwise [H.p2, arr2_ix]

theorem blk5 (r : Fin 512) (l : Fin 512) : iblk m c 5 t (ix2 r l) = (A.p3 (tile t r) l : EReal) := by
  blk_simp [iblk, V, idx t]
  entry_read
  have e : ((View.whole main_arg5).slice (win0_5.rect t)).emb (ix2 r l) = ix2 (tile t r) l := by
    blk_ext [idx t, tile]
  rw [e]
  pointwise [H.p3, arr2_ix]

theorem blk6 (r : Fin 512) (l : Fin 512) : iblk m c 6 t (ix2 r l) = (A.p4 (tile t r) l : EReal) := by
  blk_simp [iblk, V, idx t]
  entry_read
  have e : ((View.whole main_arg6).slice (win0_6.rect t)).emb (ix2 r l) = ix2 (tile t r) l := by
    blk_ext [idx t, tile]
  rw [e]
  pointwise [H.p4, arr2_ix]

theorem blk7 (r : Fin 8) (l : Fin 1024) : iblk m c 7 t (ix3 0 r l) = (A.md (tseq t) r l : EReal) := by
  blk_simp [iblk, V, idx t]
  entry_read
  have e : ((View.whole main_arg7).slice (win0_7.rect t)).emb (ix3 0 r l) = ix3 (tseq t) r l := by
    blk_ext [idx t, tseq]
  rw [e]
  pointwise [H.md, arr3_ix]

theorem blk8 (r : Fin 1) (l : Fin 1024) : iblk m c 8 t (ix2 r l) = (A.pw r l : EReal) := by
  blk_simp [iblk, V, idx t]
  entry_read
  have e : ((View.whole main_arg8).slice (win0_8.rect t)).emb (ix2 r l) = ix2 r l := by
    blk_ext [idx t]
  rw [e]
  pointwise [H.pw, arr2_ix]

theorem blk9 (k : Fin 2816) (l : Fin 1024) : iblk m c 9 t (ix2 k l) = (A.w l k : EReal) := by
  blk_simp [iblk, idx t]
  entry_read
  have e : ((View.whole main_v1).slice (win0_9.rect t)).emb (ix2 k l) = ix2 k l := by
    blk_ext [idx t]
  rw [e]
  pointwise [H.w, arr2_ix]

/-- The rows of the weight against which the first piece is taken. -/
theorem w0 (k : Fin 768) (l : Fin 1024) :
    View.ld (iblk m c 9 t) (Rect.unit (s := S2816x1024) ![0, 0] S768x1024.size inb_S2816x1024_S768x1024_0_0) (ix2 k l)
      = (A.w l ⟨k.val, by omega⟩ : EReal) := by
  pointwise [blk9 H t]

/-- The rows of the weight against which the second piece is taken. -/
theorem w1 (k : Fin 512) (l : Fin 1024) :
    View.ld (iblk m c 9 t) (Rect.unit (s := S2816x1024) ![768, 0] S512x1024.size inb_S2816x1024_S512x1024_768_0) (ix2 k l)
      = (A.w l ⟨768 + k.val, by omega⟩ : EReal) := by
  pointwise [blk9 H t]

/-- The rows of the weight against which the third piece is taken. -/
theorem w2 (k : Fin 512) (l : Fin 1024) :
    View.ld (iblk m c 9 t) (Rect.unit (s := S2816x1024) ![1280, 0] S512x1024.size inb_S2816x1024_S512x1024_1280_0) (ix2 k l)
      = (A.w l ⟨1280 + k.val, by omega⟩ : EReal) := by
  pointwise [blk9 H t]

/-- The rows of the weight against which the fourth piece is taken. -/
theorem w3 (k : Fin 512) (l : Fin 1024) :
    View.ld (iblk m c 9 t) (Rect.unit (s := S2816x1024) ![1792, 0] S512x1024.size inb_S2816x1024_S512x1024_1792_0) (ix2 k l)
      = (A.w l ⟨1792 + k.val, by omega⟩ : EReal) := by
  pointwise [blk9 H t]

/-- The rows of the weight against which the fifth piece is taken. -/
theorem w4 (k : Fin 512) (l : Fin 1024) :
    View.ld (iblk m c 9 t) (Rect.unit (s := S2816x1024) ![2304, 0] S512x1024.size inb_S2816x1024_S512x1024_2304_0) (ix2 k l)
      = (A.w l ⟨2304 + k.val, by omega⟩ : EReal) := by
  pointwise [blk9 H t]

/-- The scale's row, read from its block. -/
theorem scale_row (l : Fin 1024) :
    View.ld (iblk m c 7 t) (Rect.unit (s := S1x8x1024) ![0, 1, 0] S1x1x1024.size inb_S1x8x1024_S1x1x1024_0_1_0) (ix3 0 0 l)
      = (A.md (tseq t) 1 l : EReal) := by
  pointwise [blk7 H t]

omit H in
variable (m c) in
/-- The first three products of a tile. -/
abbrev part : FVec Ideal S512x1024 .f32 := k0_pay4 (F := Ideal) (iblk m c 2 t)
  (View.ld (iblk m c 9 t) (Rect.unit (s := S2816x1024) ![0, 0] S768x1024.size inb_S2816x1024_S768x1024_0_0)) (iblk m c 3 t)
  (View.ld (iblk m c 9 t) (Rect.unit (s := S2816x1024) ![768, 0] S512x1024.size inb_S2816x1024_S512x1024_768_0)) (iblk m c 4 t)
  (View.ld (iblk m c 9 t) (Rect.unit (s := S2816x1024) ![1280, 0] S512x1024.size inb_S2816x1024_S512x1024_1280_0))

theorem dh_tile (r : Fin 512) (l : Fin 1024) : k0_pay5 (F := Ideal) (part m c t) (iblk m c 5 t)
    (View.ld (iblk m c 9 t) (Rect.unit (s := S2816x1024) ![1792, 0] S512x1024.size inb_S2816x1024_S512x1024_1792_0)) (iblk m c 6 t)
    (View.ld (iblk m c 9 t) (Rect.unit (s := S2816x1024) ![2304, 0] S512x1024.size inb_S2816x1024_S512x1024_2304_0)) (ix2 r l)
    = (dh A (tile t r) l : EReal) :=
  Pure.pay5 _ _ _ _ _ (blk5 H t) (blk6 H t) (w3 H t) (w4 H t)
    (Pure.pay4 _ _ _ _ _ _ (blk2 H t) (blk3 H t) (blk4 H t) (w0 H t) (w1 H t) (w2 H t)) r l

theorem gx_tile (r : Fin 512) (l : Fin 1024) : k0_pay13 (F := Ideal) (k0_pay6 (iblk m c 0 t)) (k0_pay7 (iblk m c 0 t))
    (k0_pay12 (k0_pay3 (View.ld (iblk m c 7 t) (Rect.unit (s := S1x8x1024) ![0, 1, 0] S1x1x1024.size inb_S1x8x1024_S1x1x1024_0_1_0)))
      (part m c t) (iblk m c 5 t)
      (View.ld (iblk m c 9 t) (Rect.unit (s := S2816x1024) ![1792, 0] S512x1024.size inb_S2816x1024_S512x1024_1792_0)) (iblk m c 6 t)
      (View.ld (iblk m c 9 t) (Rect.unit (s := S2816x1024) ![2304, 0] S512x1024.size inb_S2816x1024_S512x1024_2304_0))
      (iblk m c 8 t)) (iblk m c 1 t) (ix2 r l) = (gx A (tile t r) l : EReal) := by
  rw [Pure.pay13 _ _ _ _ _ (blk0 H t) (blk1 H t) (dh_tile H t) (scale_row H t) (blk8 H t)]
  unfold gx dn
  rw [seq_tile]

/-- The gradient of the layer's input. -/
theorem final_10 : (dats m 0 c).arrAt 10 cfg0.N = arr2 (gx A) := by
  refine (dats m 0 c).arrAt_eq_of_covers 10 _ (by decide +kernel) fun t hf y => ?_
  blk_simp; rw [after0_10]
  have e : ∀ (r : Fin 512) (l : Fin 1024), ((View.whole main_v2_0).slice (win0_10.rect t)).emb (ix2 r l) = ix2 (tile t r) l := by
    intro r l; blk_ext [idx t, tile]
  by_cases h : t.val % 4 = 0
  · rw [outsAt0_A m c t h]; dsimp only; frame_out
    idx_vars y
    rw [e]; exact gx_tile H t _ _
  · rw [outsAt0_B m c t h]; dsimp only; frame_out
    idx_vars y
    rw [e]; exact gx_tile H t _ _

/-- A tile of the projection's gradient, from the stores of its five pieces. -/
theorem pieces (r : Fin 512) (l : Fin 2816) :
    View.canon (Val := Elt Ideal) (e := .bf16)
      [⟨Rect.unit (s := S512x2816) ![0, 2304] S512x512.size inb_S512x2816_S512x512_0_2304, iblk m c 6 t⟩,
        ⟨Rect.unit (s := S512x2816) ![0, 1792] S512x512.size inb_S512x2816_S512x512_0_1792, iblk m c 5 t⟩,
        ⟨Rect.unit (s := S512x2816) ![0, 1280] S512x512.size inb_S512x2816_S512x512_0_1280, iblk m c 4 t⟩,
        ⟨Rect.unit (s := S512x2816) ![0, 768] S512x512.size inb_S512x2816_S512x512_0_768, iblk m c 3 t⟩,
        ⟨Rect.unit (s := S512x2816) ![0, 0] S512x768.size inb_S512x2816_S512x768_0_0, iblk m c 2 t⟩] (ix2 r l)
      = (dproj A (tile t r) l : EReal) := by
  refine (Rows.canon_cols 2304 _ _ _ r l).trans ?_
  unfold dproj
  split_ifs with h <;> try omega
  · exact blk6 H t _ _
  all_goals
    refine (Rows.canon_cols 1792 _ _ _ r l).trans ?_
    split_ifs with h <;> try omega
  · refine (Rows.canon_cols 1280 _ _ _ r l).trans ?_
    rw [dif_neg (by omega)]
    refine (Rows.canon_cols 768 _ _ _ r l).trans ?_
    rw [dif_neg (by omega)]
    refine (Rows.canon_cols 0 _ _ _ r l).trans ?_
    rw [dif_pos (by omega)]
    exact blk2 H t _ _
  · refine (Rows.canon_cols 1280 _ _ _ r l).trans ?_
    rw [dif_neg (by omega)]
    refine (Rows.canon_cols 768 _ _ _ r l).trans ?_
    rw [dif_pos (by omega)]
    exact blk3 H t _ _
  · refine (Rows.canon_cols 1280 _ _ _ r l).trans ?_
    rw [dif_pos (by omega)]
    exact blk4 H t _ _
  · exact blk5 H t _ _

/-- The gradient of the projection. -/
theorem final_11 : (dats m 0 c).arrAt 11 cfg0.N = arr2 (dproj A) := by
  refine (dats m 0 c).arrAt_eq_of_covers 11 _ (by decide +kernel) fun t hf y => ?_
  blk_simp; rw [after0_11]
  have e : ∀ (r : Fin 512) (l : Fin 2816), ((View.whole main_v2_1).slice (win0_11.rect t)).emb (ix2 r l) = ix2 (tile t r) l := by
    intro r l; blk_ext [idx t, tile]
  by_cases h : t.val % 4 = 0
  · rw [outsAt0_A m c t h]; dsimp only; frame_out
    idx_vars y
    rw [e]; exact pieces H t _ _
  · rw [outsAt0_B m c t h]; dsimp only; frame_out
    idx_vars y
    rw [e]; exact pieces H t _ _

/-- What a tile adds to its sequence's block of sums. -/
def term (A : In.Args) (t : Fin cfg0.N) : S1x8x1024.Idx → EReal := arr3 fun _ r l => ∑ s, rows A (tile t s) r l

omit H in
theorem term_ix (r : Fin 8) (l : Fin 1024) : term A t (ix3 0 r l) = ((∑ s, rows A (tile t s) r l : ℝ) : EReal) := rfl

/-- The shift's row of a tile. -/
theorem row0 (l : Fin 1024) : k0_pay8 (F := Ideal) (part m c t) (iblk m c 5 t)
    (View.ld (iblk m c 9 t) (Rect.unit (s := S2816x1024) ![1792, 0] S512x1024.size inb_S2816x1024_S512x1024_1792_0)) (iblk m c 6 t)
    (View.ld (iblk m c 9 t) (Rect.unit (s := S2816x1024) ![2304, 0] S512x1024.size inb_S2816x1024_S512x1024_2304_0)) (ix2 0 l)
    = term A t (ix3 0 0 l) := by
  rw [Pure.pay8 _ (dh_tile H t), term_ix]
  rfl

/-- The scale's row of a tile. -/
theorem row1 (l : Fin 1024) : k0_pay9 (F := Ideal) (part m c t) (iblk m c 5 t)
    (View.ld (iblk m c 9 t) (Rect.unit (s := S2816x1024) ![1792, 0] S512x1024.size inb_S2816x1024_S512x1024_1792_0)) (iblk m c 6 t)
    (View.ld (iblk m c 9 t) (Rect.unit (s := S2816x1024) ![2304, 0] S512x1024.size inb_S2816x1024_S512x1024_2304_0))
    (iblk m c 0 t) (iblk m c 8 t) (ix2 0 l)
    = term A t (ix3 0 1 l) := by
  rw [Pure.pay9 _ _ _ (blk0 H t) (dh_tile H t) (blk8 H t), term_ix]
  rfl

/-- The weight's row of a tile. -/
theorem row2 (l : Fin 1024) : k0_pay11 (F := Ideal)
    (k0_pay3 (View.ld (iblk m c 7 t) (Rect.unit (s := S1x8x1024) ![0, 1, 0] S1x1x1024.size inb_S1x8x1024_S1x1x1024_0_1_0)))
    (part m c t) (iblk m c 5 t)
    (View.ld (iblk m c 9 t) (Rect.unit (s := S2816x1024) ![1792, 0] S512x1024.size inb_S2816x1024_S512x1024_1792_0)) (iblk m c 6 t)
    (View.ld (iblk m c 9 t) (Rect.unit (s := S2816x1024) ![2304, 0] S512x1024.size inb_S2816x1024_S512x1024_2304_0))
    (iblk m c 0 t) (ix2 0 l)
    = term A t (ix3 0 2 l) := by
  rw [Pure.pay11 _ _ _ (blk0 H t) (dh_tile H t) (scale_row H t), term_ix]
  unfold rows weight dn
  simp only [seq_tile]
  rfl

omit H in
/-- The other rows of a tile. -/
theorem row3 (r : Fin 8) (hr : 3 ≤ r.val) (l : Fin 1024) : term A t (ix3 0 r l) = 0 := by
  rw [term_ix]
  unfold rows
  simp only [if_neg (show ¬ r.val = 0 by omega), if_neg (show ¬ r.val = 1 by omega), if_neg (show ¬ r.val = 2 by omega),
    Finset.sum_const_zero]
  rfl

/-- The block of sums after a sequence's first tile. -/
theorem reset (h : t.val % 4 = 0) (i : S1x8x1024.Idx) :
    (outsAt0 m c t.val t.isLt).2.2 i = (fun _ => (0 : EReal)) i + term A t i := by
  rw [outsAt0_A m c t h]; dsimp only; frame_out
  idx_vars i
  obtain rfl : i0 = 0 := Subsingleton.elim _ _
  obtain rfl | rfl | rfl | h3 : i1 = 0 ∨ i1 = 1 ∨ i1 = 2 ∨ 3 ≤ i1.val := by omega
  · refine (Rows.canon_ne 2 _ _ _ _ i2 (by decide)).trans ((Rows.canon_ne 1 _ _ _ _ i2 (by decide)).trans
      ((Rows.canon_self 0 (by decide) _ _ _ i2).trans ((Pure.pay15 _ _ _).trans ?_)))
    refine congrArg₂ (· + ·) ((Rows.readCov_row _ _ 0 (by decide) _ _).trans ?_) (row0 H t i2)
    exact (Rows.canon_fill _ _ _ _ _).trans (Pure.pay14 _ _)
  · refine (Rows.canon_ne 2 _ _ _ _ i2 (by decide)).trans
      ((Rows.canon_self 1 (by decide) _ _ _ i2).trans ((Pure.pay1 _ _ _).trans ?_))
    refine congrArg₂ (· + ·) ((Rows.readCov_row _ _ 1 (by decide) _ _).trans ?_) (row1 H t i2)
    exact (Rows.canon_ne 0 _ _ _ _ i2 (by decide)).trans ((Rows.canon_fill _ _ _ _ _).trans (Pure.pay14 _ _))
  · refine (Rows.canon_self 2 (by decide) _ _ _ i2).trans ((Pure.pay2 _ _ _).trans ?_)
    refine congrArg₂ (· + ·) ((Rows.readCov_row _ _ 2 (by decide) _ _).trans ?_) (row2 H t i2)
    exact (Rows.canon_ne 1 _ _ _ _ i2 (by decide)).trans ((Rows.canon_ne 0 _ _ _ _ i2 (by decide)).trans
      ((Rows.canon_fill _ _ _ _ _).trans (Pure.pay14 _ _)))
  · rw [row3 t i1 h3, add_zero]
    exact (Rows.canon_ne 2 _ _ _ _ i2 (by omega)).trans ((Rows.canon_ne 1 _ _ _ _ i2 (by omega)).trans
      ((Rows.canon_ne 0 _ _ _ _ i2 (by omega)).trans ((Rows.canon_fill _ _ _ _ _).trans (Pure.pay14 _ _))))

/-- The block of sums after each further tile. -/
theorem step (h : ¬ t.val % 4 = 0) (i : S1x8x1024.Idx) :
    (outsAt0 m c t.val t.isLt).2.2 i
      = (show EReal from (outsAt0 m c (t.val - 1) (Nat.lt_of_le_of_lt (Nat.sub_le _ _) t.isLt)).2.2 i) + term A t i := by
  rw [outsAt0_B m c t h]; dsimp only; frame_out
  generalize (outsAt0 m c (t.val - 1) (Nat.lt_of_le_of_lt (Nat.sub_le _ _) t.isLt)).2.2 = Q
  idx_vars i
  obtain rfl : i0 = 0 := Subsingleton.elim _ _
  obtain rfl | rfl | rfl | h3 : i1 = 0 ∨ i1 = 1 ∨ i1 = 2 ∨ 3 ≤ i1.val := by omega
  · refine (Rows.read_ne _ _ 2 _ _ _ _ i2 (by decide)).trans ((Rows.read_ne _ _ 1 _ _ _ _ i2 (by decide)).trans
      ((Rows.read_self _ _ 0 (by decide) _ _ _ i2).trans ((Pure.pay15 _ _ _).trans ?_)))
    refine congrArg₂ (· + ·) ?_ (row0 H t i2)
    pointwise
  · refine (Rows.read_ne _ _ 2 _ _ _ _ i2 (by decide)).trans
      ((Rows.read_self _ _ 1 (by decide) _ _ _ i2).trans ((Pure.pay1 _ _ _).trans ?_))
    refine congrArg₂ (· + ·) ?_ (row1 H t i2)
    pointwise
  · refine (Rows.read_self _ _ 2 (by decide) _ _ _ i2).trans ((Pure.pay2 _ _ _).trans ?_)
    refine congrArg₂ (· + ·) ?_ (row2 H t i2)
    pointwise
  · rw [row3 t i1 h3, add_zero]
    exact (Rows.read_ne _ _ 2 _ _ _ _ i2 (by omega)).trans ((Rows.read_ne _ _ 1 _ _ _ _ i2 (by omega)).trans
      ((Rows.read_ne _ _ 0 _ _ _ _ i2 (by omega)).trans (congrFun (Memref.IsWhole.read_unread _ Q) _)))

/-- The sequences' blocks of sums. -/
theorem final_12 : (dats m 0 c).arrAt 12 cfg0.N = arr3 (acc A) := by
  refine (dats m 0 c).arrAt_eq_of_covers 12 _ (by decide +kernel) fun t hf y => ?_
  have e : ∀ (r : Fin 8) (l : Fin 1024), ((View.whole main_v2_2).slice (win0_12.rect t)).emb (ix3 0 r l) = ix3 (tseq t) r l := by
    intro r l; blk_ext [idx t, tseq]
  blk_simp; rw [after0_12, Pipeline.eq_sum_fin_of_reset_step_apply_of_flush (fun n h => (outsAt0 m c n h).2.2) 4 (fun _ => 0) (term A)
    (fun t h j => reset H t h j) (fun t h j => step H t h j) t ((flush0_12 t).mp hf) _, zero_add]
  idx_vars y
  obtain rfl : y0 = 0 := Subsingleton.elim _ _
  refine Eq.trans ?_ (congrArg (arr3 (acc A)) (e y1 y2)).symm
  rw [arr3_ix]
  unfold term acc
  simp only [arr3_ix]
  rw [sum_coe]
  congr 1
  refine Fin.sum_mul_add_congr fun s k hl => ?_
  congr 1
  apply Fin.ext
  show (4 * (t.val / 4) + s.val) * 512 + k.val = t.val / 4 * 2048 + (s.val * 512 + k.val)
  omega

end Cert.InBwdIdeal.Value

end
-- ==== Proof.InRef.lean ====
module

public import proofs.«01_k».proof.Proof.Gen.InRefIdeal.Read
public import Idealize.ShloMosaic.Lib.Pointwise
public import proofs.«01_k».proof.Proof.InSpec

@[expose] public section

set_option maxRecDepth 16384

/-! The arrays that the reference leaves, at real arguments. -/

noncomputable section

namespace Cert.InRefIdeal.Value

open Cert.InRefIdeal Cert.InRefIdeal.Gen Cert.InRefIdeal.Read Cert.Reals Cert.In
open Cert.Mix (seq tok)
open Idealize.ShloMosaic Idealize.ShloMosaic.TcCoe Idealize.SL.Sem
open scoped BigOperators

variable (A : In.Args)

theorem seq_tok (b : Fin 2) (s : Fin 2048) : seq (tok b s) = b := by
  apply Fin.ext; show (b.val * 2048 + s.val) / 2048 = b.val; omega

theorem tok_divmod (n : Fin 4096) (h : n.val / 2048 < 2) (h' : n.val % 2048 < 2048) : tok ⟨n.val / 2048, h⟩ ⟨n.val % 2048, h'⟩ = n := by
  apply Fin.ext; show n.val / 2048 * 2048 + n.val % 2048 = n.val; omega

/-- The sum over the columns of the projection, piece by piece. -/
theorem sum_cols (f : Fin 2816 → ℝ) : ∑ k, f k = ∑ k : Fin 768, f ⟨k.val, by omega⟩ + ∑ k : Fin 512, f ⟨768 + k.val, by omega⟩
    + ∑ k : Fin 512, f ⟨1280 + k.val, by omega⟩ + ∑ k : Fin 512, f ⟨1792 + k.val, by omega⟩
    + ∑ k : Fin 512, f ⟨2304 + k.val, by omega⟩ := by
  have h (a b : ℕ) (g : Fin (a + b) → ℝ) : ∑ k, g k = ∑ k : Fin a, g ⟨k.val, by omega⟩ + ∑ k : Fin b, g ⟨a + k.val, by omega⟩ :=
    Fin.sum_univ_add g
  rw [h 2304 512 f, h 1792 512 fun k => f ⟨k.val, by omega⟩, h 1280 512 fun k => f ⟨k.val, by omega⟩,
    h 768 512 fun k => f ⟨k.val, by omega⟩]

/-- The projection's gradient against the weight, over all columns at once. -/
theorem dh_eq (n : Fin 4096) (l : Fin 1024) : ∑ k, dproj A n k * A.w l k = dh A n l := by
  rw [sum_cols]
  unfold dh
  congr 1

/-- The mean square plus epsilon. -/
theorem v11 (b : Fin 2) (s : Fin 2048) (z : Fin 1) :
    val_main_v11 (F := Ideal) (arr2 A.x) (ix3 b s z) = (meanSq 1024 (A.x (tok b s)) : EReal) := by
  pointwise [val_main_v11, val_main_v9, val_main_v7, val_main_v6, val_main_v5, val_main_v4, val_main_v8, val_main_v10, val_main_cst_0,
    val_main_cst_1, val_main_cst, arr2_ix]
  simp only [← EReal.coe_mul, sum_coe, div_1024, ofBits_eps, ← EReal.coe_add]
  rfl

/-- The reciprocal root mean square. -/
theorem v12 (b : Fin 2) (s : Fin 2048) (z : Fin 1) :
    val_main_v12 (F := Ideal) (arr2 A.x) (ix3 b s z) = (rms 1024 (A.x (tok b s)) : EReal) := by
  pointwise [val_main_v12, v11 A]
  exact rsqrt_coe (meanSq_pos (by norm_num) _)

/-- The derivative of the reciprocal root. -/
theorem v15 (b : Fin 2) (s : Fin 2048) (z : Fin 1) :
    val_main_v15 (F := Ideal) (arr2 A.x) (ix3 b s z)
      = ((-(1 / 2) * (rms 1024 (A.x (tok b s)) / meanSq 1024 (A.x (tok b s))) : ℝ) : EReal) := by
  pointwise [val_main_v15, val_main_v14, val_main_v13, val_main_cst_2, v12 A, v11 A]
  rw [div_coe _ (meanSq_pos (by norm_num) _).ne', ofBits_neg_half, ← EReal.coe_mul]

/-- The normed rows. -/
theorem v17 (b : Fin 2) (s : Fin 2048) (l : Fin 1024) :
    val_main_v17 (F := Ideal) (arr2 A.x) (ix3 b s l) = ((A.x (tok b s) l * rms 1024 (A.x (tok b s)) : ℝ) : EReal) := by
  pointwise [val_main_v17, val_main_v16, val_main_v4, v12 A, arr2_ix]
  rw [← EReal.coe_mul]
  rfl

/-- The rows under the norm's weight. -/
theorem v19 (b : Fin 2) (s : Fin 2048) (l : Fin 1024) :
    val_main_v19 (F := Ideal) (arr2 A.x) (arr2 A.pw) (ix3 b s l)
      = ((A.x (tok b s) l * rms 1024 (A.x (tok b s)) * A.pw 0 l : ℝ) : EReal) := by
  pointwise [val_main_v19, v17 A, val_main_v18, val_main_v3, val_main_v2, arr2_ix]
  rw [← EReal.coe_mul]

/-- The gradient of the projection. -/
theorem v26 : val_main_v26 (F := Ideal) (arr2 A.p0) (arr2 A.p1) (arr2 A.p2) (arr2 A.p3) (arr2 A.p4) = arr2 (dproj A) := by
  funext i
  idx_vars i
  pointwise [val_main_v26, arr2_ix]
  unfold dproj
  by_cases h0 : i1.val < 768
  · simp only [dif_pos h0]
  by_cases h1 : i1.val < 1280
  · simp only [dif_neg h0, dif_pos h1, dif_pos (show i1.val - 768 < 512 by omega)]
  by_cases h2 : i1.val < 1792
  · simp only [dif_neg h0, dif_neg h1, dif_pos h2, dif_neg (show ¬i1.val - 768 < 512 by omega),
      dif_pos (show i1.val - 1280 < 512 by omega), Nat.sub_sub, Nat.reduceAdd]
  by_cases h3 : i1.val < 2304
  · simp only [dif_neg h0, dif_neg h1, dif_neg h2, dif_pos h3, dif_neg (show ¬i1.val - 768 < 512 by omega),
      dif_neg (show ¬i1.val - 1280 < 512 by omega), dif_pos (show i1.val - 1792 < 512 by omega), Nat.sub_sub, Nat.reduceAdd]
  · simp only [dif_neg h0, dif_neg h1, dif_neg h2, dif_neg h3, dif_neg (show ¬i1.val - 768 < 512 by omega),
      dif_neg (show ¬i1.val - 1280 < 512 by omega), dif_neg (show ¬i1.val - 1792 < 512 by omega), Nat.sub_sub, Nat.reduceAdd]

/-- The gradient of the modulated norm. -/
theorem v30 (b : Fin 2) (s : Fin 2048) (l : Fin 1024) :
    val_main_v30 (F := Ideal) (arr2 A.p0) (arr2 A.p1) (arr2 A.p2) (arr2 A.p3) (arr2 A.p4) (arr2 A.w) (ix3 b s l)
      = (dh A (tok b s) l : EReal) := by
  have e := v26 A
  pointwise [val_main_v30, val_main_v29, val_main_v28, e, arr2_ix]
  simp only [← EReal.coe_mul, sum_coe]
  exact congrArg _ (dh_eq A _ _)

/-- The gradient of the norm. -/
theorem v37 (b : Fin 2) (s : Fin 2048) (l : Fin 1024) :
    val_main_v37 (F := Ideal) (arr2 A.p0) (arr2 A.p1) (arr2 A.p2) (arr2 A.p3) (arr2 A.p4) (arr3 A.md) (arr2 A.w) (ix3 b s l)
      = (dn A (tok b s) l : EReal) := by
  have h36 : val_main_v36 (F := Ideal) (arr3 A.md) (ix3 b s l) = 1 + (A.md b 1 l : EReal) := by
    pointwise [val_main_v36, val_main_v21, val_main_v20, val_main_cst_3, val_main_v1, arr3_ix]
  rw [val_main_v37_apply, h36, v30 A, dn, seq_tok, EReal.coe_mul, EReal.coe_add, EReal.coe_one]
  rfl

/-- The gradient of the normed rows. -/
theorem v42 (b : Fin 2) (s : Fin 2048) (l : Fin 1024) :
    val_main_v42 (F := Ideal) (arr2 A.p0) (arr2 A.p1) (arr2 A.p2) (arr2 A.p3) (arr2 A.p4) (arr3 A.md) (arr2 A.pw) (arr2 A.w) (ix3 b s l)
      = ((dn A (tok b s) l * A.pw 0 l : ℝ) : EReal) := by
  have h41 : val_main_v41 (F := Ideal) (arr2 A.pw) (ix3 b s l) = (A.pw 0 l : EReal) := by
    pointwise [val_main_v41, val_main_v3, val_main_v2, arr2_ix]
  rw [val_main_v42_apply, v37 A, h41, EReal.coe_mul]
  rfl

/-- The rows, by sequence. -/
theorem v4 (b : Fin 2) (s : Fin 2048) (l : Fin 1024) : val_main_v4 (F := Ideal) (arr2 A.x) (ix3 b s l) = (A.x (tok b s) l : EReal) := by
  pointwise [val_main_v4, arr2_ix]
  rfl

/-- The sum of the rows against their gradients. -/
theorem v45 (b : Fin 2) (s : Fin 2048) (z : Fin 1) :
    val_main_v45 (F := Ideal) (arr2 A.x) (arr2 A.p0) (arr2 A.p1) (arr2 A.p2) (arr2 A.p3) (arr2 A.p4) (arr3 A.md) (arr2 A.pw)
      (arr2 A.w) (ix3 b s z)
      = ((∑ k, A.x (tok b s) k * (dn A (tok b s) k * A.pw 0 k) : ℝ) : EReal) := by
  have h43 (k : Fin 1024) : val_main_v43 (F := Ideal) (arr2 A.x) (arr2 A.p0) (arr2 A.p1) (arr2 A.p2) (arr2 A.p3) (arr2 A.p4) (arr3 A.md) (arr2 A.pw)
      (arr2 A.w) (ix3 b s k)
      = ((A.x (tok b s) k * (dn A (tok b s) k * A.pw 0 k) : ℝ) : EReal) := by
    rw [val_main_v43_apply, v42 A, v4 A, EReal.coe_mul (A.x (tok b s) k)]
    rfl
  pointwise [val_main_v45, val_main_v44, h43, val_main_cst_7]
  simp only [sum_coe]

/-- What the reciprocal root's gradient adds to each entry of a row, over twice the entry. -/
theorem v52 (b : Fin 2) (s : Fin 2048) (l : Fin 1024) :
    val_main_v52 (F := Ideal) (arr2 A.x) (arr2 A.p0) (arr2 A.p1) (arr2 A.p2) (arr2 A.p3) (arr2 A.p4) (arr3 A.md) (arr2 A.pw)
      (arr2 A.w) (ix3 b s l)
      = (((∑ k, A.x (tok b s) k * (dn A (tok b s) k * A.pw 0 k))
          * (-(1 / 2) * (rms 1024 (A.x (tok b s)) / meanSq 1024 (A.x (tok b s)))) / 1024 : ℝ) : EReal) := by
  have h50 (z : Fin 1) : val_main_v50 (F := Ideal) (arr2 A.x) (arr2 A.p0) (arr2 A.p1) (arr2 A.p2) (arr2 A.p3) (arr2 A.p4) (arr3 A.md) (arr2 A.pw)
      (arr2 A.w) (ix3 b s z)
      = (((∑ k, A.x (tok b s) k * (dn A (tok b s) k * A.pw 0 k))
          * (-(1 / 2) * (rms 1024 (A.x (tok b s)) / meanSq 1024 (A.x (tok b s)))) / 1024 : ℝ) : EReal) := by
    have h49 : val_main_v49 (F := Ideal) (ix3 b s z) = Ideal.ofBits .f32 0x44800000#32 := by
      pointwise [val_main_v49, val_main_cst_8]
    rw [val_main_v50_apply, val_main_v48_apply, v45 A, v15 A, h49, ← div_1024, EReal.coe_mul (∑ k, _)]
    rfl
  pointwise [val_main_v52, val_main_v51, h50, val_main_cst_9]
  simp only [sum_coe]
  rw [Fin.sum_univ_one]

/-- The norm's gradient. -/
theorem v56 (b : Fin 2) (s : Fin 2048) (l : Fin 1024) :
    val_main_v56 (F := Ideal) (arr2 A.x) (arr2 A.p0) (arr2 A.p1) (arr2 A.p2) (arr2 A.p3) (arr2 A.p4) (arr3 A.md) (arr2 A.pw)
      (arr2 A.w) (ix3 b s l)
      = (normGrad 1024 (A.x (tok b s)) (fun l => dn A (tok b s) l * A.pw 0 l) l : EReal) := by
  have h46 : val_main_v46 (F := Ideal) (arr2 A.x) (ix3 b s l) = (rms 1024 (A.x (tok b s)) : EReal) := by
    pointwise [val_main_v46, v12 A]
  rw [val_main_v56_apply, val_main_v55_apply, val_main_v54_apply, val_main_v53_apply, val_main_v47_apply, v42 A, v4 A, v52 A, h46,
    ← normGrad_eq (by norm_num), EReal.coe_add, EReal.coe_add, EReal.coe_mul (_ * _) (rms _ _), EReal.coe_mul (A.x _ _),
    EReal.coe_mul (_ / _) (A.x _ _)]
  rfl

/-- The gradient of the layer's input. -/
theorem v60 : val_main_v60 (F := Ideal) (arr2 A.x) (arr2 A.dx) (arr2 A.p0) (arr2 A.p1) (arr2 A.p2) (arr2 A.p3) (arr2 A.p4) (arr3 A.md)
    (arr2 A.pw) (arr2 A.w) = arr2 (gx A) := by
  funext i
  idx_vars i
  have h59 : val_main_v59 (F := Ideal) (arr2 A.x) (arr2 A.p0) (arr2 A.p1) (arr2 A.p2) (arr2 A.p3) (arr2 A.p4) (arr3 A.md) (arr2 A.pw)
      (arr2 A.w) (ix2 i0 i1)
      = (normGrad 1024 (A.x i0) (fun l => dn A i0 l * A.pw 0 l) i1 : EReal) := by
    pointwise [val_main_v59, v56 A]
    simp only [tok_divmod]
  rw [val_main_v60_apply, h59, arr2_ix, arr2_ix, gx, EReal.coe_add]
  rfl

/-- The shift's gradient. -/
theorem v32 (b : Fin 2) (z : Fin 1) (l : Fin 1024) :
    val_main_v32 (F := Ideal) (arr2 A.p0) (arr2 A.p1) (arr2 A.p2) (arr2 A.p3) (arr2 A.p4) (arr2 A.w) (ix3 b z l)
      = ((∑ s, dh A (tok b s) l : ℝ) : EReal) := by
  pointwise [val_main_v32, val_main_v31, v30 A, val_main_cst_4]
  simp only [sum_coe]

/-- The scale's gradient. -/
theorem v35 (b : Fin 2) (z : Fin 1) (l : Fin 1024) :
    val_main_v35 (F := Ideal) (arr2 A.x) (arr2 A.p0) (arr2 A.p1) (arr2 A.p2) (arr2 A.p3) (arr2 A.p4) (arr2 A.pw) (arr2 A.w) (ix3 b z l)
      = ((∑ s, scale A (tok b s) l : ℝ) : EReal) := by
  have h33 (s : Fin 2048) : val_main_v33 (F := Ideal) (arr2 A.x) (arr2 A.p0) (arr2 A.p1) (arr2 A.p2) (arr2 A.p3) (arr2 A.p4) (arr2 A.pw)
      (arr2 A.w) (ix3 b s l) = ((A.x (tok b s) l * rms 1024 (A.x (tok b s)) * A.pw 0 l : ℝ) : EReal) * (dh A (tok b s) l : EReal) := by
    rw [val_main_v33_apply, v19 A, v30 A]
    rfl
  pointwise [val_main_v35, val_main_v34, h33, val_main_cst_5]
  simp only [← EReal.coe_mul, sum_coe]
  congr 1
  exact Finset.sum_congr rfl fun s _ => mul_comm _ _

/-- The weight's gradient. -/
theorem v40 (b : Fin 2) (z : Fin 1) (l : Fin 1024) :
    val_main_v40 (F := Ideal) (arr2 A.x) (arr2 A.p0) (arr2 A.p1) (arr2 A.p2) (arr2 A.p3) (arr2 A.p4) (arr3 A.md) (arr2 A.w) (ix3 b z l)
      = ((∑ s, weight A (tok b s) l : ℝ) : EReal) := by
  have h38 (s : Fin 2048) : val_main_v38 (F := Ideal) (arr2 A.x) (arr2 A.p0) (arr2 A.p1) (arr2 A.p2) (arr2 A.p3) (arr2 A.p4) (arr3 A.md)
      (arr2 A.w) (ix3 b s l) = ((A.x (tok b s) l * rms 1024 (A.x (tok b s)) : ℝ) : EReal) * (dn A (tok b s) l : EReal) := by
    rw [val_main_v38_apply, v17 A, v37 A]
    rfl
  pointwise [val_main_v40, val_main_v39, h38, val_main_cst_6]
  simp only [← EReal.coe_mul, sum_coe]
  congr 1
  exact Finset.sum_congr rfl fun s _ => mul_comm _ _

/-- The blocks of sums. -/
theorem v58 : val_main_v58 (F := Ideal) (arr2 A.x) (arr2 A.p0) (arr2 A.p1) (arr2 A.p2) (arr2 A.p3) (arr2 A.p4) (arr3 A.md) (arr2 A.pw)
    (arr2 A.w) = arr3 (acc A) := by
  funext i
  idx_vars i
  pointwise [val_main_v58, v32 A, v35 A, v40 A, val_main_v57, val_main_cst_10, arr3_ix]
  unfold acc rows
  by_cases h0 : i1.val = 0
  · rw [dif_pos (by omega)]
    simp only [if_pos h0]
  · rw [dif_neg (by omega)]
    by_cases h1 : i1.val = 1
    · rw [dif_pos (by omega)]
      simp only [if_neg h0, if_pos h1]
    · rw [dif_neg (by omega)]
      by_cases h2 : i1.val = 2
      · rw [dif_pos (by omega)]
        simp only [if_neg h0, if_neg h1, if_pos h2]
      · rw [dif_neg (by omega)]
        simp only [if_neg h0, if_neg h1, if_neg h2, Finset.sum_const_zero, EReal.coe_zero]

end Cert.InRefIdeal.Value

end
-- ==== Proof.InClaim.lean ====
module

public import proofs.«01_k».proof.Defs
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Pre_finite_in
public import proofs.«01_k».proof.Proof.InValue
public import proofs.«01_k».proof.Proof.InRef
public import proofs.«01_k».proof.Proof.Finite

@[expose] public section

set_option maxRecDepth 16384

/-! The claims about the gradient of the input projection, its norm and its modulation. -/

noncomputable section

namespace Cert.InClaim

open Idealize.ShloMosaic Idealize.ShloMosaic.TcCoe Idealize.SL.Sem Cert.Reals

/-- The real arrays that a memory's arguments are. -/
def args (m : (ℓ : Loc Cert.InBwdIdeal.nD Cert.InBwdIdeal.τ Cert.InBwdIdeal.sig) → Buf (Elt Ideal) ℓ) (c : Dev Cert.InBwdIdeal.nD) : In.Args where
  x i j := EReal.toReal (m ((c.tc : Thread Cert.InBwdIdeal.nD Cert.InBwdIdeal.τ).loc Cert.InBwdIdeal.main_arg0) (ix2 i j))
  dx i j := EReal.toReal (m ((c.tc : Thread Cert.InBwdIdeal.nD Cert.InBwdIdeal.τ).loc Cert.InBwdIdeal.main_arg1) (ix2 i j))
  p0 i j := EReal.toReal (m ((c.tc : Thread Cert.InBwdIdeal.nD Cert.InBwdIdeal.τ).loc Cert.InBwdIdeal.main_arg2) (ix2 i j))
  p1 i j := EReal.toReal (m ((c.tc : Thread Cert.InBwdIdeal.nD Cert.InBwdIdeal.τ).loc Cert.InBwdIdeal.main_arg3) (ix2 i j))
  p2 i j := EReal.toReal (m ((c.tc : Thread Cert.InBwdIdeal.nD Cert.InBwdIdeal.τ).loc Cert.InBwdIdeal.main_arg4) (ix2 i j))
  p3 i j := EReal.toReal (m ((c.tc : Thread Cert.InBwdIdeal.nD Cert.InBwdIdeal.τ).loc Cert.InBwdIdeal.main_arg5) (ix2 i j))
  p4 i j := EReal.toReal (m ((c.tc : Thread Cert.InBwdIdeal.nD Cert.InBwdIdeal.τ).loc Cert.InBwdIdeal.main_arg6) (ix2 i j))
  md i j k := EReal.toReal (m ((c.tc : Thread Cert.InBwdIdeal.nD Cert.InBwdIdeal.τ).loc Cert.InBwdIdeal.main_arg7) (ix3 i j k))
  pw i j := EReal.toReal (m ((c.tc : Thread Cert.InBwdIdeal.nD Cert.InBwdIdeal.τ).loc Cert.InBwdIdeal.main_arg8) (ix2 i j))
  w i j := EReal.toReal (m ((c.tc : Thread Cert.InBwdIdeal.nD Cert.InBwdIdeal.τ).loc Cert.InBwdIdeal.main_arg9) (ix2 i j))

/-- The precondition makes the arguments those arrays. -/
theorem holds (m : (ℓ : Loc Cert.InBwdIdeal.nD Cert.InBwdIdeal.τ Cert.InBwdIdeal.sig) → Buf (Elt Ideal) ℓ) (c : Dev Cert.InBwdIdeal.nD)
    (h : Pre_InBwdIdeal_finite_in m) : InBwdIdeal.Value.Holds m c (args m c) := by
  have e := congrFun (h c) ix0
  dsimp only [Cert.Pre_finite_in.fn, Cert.Pre_finite_in.fn_part1, Cert.Pre_finite_in.fn_part2, Cert.Pre_finite_in.fn_part3, andi] at e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact
    { x := Finite.arr2_of_real _ (Finite.real_of_all _ _ _ _ _ e0)
      dx := Finite.arr2_of_real _ (Finite.real_of_all _ _ _ _ _ e1)
      p0 := Finite.arr2_of_real _ (Finite.real_of_all _ _ _ _ _ e2)
      p1 := Finite.arr2_of_real _ (Finite.real_of_all _ _ _ _ _ e3)
      p2 := Finite.arr2_of_real _ (Finite.real_of_all _ _ _ _ _ e4)
      p3 := Finite.arr2_of_real _ (Finite.real_of_all _ _ _ _ _ e5)
      p4 := Finite.arr2_of_real _ (Finite.real_of_all _ _ _ _ _ e6)
      md := Finite.arr3_of_real _ (Finite.real_of_all _ _ _ _ _ e7)
      pw := Finite.arr2_of_real _ (Finite.real_of_all _ _ _ _ _ e8)
      w := Finite.arr2_of_real _ (Finite.real_of_all _ _ _ _ _ e9) }

/-- The kernel's arrays are the reference's. -/
theorem algebraic : algebraic_InBwdIdeal_InRefIdeal_pre_finite_in := by
  intro m g m' g' hp hagree
  refine ⟨fun c => arr2 (In.gx (args m c)), fun c => arr2 (In.dproj (args m c)), fun c => arr3 (In.acc (args m c)), ?_, ?_⟩
  · refine (θ_run _ _ _).mono (fun r h c => ?_) (InBwdIdeal.Value.run_blocks m g)
    have H := holds m c hp
    obtain ⟨h0, h1, h2, hk⟩ := h c
    exact ⟨h0.trans (InBwdIdeal.Value.final_10 H), h1.trans (InBwdIdeal.Value.final_11 H), h2.trans (InBwdIdeal.Value.final_12 H), hk⟩
  · refine (θ_run _ _ _).mono (fun r h c => ?_) (InRefIdeal.Value.run m' g')
    have H := holds m c hp
    obtain ⟨a0, a1, a2, a3, a4, a5, a6, a7, a8, a9⟩ := hagree c
    obtain ⟨h0, h1, h2, hk⟩ := h c
    refine ⟨h0.trans ?_, h1.trans ?_, h2.trans ?_, hk⟩
    · rw [InRefIdeal.Read.val_main_v60_eq, a0, a1, a2, a3, a4, a5, a6, a7, a8, a9]
      exact (by rw [H.x, H.dx, H.p0, H.p1, H.p2, H.p3, H.p4, H.md, H.pw, H.w]; exact InRefIdeal.Value.v60 _)
    · rw [InRefIdeal.Read.val_main_v26_eq, a2, a3, a4, a5, a6]
      exact (by rw [H.p0, H.p1, H.p2, H.p3, H.p4]; exact InRefIdeal.Value.v26 _)
    · rw [InRefIdeal.Read.val_main_v58_eq, a0, a2, a3, a4, a5, a6, a7, a8, a9]
      exact (by rw [H.x, H.p0, H.p1, H.p2, H.p3, H.p4, H.md, H.pw, H.w]; exact InRefIdeal.Value.v58 _)

end Cert.InClaim

end
-- ==== Proof.OutValue.lean ====
module

public import proofs.«01_k».proof.Proof.Gen.OutBwdIdeal.Value
public import proofs.«01_k».proof.Proof.Gen.OutRefIdeal.Read
public import Idealize.ShloMosaic.Lib.Pipeline.ValueKit
public import Idealize.ShloMosaic.Lib.Claim
public import Idealize.ShloMosaic.Lib.Pointwise

@[expose] public section

set_option maxRecDepth 16384

/-! The gradient of the output weight: each number is a sum over the tokens. It is read at extended real numbers: no
argument has to be finite. -/

noncomputable section

namespace Cert.OutSpec

open Idealize.ShloMosaic
open scoped BigOperators

/-- The number in row `i` and column `j`: the sum over the tokens of the layer's input times its output's gradient. -/
def dw (a b : (⟨2, ![4096, 1024]⟩ : Shape).Idx → EReal) : (⟨2, ![1024, 1024]⟩ : Shape).Idx → EReal :=
  fun i => ∑ k : Fin 4096, a (ix2 k (i 0)) * b (ix2 k (i 1))

theorem dw_ix (a b : (⟨2, ![4096, 1024]⟩ : Shape).Idx → EReal) (i j : Fin 1024) :
    dw a b (ix2 i j) = ∑ k : Fin 4096, a (ix2 k i) * b (ix2 k j) := rfl

end Cert.OutSpec

namespace Cert.OutBwdIdeal.Value

open Cert.OutBwdIdeal Cert.OutBwdIdeal.Gen
open Idealize.ShloMosaic Idealize.ShloMosaic.TcCoe Idealize.SL.Sem
open scoped BigOperators

theorem idx : ∀ t : Fin cfg0.N, win0_0.index t = ![0, 0] ∧ win0_1.index t = ![0, t.val] ∧ win0_2.index t = ![0, t.val]
    ∧ t.val < 2 :=
  (by decide +kernel : ∀ t : Fin grid0.N, _)

/-- The array's column that a tile's column is. -/
def col (t : Fin cfg0.N) (j : Fin 512) : Fin 1024 := ⟨t.val * 512 + j.val, by have := (idx t).2.2.2; omega⟩

/-- One tile's product. -/
theorem pay1 (X : S4096x1024.Idx → EReal) (Y : S4096x512.Idx → EReal) (i : Fin 1024) (j : Fin 512) :
    k0_pay1 (F := Ideal) X Y (ix2 i j) = ∑ k : Fin 4096, X (ix2 k i) * Y (ix2 k j) := by
  pointwise [k0_pay1]

variable (m : (ℓ : Loc nD τ sig) → Buf (Elt Ideal) ℓ) (c : Dev nD) (t : Fin cfg0.N)

theorem blk0 (r : Fin 4096) (l : Fin 1024) : iblk m c 0 t (ix2 r l) = m ((c : Thread nD τ).loc main_arg0) (ix2 r l) := by
  blk_simp [iblk, V, idx t]
  have e : ((View.whole main_arg0).slice (win0_0.rect t)).emb (ix2 r l) = ix2 r l := by blk_ext [idx t]
  rw [e]

theorem blk1 (r : Fin 4096) (l : Fin 512) :
    iblk m c 1 t (ix2 r l) = m ((c : Thread nD τ).loc main_arg1) (ix2 r (col t l)) := by
  blk_simp [iblk, V, idx t]
  have e : ((View.whole main_arg1).slice (win0_1.rect t)).emb (ix2 r l) = ix2 r (col t l) := by blk_ext [idx t, col]
  rw [e]

/-- The array that the kernel leaves. -/
theorem final_2 : (dats m 0 c).arrAt 2 cfg0.N
    = OutSpec.dw (m ((c : Thread nD τ).loc main_arg0)) (m ((c : Thread nD τ).loc main_arg1)) := by
  refine (dats m 0 c).arrAt_eq_of_covers 2 _ (by decide +kernel) fun t hf y => ?_
  blk_simp; rw [after0_2]
  have e : ∀ (i : Fin 1024) (j : Fin 512), ((View.whole main_v0).slice (win0_2.rect t)).emb (ix2 i j) = ix2 i (col t j) := by
    intro i j; blk_ext [idx t, col]
  unfold out0_2
  frame_out
  idx_vars y
  rw [e]
  exact (pay1 _ _ _ _).trans ((Finset.sum_congr rfl fun k _ => by rw [blk0, blk1]).trans (OutSpec.dw_ix _ _ _ _).symm)

end Cert.OutBwdIdeal.Value

namespace Cert.OutRefIdeal.Value

open Cert.OutRefIdeal Cert.OutRefIdeal.Gen Cert.OutRefIdeal.Read
open Idealize.ShloMosaic Idealize.ShloMosaic.TcCoe Idealize.SL.Sem
open scoped BigOperators

/-- The array that the reference leaves. -/
theorem v6 (a b : S4096x1024.Idx → EReal) : val_main_v6 (F := Ideal) a b = OutSpec.dw a b := by
  funext y
  idx_vars y
  rw [OutSpec.dw_ix]
  pointwise [val_main_v6, val_main_v5, val_main_v4, val_main_v3, val_main_v1]
  exact Finset.sum_congr rfl fun k _ => mul_comm _ _

end Cert.OutRefIdeal.Value

end
-- ==== Proof.OutClaim.lean ====
module

public import proofs.«01_k».proof.Defs
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutRefIdeal
public import proofs.«01_k».proof.Proof.Gen.OutRefIdeal.Run
public import proofs.«01_k».proof.Proof.OutValue

@[expose] public section

set_option maxRecDepth 16384

/-! The claim about the values of the output weight's gradient. -/

noncomputable section

namespace Cert.OutClaim

open Idealize.ShloMosaic Idealize.ShloMosaic.TcCoe Idealize.SL.Sem

/-- The kernel's array is the reference's. -/
theorem algebraic : algebraic_OutBwdIdeal_OutRefIdeal := by
  intro m g m' g' _ hagree
  refine ⟨fun c => OutSpec.dw (m ((c.tc : Thread Cert.OutBwdIdeal.nD Cert.OutBwdIdeal.τ).loc Cert.OutBwdIdeal.main_arg0))
    (m ((c.tc : Thread Cert.OutBwdIdeal.nD Cert.OutBwdIdeal.τ).loc Cert.OutBwdIdeal.main_arg1)), ?_, ?_⟩
  · refine (θ_run _ _ _).mono (fun r h c => ?_) (OutBwdIdeal.Value.run_blocks m g)
    obtain ⟨h0, hk⟩ := h c
    exact ⟨h0.trans (OutBwdIdeal.Value.final_2 m c), hk⟩
  · refine (θ_run _ _ _).mono (fun r h c => ?_) (OutRefIdeal.Value.run m' g')
    obtain ⟨a0, a1⟩ := hagree c
    obtain ⟨h0, hk⟩ := h c
    refine ⟨h0.trans ?_, hk⟩
    rw [OutRefIdeal.Read.val_main_v6_eq, a0, a1]
    exact OutRefIdeal.Value.v6 _ _

end Cert.OutClaim

end
-- ==== Proof.FwdRun.lean ====
module

public import proofs.«01_k».proof.Proof.Gen.MlpFwdIdeal.Frame.Runs

@[expose] public section

set_option maxRecDepth 16384

/-! The runs of the kernel's body at the two kinds of grid points: the first point, at which the weights are copied into
the scratch (eighteen transfers, all in flight at once, each lent its own window of source and destination), and
the points after it. The statements follow the generated set-up of the launch. -/

noncomputable section

namespace Cert.MlpFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option sl_exec.dmaWindow true in
set_option sl_exec.dmaWindowSet true in
set_option sl_exec.rejoinHeartbeats 400000 in
set_option maxHeartbeats 12880000 in
noncomputable def kernelRun0_A (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L3 : List (View.Piece (Elt F) S256x4096 .f32)), Σ' (L4 : List (View.Piece (Elt F) S256x4096 .bf16)), Σ' (L5 : List (View.Piece (Elt F) S256x1024 .f32)), Σ' (L6 : List (View.Piece (Elt F) S256x1024 .bf16)), Σ' (LS0 : List (View.Piece (Elt F) S1024x4096 .bf16)), { LS1 : List (View.Piece (Elt F) S4096x1024 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_fwd i arg1 harg1 arg2 harg2 arg3 harg3 (Memref.whole main_v5) (Memref.isWhole_whole _) (Memref.whole main_v7) (Memref.isWhole_whole _) (Memref.whole main_v8) (Memref.isWhole_whole _) (Memref.whole main_v9) (Memref.isWhole_whole _) arg8 harg8 arg9 harg9 arg10 harg10 arg11 harg11 arg12 harg12 arg13 harg13 cc0_scratch2) K } := by
  refine ⟨?_, ?_, ?_, ?_, ?_, ?_, fun W K => ?run⟩
  case run =>
    simp only [cc0_mlp_fwd_eq_skeleton]; unfold cc0_mlp_fwd_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hq16, Hq17, Hh0, Hh1, Hh2, Hh3, HW, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [Hh3]; · iexact Hh3
    iexists _; iexact HW

set_option maxHeartbeats 1000000 in
noncomputable def kernelRun0_B (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) :
    Σ' (L3 : List (View.Piece (Elt F) S256x4096 .f32)), Σ' (L4 : List (View.Piece (Elt F) S256x4096 .bf16)), Σ' (L5 : List (View.Piece (Elt F) S256x1024 .f32)), Σ' (L6 : List (View.Piece (Elt F) S256x1024 .bf16)), Σ' (LS0 : List (View.Piece (Elt F) S1024x4096 .bf16)), { LS1 : List (View.Piece (Elt F) S4096x1024 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ owns (c : Thread nD τ) arg12 fullShare xs0 ∗ owns (c : Thread nD τ) arg13 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_fwd i arg1 harg1 arg2 harg2 arg3 harg3 (Memref.whole main_v5) (Memref.isWhole_whole _) (Memref.whole main_v7) (Memref.isWhole_whole _) (Memref.whole main_v8) (Memref.isWhole_whole _) (Memref.whole main_v9) (Memref.isWhole_whole _) arg8 harg8 arg9 harg9 arg10 harg10 arg11 harg11 arg12 harg12 arg13 harg13 cc0_scratch2) K } := by
  refine ⟨?_, ?_, ?_, ?_, [], [], fun W K => ?run⟩
  case run =>
    simp only [cc0_mlp_fwd_eq_skeleton]; unfold cc0_mlp_fwd_skel
    simp only [k0_part7_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hq16, Hq17, Hh0, Hh1, Hh2, Hh3, HW, Hk⟩
    obtain rfl := harg1.eq_unread hf0; obtain rfl := harg2.eq_unread hf1; obtain rfl := harg3.eq_unread hf2; obtain rfl := harg12.eq_unread hfs0; obtain rfl := harg13.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [HS0]
    · iexists _; isplitr; · ipureintro; exact harg12.read_unread _
      iexact HS0
    isplitl [HS1]
    · iexists _; isplitr; · ipureintro; exact harg13.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [Hh3]; · iexact Hh3
    iexists _; iexact HW

end Cert.MlpFwdIdeal.Gen

end
-- ==== Proof.FwdFrame.lean ====
module

public import proofs.«01_k».proof.Proof.FwdRun
public import Idealize.ShloMosaic.Lib.Claim

@[expose] public section

set_option maxRecDepth 16384

/-! The launch of the kernel: what each point leaves, the invariant between points, which carries the weights in the
scratch, and the frame. The statements follow the generated set-up of the launch. -/

noncomputable section

namespace Cert.MlpFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_3 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_A c i arg1 harg1 arg2 harg2 arg3 harg3 arg8 harg8 arg9 harg9 arg10 harg10 arg11 harg11 arg12 harg12 arg13 harg13 hc0 x0 x1 x2 fh0 fh1 fh2 fh3).1, y ∈ pc.1.set :=
  View.cover_of_tiledL (kernelRun0_A c i arg1 harg1 arg2 harg2 arg3 harg3 arg8 harg8 arg9 harg9 arg10 harg10 arg11 harg11 arg12 harg12 arg13 harg13 hc0 x0 x1 x2 fh0 fh1 fh2 fh3).1 S256x4096.size (by sl_kernel_rfl) y

def out0_A_3 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x4096 .f32 :=
  VO0_3.read (Elt F) (VO0_3.writes (Elt F) VO0_3.junk (kernelRun0_A c i arg1 harg1 arg2 harg2 arg3 harg3 arg8 harg8 arg9 harg9 arg10 harg10 arg11 harg11 arg12 harg12 arg13 harg13 hc0 x0 x1 x2 fh0 fh1 fh2 fh3).1)

theorem cover0_A_4 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_A c i arg1 harg1 arg2 harg2 arg3 harg3 arg8 harg8 arg9 harg9 arg10 harg10 arg11 harg11 arg12 harg12 arg13 harg13 hc0 x0 x1 x2 fh0 fh1 fh2 fh3).2.1, y ∈ pc.1.set :=
  View.cover_of_tiledL (kernelRun0_A c i arg1 harg1 arg2 harg2 arg3 harg3 arg8 harg8 arg9 harg9 arg10 harg10 arg11 harg11 arg12 harg12 arg13 harg13 hc0 x0 x1 x2 fh0 fh1 fh2 fh3).2.1 S256x4096.size (by sl_kernel_rfl) y

def out0_A_4 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_4.read (Elt F) (VO0_4.writes (Elt F) VO0_4.junk (kernelRun0_A c i arg1 harg1 arg2 harg2 arg3 harg3 arg8 harg8 arg9 harg9 arg10 harg10 arg11 harg11 arg12 harg12 arg13 harg13 hc0 x0 x1 x2 fh0 fh1 fh2 fh3).2.1)

theorem cover0_A_5 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_A c i arg1 harg1 arg2 harg2 arg3 harg3 arg8 harg8 arg9 harg9 arg10 harg10 arg11 harg11 arg12 harg12 arg13 harg13 hc0 x0 x1 x2 fh0 fh1 fh2 fh3).2.2.1, y ∈ pc.1.set :=
  View.cover_of_tiledL (kernelRun0_A c i arg1 harg1 arg2 harg2 arg3 harg3 arg8 harg8 arg9 harg9 arg10 harg10 arg11 harg11 arg12 harg12 arg13 harg13 hc0 x0 x1 x2 fh0 fh1 fh2 fh3).2.2.1 S256x1024.size (by sl_kernel_rfl) y

def out0_A_5 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_5.read (Elt F) (VO0_5.writes (Elt F) VO0_5.junk (kernelRun0_A c i arg1 harg1 arg2 harg2 arg3 harg3 arg8 harg8 arg9 harg9 arg10 harg10 arg11 harg11 arg12 harg12 arg13 harg13 hc0 x0 x1 x2 fh0 fh1 fh2 fh3).2.2.1)

theorem cover0_A_6 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_A c i arg1 harg1 arg2 harg2 arg3 harg3 arg8 harg8 arg9 harg9 arg10 harg10 arg11 harg11 arg12 harg12 arg13 harg13 hc0 x0 x1 x2 fh0 fh1 fh2 fh3).2.2.2.1, y ∈ pc.1.set :=
  View.cover_of_tiledL (kernelRun0_A c i arg1 harg1 arg2 harg2 arg3 harg3 arg8 harg8 arg9 harg9 arg10 harg10 arg11 harg11 arg12 harg12 arg13 harg13 hc0 x0 x1 x2 fh0 fh1 fh2 fh3).2.2.2.1 S256x1024.size (by sl_kernel_rfl) y

def out0_A_6 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_6.read (Elt F) (VO0_6.writes (Elt F) VO0_6.junk (kernelRun0_A c i arg1 harg1 arg2 harg2 arg3 harg3 arg8 harg8 arg9 harg9 arg10 harg10 arg11 harg11 arg12 harg12 arg13 harg13 hc0 x0 x1 x2 fh0 fh1 fh2 fh3).2.2.2.1)

theorem scover0_A_0 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) (y : S1024x4096.Idx) :
    ∃ pc ∈ (kernelRun0_A c i arg1 harg1 arg2 harg2 arg3 harg3 arg8 harg8 arg9 harg9 arg10 harg10 arg11 harg11 arg12 harg12 arg13 harg13 hc0 x0 x1 x2 fh0 fh1 fh2 fh3).2.2.2.2.1, y ∈ pc.1.set :=
  View.cover_of_tiledL (kernelRun0_A c i arg1 harg1 arg2 harg2 arg3 harg3 arg8 harg8 arg9 harg9 arg10 harg10 arg11 harg11 arg12 harg12 arg13 harg13 hc0 x0 x1 x2 fh0 fh1 fh2 fh3).2.2.2.2.1 S512x512.size (by sl_kernel_rfl) y

def sout0_A_0 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S1024x4096 .bf16 :=
  VS0_0.read (Elt F) (VS0_0.writes (Elt F) VS0_0.junk (kernelRun0_A c i arg1 harg1 arg2 harg2 arg3 harg3 arg8 harg8 arg9 harg9 arg10 harg10 arg11 harg11 arg12 harg12 arg13 harg13 hc0 x0 x1 x2 fh0 fh1 fh2 fh3).2.2.2.2.1)

theorem scover0_A_1 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) (y : S4096x1024.Idx) :
    ∃ pc ∈ (kernelRun0_A c i arg1 harg1 arg2 harg2 arg3 harg3 arg8 harg8 arg9 harg9 arg10 harg10 arg11 harg11 arg12 harg12 arg13 harg13 hc0 x0 x1 x2 fh0 fh1 fh2 fh3).2.2.2.2.2.1, y ∈ pc.1.set :=
  View.cover_of_tiledBy (kernelRun0_A c i arg1 harg1 arg2 harg2 arg3 harg3 arg8 harg8 arg9 harg9 arg10 harg10 arg11 harg11 arg12 harg12 arg13 harg13 hc0 x0 x1 x2 fh0 fh1 fh2 fh3).2.2.2.2.2.1 ![4096, 128] (by sl_kernel_rfl) y

def sout0_A_1 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : cond0_0 i)
    (x0 : Vec F S256x1024 .f32) (x1 : Vec F S1x8x1024 .f32) (x2 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S4096x1024 .bf16 :=
  VS0_1.read (Elt F) (VS0_1.writes (Elt F) VS0_1.junk (kernelRun0_A c i arg1 harg1 arg2 harg2 arg3 harg3 arg8 harg8 arg9 harg9 arg10 harg10 arg11 harg11 arg12 harg12 arg13 harg13 hc0 x0 x1 x2 fh0 fh1 fh2 fh3).2.2.2.2.2.1)

theorem cover0_B_3 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_B c i arg1 harg1 arg2 harg2 arg3 harg3 arg8 harg8 arg9 harg9 arg10 harg10 arg11 harg11 arg12 harg12 arg13 harg13 hc0 x0 x1 x2 xs0 xs1 fh0 fh1 fh2 fh3).1, y ∈ pc.1.set :=
  View.cover_of_tiledL (kernelRun0_B c i arg1 harg1 arg2 harg2 arg3 harg3 arg8 harg8 arg9 harg9 arg10 harg10 arg11 harg11 arg12 harg12 arg13 harg13 hc0 x0 x1 x2 xs0 xs1 fh0 fh1 fh2 fh3).1 S256x4096.size (by sl_kernel_rfl) y

def out0_B_3 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x4096 .f32 :=
  VO0_3.read (Elt F) (VO0_3.writes (Elt F) VO0_3.junk (kernelRun0_B c i arg1 harg1 arg2 harg2 arg3 harg3 arg8 harg8 arg9 harg9 arg10 harg10 arg11 harg11 arg12 harg12 arg13 harg13 hc0 x0 x1 x2 xs0 xs1 fh0 fh1 fh2 fh3).1)

theorem cover0_B_4 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_B c i arg1 harg1 arg2 harg2 arg3 harg3 arg8 harg8 arg9 harg9 arg10 harg10 arg11 harg11 arg12 harg12 arg13 harg13 hc0 x0 x1 x2 xs0 xs1 fh0 fh1 fh2 fh3).2.1, y ∈ pc.1.set :=
  View.cover_of_tiledL (kernelRun0_B c i arg1 harg1 arg2 harg2 arg3 harg3 arg8 harg8 arg9 harg9 arg10 harg10 arg11 harg11 arg12 harg12 arg13 harg13 hc0 x0 x1 x2 xs0 xs1 fh0 fh1 fh2 fh3).2.1 S256x4096.size (by sl_kernel_rfl) y

def out0_B_4 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_4.read (Elt F) (VO0_4.writes (Elt F) VO0_4.junk (kernelRun0_B c i arg1 harg1 arg2 harg2 arg3 harg3 arg8 harg8 arg9 harg9 arg10 harg10 arg11 harg11 arg12 harg12 arg13 harg13 hc0 x0 x1 x2 xs0 xs1 fh0 fh1 fh2 fh3).2.1)

theorem cover0_B_5 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_B c i arg1 harg1 arg2 harg2 arg3 harg3 arg8 harg8 arg9 harg9 arg10 harg10 arg11 harg11 arg12 harg12 arg13 harg13 hc0 x0 x1 x2 xs0 xs1 fh0 fh1 fh2 fh3).2.2.1, y ∈ pc.1.set :=
  View.cover_of_tiledL (kernelRun0_B c i arg1 harg1 arg2 harg2 arg3 harg3 arg8 harg8 arg9 harg9 arg10 harg10 arg11 harg11 arg12 harg12 arg13 harg13 hc0 x0 x1 x2 xs0 xs1 fh0 fh1 fh2 fh3).2.2.1 S256x1024.size (by sl_kernel_rfl) y

def out0_B_5 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_5.read (Elt F) (VO0_5.writes (Elt F) VO0_5.junk (kernelRun0_B c i arg1 harg1 arg2 harg2 arg3 harg3 arg8 harg8 arg9 harg9 arg10 harg10 arg11 harg11 arg12 harg12 arg13 harg13 hc0 x0 x1 x2 xs0 xs1 fh0 fh1 fh2 fh3).2.2.1)

theorem cover0_B_6 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_B c i arg1 harg1 arg2 harg2 arg3 harg3 arg8 harg8 arg9 harg9 arg10 harg10 arg11 harg11 arg12 harg12 arg13 harg13 hc0 x0 x1 x2 xs0 xs1 fh0 fh1 fh2 fh3).2.2.2.1, y ∈ pc.1.set :=
  View.cover_of_tiledL (kernelRun0_B c i arg1 harg1 arg2 harg2 arg3 harg3 arg8 harg8 arg9 harg9 arg10 harg10 arg11 harg11 arg12 harg12 arg13 harg13 hc0 x0 x1 x2 xs0 xs1 fh0 fh1 fh2 fh3).2.2.2.1 S256x1024.size (by sl_kernel_rfl) y

def out0_B_6 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_6.read (Elt F) (VO0_6.writes (Elt F) VO0_6.junk (kernelRun0_B c i arg1 harg1 arg2 harg2 arg3 harg3 arg8 harg8 arg9 harg9 arg10 harg10 arg11 harg11 arg12 harg12 arg13 harg13 hc0 x0 x1 x2 xs0 xs1 fh0 fh1 fh2 fh3).2.2.2.1)

def sout0_B_0 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S1024x4096 .bf16 := xs0

def sout0_B_1 (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg8 : Memref sig .tc .vmem S256x4096 .f32) (harg8 : arg8.IsWhole) (arg9 : Memref sig .tc .vmem S256x4096 .bf16) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1024x4096 .bf16) (harg12 : arg12.IsWhole) (arg13 : Memref sig .tc .vmem S4096x1024 .bf16) (harg13 : arg13.IsWhole) (hc0 : ¬cond0_0 i)
    (x0 : Vec F S256x1024 .f32) (x1 : Vec F S1x8x1024 .f32) (x2 : Vec F S1x1024 .f32) (xs0 : Vec F S1024x4096 .bf16) (xs1 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S4096x1024 .bf16 := xs1

def outsAt0 (c : Dev nD) : (n : ℕ) → n < cfg0.N → Vec F S256x4096 .f32 × Vec F S256x4096 .bf16 × Vec F S256x1024 .f32 × Vec F S256x1024 .bf16 × Vec F S1024x4096 .bf16 × Vec F S4096x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (V m c main_v5) (V m c main_v7) (V m c main_v8) (V m c main_v9), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (V m c main_v5) (V m c main_v7) (V m c main_v8) (V m c main_v9), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (V m c main_v5) (V m c main_v7) (V m c main_v8) (V m c main_v9), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (V m c main_v5) (V m c main_v7) (V m c main_v8) (V m c main_v9), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (V m c main_v5) (V m c main_v7) (V m c main_v8) (V m c main_v9), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (V m c main_v5) (V m c main_v7) (V m c main_v8) (V m c main_v9))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (V m c main_v5) (V m c main_v7) (V m c main_v8) (V m c main_v9), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (V m c main_v5) (V m c main_v7) (V m c main_v8) (V m c main_v9), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (V m c main_v5) (V m c main_v7) (V m c main_v8) (V m c main_v9), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (V m c main_v5) (V m c main_v7) (V m c main_v8) (V m c main_v9), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (V m c main_v5) (V m c main_v7) (V m c main_v8) (V m c main_v9), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (V m c main_v5) (V m c main_v7) (V m c main_v8) (V m c main_v9))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (V m c main_v5) (V m c main_v7) (V m c main_v8) (V m c main_v9), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (V m c main_v5) (V m c main_v7) (V m c main_v8) (V m c main_v9), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (V m c main_v5) (V m c main_v7) (V m c main_v8) (V m c main_v9), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (V m c main_v5) (V m c main_v7) (V m c main_v8) (V m c main_v9), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (V m c main_v5) (V m c main_v7) (V m c main_v8) (V m c main_v9), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (V m c main_v5) (V m c main_v7) (V m c main_v8) (V m c main_v9))

theorem outsAt0_A (c : Dev nD) (t : Fin cfg0.N) (h0 : t.val % 16 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (V m c main_v5) (V m c main_v7) (V m c main_v8) (V m c main_v9), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (V m c main_v5) (V m c main_v7) (V m c main_v8) (V m c main_v9), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (V m c main_v5) (V m c main_v7) (V m c main_v8) (V m c main_v9), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (V m c main_v5) (V m c main_v7) (V m c main_v8) (V m c main_v9), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (V m c main_v5) (V m c main_v7) (V m c main_v8) (V m c main_v9), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (V m c main_v5) (V m c main_v7) (V m c main_v8) (V m c main_v9)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v5) (V m c main_v7) (V m c main_v8) (V m c main_v9), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v5) (V m c main_v7) (V m c main_v8) (V m c main_v9), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v5) (V m c main_v7) (V m c main_v8) (V m c main_v9), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v5) (V m c main_v7) (V m c main_v8) (V m c main_v9), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v5) (V m c main_v7) (V m c main_v8) (V m c main_v9), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v5) (V m c main_v7) (V m c main_v8) (V m c main_v9)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v5) ∗ hbPt0 c hbM0_1 (V m c main_v7) ∗ hbPt0 c hbM0_2 (V m c main_v8) ∗ hbPt0 c hbM0_3 (V m c main_v9)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v5) ∗ hbPt0 c hbM0_1 (V m c main_v7) ∗ hbPt0 c hbM0_2 (V m c main_v8) ∗ hbPt0 c hbM0_3 (V m c main_v9))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v5) ∗ hbPt0 c hbM0_1 (V m c main_v7) ∗ hbPt0 c hbM0_2 (V m c main_v8) ∗ hbPt0 c hbM0_3 (V m c main_v9))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_3 out0_A_4 out0_A_5 out0_A_6 sout0_A_0 sout0_A_1; (try dsimp only)
      iintro ⟨⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (V m c main_v5) (V m c main_v7) (V m c main_v8) (V m c main_v9)).2.2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hh0]; · iexact Hh0
      isplitl [Hh1]; · iexact Hh1
      isplitl [Hh2]; · iexact Hh2
      isplitl [Hh3]; · iexact Hh3
      isplitl [HW]; · iexact HW
      iintro ⟨H0, H1, H2, ⟨%e3, H3⟩, ⟨%e4, H4⟩, ⟨%e5, H5⟩, ⟨%e6, H6⟩, ⟨%es0, HS0⟩, ⟨%es1, HS1⟩, Hq0, Hq1, Hq2, Hq3, Hq4, Hq5, Hq6, Hq7, Hq8, Hq9, Hq10, Hq11, Hq12, Hq13, Hq14, Hq15, Hq16, Hq17, Hh0, Hh1, Hh2, Hh3, ⟨%W', HW'⟩⟩
      isplitl [HS0 HS1 Hg Hq0 Hq1 Hq2 Hq3 Hq4 Hq5 Hq6 Hq7 Hq8 Hq9 Hq10 Hq11 Hq12 Hq13 Hq14 Hq15 Hq16 Hq17 Hh0 Hh1 Hh2 Hh3]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15 Hq16 Hq17]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          iexact Hq17
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_3 out0_B_4 out0_B_5 out0_B_6 sout0_B_0 sout0_B_1; (try dsimp only)
      iintro ⟨⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) (iblk m c 2 t) _ _ (V m c main_v5) (V m c main_v7) (V m c main_v8) (V m c main_v9)).2.2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hh0]; · iexact Hh0
      isplitl [Hh1]; · iexact Hh1
      isplitl [Hh2]; · iexact Hh2
      isplitl [Hh3]; · iexact Hh3
      isplitl [HW]; · iexact HW
      iintro ⟨H0, H1, H2, ⟨%e3, H3⟩, ⟨%e4, H4⟩, ⟨%e5, H5⟩, ⟨%e6, H6⟩, HS0, HS1, Hq0, Hq1, Hq2, Hq3, Hq4, Hq5, Hq6, Hq7, Hq8, Hq9, Hq10, Hq11, Hq12, Hq13, Hq14, Hq15, Hq16, Hq17, Hh0, Hh1, Hh2, Hh3, ⟨%W', HW'⟩⟩
      isplitl [HS0 HS1 Hg Hq0 Hq1 Hq2 Hq3 Hq4 Hq5 Hq6 Hq7 Hq8 Hq9 Hq10 Hq11 Hq12 Hq13 Hq14 Hq15 Hq16 Hq17 Hh0 Hh1 Hh2 Hh3]
      · isplitl [HS0 HS1]
        · isplitl [HS0]; · iexact HS0
          iexact HS1
        isplitl [Hg]
        · iexact Hg
        isplitl [Hq0 Hq1 Hq2 Hq3 Hq4 Hq5 Hq6 Hq7 Hq8 Hq9 Hq10 Hq11 Hq12 Hq13 Hq14 Hq15 Hq16 Hq17]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          iexact Hq17
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15, Hq16, Hq17⟩, ⟨Hh0, Hh1, Hh2, Hh3⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15 Hq16 Hq17]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    iexact Hq17
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.MlpFwdIdeal.Gen

end
-- ==== Proof.FwdBlocks.lean ====
module

public import proofs.«01_k».proof.Proof.FwdFrame
public import Idealize.ShloMosaic.Lib.Pipeline.Value

@[expose] public section

/-! The arrays after a launch, block by block. The statements follow the generated set-up of the launch. -/

noncomputable section

namespace Cert.MlpFwdIdeal.Value

open Cert.MlpFwdIdeal Cert.MlpFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post3 (r : PUnit × MemSt nD τ sig (Elt F)) (h : Pipeline.FramePost cfgs (dats m) 0 (V m) r) (c : Dev nD) :
    r.2.mem ((c : Thread nD τ).loc main_v10_0) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v10_1) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v10_2) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v10_3) = (dats m 0 c).arrAt 6 cfg0.N :=
  (h c).1 6

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v10_0) = (dats m 0 c).arrAt 3 cfg0.N
      ∧ r.2.mem ((c : Thread nD τ).loc main_v10_1) = (dats m 0 c).arrAt 4 cfg0.N
      ∧ r.2.mem ((c : Thread nD τ).loc main_v10_2) = (dats m 0 c).arrAt 5 cfg0.N
      ∧ r.2.mem ((c : Thread nD τ).loc main_v10_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post3 m r h c,
      post4 m r h c,
      post5 m r h c,
      post6 m r h c,
      kept_main_arg0 m r h c,
      kept_main_arg1 m r h c,
      kept_main_arg2 m r h c,
      kept_main_arg3 m r h c,
      kept_main_arg4 m r h c⟩)
    (run_main m ρ)

end Cert.MlpFwdIdeal.Value

end
-- ==== Proof.FwdSpec.lean ====
module

public import proofs.«01_k».proof.Proof.MixSpec

@[expose] public section

/-! The forward pass of the two-layer block, token by token, at extended real numbers: no argument has to be finite. -/

noncomputable section

namespace Cert.Fwd

open Idealize.ShloMosaic
open Cert.Mix (seq tok)
open scoped BigOperators

/-- The arguments: the tokens, the rows of each sequence, the norm's weight and the two weights. -/
structure Args where
  x : (⟨2, ![4096, 1024]⟩ : Shape).Idx → EReal
  md : (⟨3, ![2, 8, 1024]⟩ : Shape).Idx → EReal
  pw : (⟨2, ![1, 1024]⟩ : Shape).Idx → EReal
  wu : (⟨2, ![1024, 4096]⟩ : Shape).Idx → EReal
  wd : (⟨2, ![4096, 1024]⟩ : Shape).Idx → EReal

/-- The reciprocal root of a row's mean square, plus the small constant. -/
def rms (x : Fin 1024 → EReal) : EReal :=
  Ideal.rsqrt (Ideal.div (∑ k, x k * x k) (Ideal.ofBits .f32 0x44800000#32) + Ideal.ofBits .f32 0x358637BD#32)

/-- A normed number, times the norm's weight and one plus the scale, plus the shift. -/
def norm (x : Fin 1024 → EReal) (p s b : Fin 1024 → EReal) (l : Fin 1024) : EReal :=
  x l * rms x * p l * (1 + s l) + b l

variable (A : Args)

/-- The hidden row of a token. -/
def hid (n : Fin 4096) (l : Fin 1024) : EReal :=
  norm (fun k => A.x (ix2 n k)) (fun k => A.pw (ix2 0 k)) (fun k => A.md (ix3 (seq n) 4 k)) (fun k => A.md (ix3 (seq n) 3 k)) l

/-- The first product. -/
def up (n : Fin 4096) (j : Fin 4096) : EReal := ∑ l, hid A n l * A.wu (ix2 l j)

/-- The square of its positive part. -/
def act (n : Fin 4096) (j : Fin 4096) : EReal := max (up A n j) 0 * max (up A n j) 0

/-- The second product. -/
def down (n : Fin 4096) (l : Fin 1024) : EReal := ∑ j, act A n j * A.wd (ix2 j l)

/-- An array of extended real numbers with two axes. -/
def two {a b : ℕ} (f : Fin a → Fin b → EReal) : (⟨2, ![a, b]⟩ : Shape).Idx → EReal := fun i => f (i 0) (i 1)

theorem two_ix {a b : ℕ} (f : Fin a → Fin b → EReal) (i : Fin a) (j : Fin b) : two f (ix2 i j) = f i j := rfl

end Cert.Fwd

end
-- ==== Proof.FwdPure.lean ====
module

public import proofs.«01_k».proof.Proof.FwdFrame
public import Idealize.ShloMosaic.Lib.Pipeline.ValueKit
public import proofs.«01_k».proof.Proof.FwdSpec

@[expose] public section

set_option maxRecDepth 16384

/-! The forward pass on one tile of 256 tokens. -/

noncomputable section

namespace Cert.MlpFwdIdeal.Pure

open Cert.MlpFwdIdeal Cert.MlpFwdIdeal.Gen Cert.Fwd
open Idealize.ShloMosaic Idealize.ShloMosaic.TcCoe Idealize.SL.Sem
open scoped BigOperators

variable (X : S256x1024.Idx → EReal) (P : S1x1024.Idx → EReal) (S B : S1x1x1024.Idx → EReal)

/-- The normed rows, weighted and scaled. -/
theorem pay5 (r : Fin 256) (l : Fin 1024) : k0_pay5 (F := Ideal) X P S (ix2 r l)
    = X (ix2 r l) * rms (fun k => X (ix2 r k)) * P (ix2 0 l) * (1 + S (ix3 0 0 l)) := by
  pointwise [k0_pay5]
  rfl

/-- The hidden rows. -/
theorem pay1 (r : Fin 256) (l : Fin 1024) : k0_pay1 (F := Ideal) (k0_pay5 X P S) (k0_pay6 B) (ix2 r l)
    = norm (fun k => X (ix2 r k)) (fun k => P (ix2 0 k)) (fun k => S (ix3 0 0 k)) (fun k => B (ix3 0 0 k)) l := by
  pointwise [k0_pay1, k0_pay6, pay5]
  rfl

section Products
variable {M N : FVec Ideal S256x1024 .f32} {h : Fin 256 → Fin 1024 → EReal}
variable (hM : ∀ r l, k0_pay1 (F := Ideal) M N (ix2 r l) = h r l)
variable (WU : S1024x4096.Idx → EReal) (WD : S4096x1024.Idx → EReal)
include hM

/-- The first product. -/
theorem pay2 (r : Fin 256) (j : Fin 4096) : k0_pay2 (F := Ideal) M N WU (ix2 r j) = ∑ l, h r l * WU (ix2 l j) := by
  pointwise [k0_pay2, hM]

/-- The square of its positive part. -/
theorem pay3 (r : Fin 256) (j : Fin 4096) : k0_pay3 (F := Ideal) M N WU (ix2 r j)
    = max (∑ l, h r l * WU (ix2 l j)) 0 * max (∑ l, h r l * WU (ix2 l j)) 0 := by
  pointwise [k0_pay3, pay2 hM]

/-- The second product. -/
theorem pay4 (r : Fin 256) (l : Fin 1024) : k0_pay4 (F := Ideal) M N WU WD (ix2 r l)
    = ∑ j, max (∑ l, h r l * WU (ix2 l j)) 0 * max (∑ l, h r l * WU (ix2 l j)) 0 * WD (ix2 j l) := by
  pointwise [k0_pay4, pay3 hM]
end Products

end Cert.MlpFwdIdeal.Pure

end
-- ==== Proof.FwdScratch.lean ====
module

public import proofs.«01_k».proof.Proof.MlpValue
public import proofs.«01_k».proof.Proof.FwdPure

@[expose] public section

set_option maxRecDepth 16384

/-! What the host gives to the forward kernel, each window's block, and the weights in the scratch: each is put together
from its copied pieces at the first point, and kept by the others. -/

noncomputable section

namespace Cert.MlpFwdIdeal.Value

open Cert.MlpFwdIdeal Cert.MlpFwdIdeal.Gen Cert.Fwd
open Cert.Mix (seq tok)
open Cert.MlpBwdIdeal.Value (slab)
open Idealize.ShloMosaic Idealize.ShloMosaic.TcCoe Idealize.SL.Sem
open scoped BigOperators

variable (m : (ℓ : Loc nD τ sig) → Buf (Elt Ideal) ℓ) (c : Dev nD) (t : Fin cfg0.N)

/-- The arguments in memory. -/
def args : Fwd.Args where
  x := m ((c : Thread nD τ).loc main_arg0)
  md := m ((c : Thread nD τ).loc main_arg1)
  pw := m ((c : Thread nD τ).loc main_arg2)
  wu := m ((c : Thread nD τ).loc main_arg3)
  wd := m ((c : Thread nD τ).loc main_arg4)

theorem idx : ∀ t : Fin cfg0.N, win0_0.index t = ![t.val, 0]
    ∧ win0_1.index t = ![t.val / 8, 0, 0]
    ∧ win0_2.index t = ![0, 0]
    ∧ win0_3.index t = ![t.val, 0]
    ∧ win0_4.index t = ![t.val, 0]
    ∧ win0_5.index t = ![t.val, 0] ∧ win0_6.index t = ![t.val, 0] :=
  (by decide +kernel : ∀ t : Fin grid0.N, _)

theorem lt16 (t : Fin cfg0.N) : t.val < 16 := (by decide +kernel : ∀ t : Fin grid0.N, t.val < 16) t

/-- The token of a row of a tile. -/
def tile (t : Fin cfg0.N) (r : Fin 256) : Fin 4096 := ⟨t.val * 256 + r.val, by have := lt16 t; omega⟩

/-- The sequence of a tile. -/
def tseq (t : Fin cfg0.N) : Fin 2 := ⟨t.val / 8, by have := lt16 t; omega⟩

theorem seq_tile (t : Fin cfg0.N) (r : Fin 256) : seq (tile t r) = tseq t := by
  apply Fin.ext; show (t.val * 256 + r.val) / 2048 = t.val / 8; omega

theorem blk0 (r : Fin 256) (l : Fin 1024) : iblk m c 0 t (ix2 r l) = (args m c).x (ix2 (tile t r) l) := by
  blk_simp [iblk, V, idx t]
  entry_read
  have e : ((View.whole main_arg0).slice (win0_0.rect t)).emb (ix2 r l) = ix2 (tile t r) l := by
    blk_ext [idx t, tile]
  rw [e]
  rfl

theorem blk1 (r : Fin 8) (l : Fin 1024) : iblk m c 1 t (ix3 0 r l) = (args m c).md (ix3 (tseq t) r l) := by
  blk_simp [iblk, V, idx t]
  entry_read
  have e : ((View.whole main_arg1).slice (win0_1.rect t)).emb (ix3 0 r l) = ix3 (tseq t) r l := by
    blk_ext [idx t, tseq]
  rw [e]
  rfl

theorem blk2 (r : Fin 1) (l : Fin 1024) : iblk m c 2 t (ix2 r l) = (args m c).pw (ix2 r l) := by
  blk_simp [iblk, V, idx t]
  entry_read
  have e : ((View.whole main_arg2).slice (win0_2.rect t)).emb (ix2 r l) = ix2 r l := by
    blk_ext [idx t]
  rw [e]
  rfl

/-- The upper half of the first weight, in pieces. -/
theorem host5 (p : Fin 8) (i j : Fin 512) :
    V m c main_v5 (ix3 p i j) = (args m c).wu (ix2 ⟨i.val, by omega⟩ ⟨p.val * 512 + j.val, by omega⟩) := by
  unfold V
  entry_read
  pointwise
  rfl

/-- The lower half of the first weight, in pieces. -/
theorem host7 (p : Fin 8) (i j : Fin 512) :
    V m c main_v7 (ix3 p i j) = (args m c).wu (ix2 ⟨512 + i.val, by omega⟩ ⟨p.val * 512 + j.val, by omega⟩) := by
  unfold V
  entry_read
  pointwise
  rfl

/-- The first columns of the second weight. -/
theorem host8 (i : Fin 4096) (j : Fin 640) : V m c main_v8 (ix2 i j) = (args m c).wd (ix2 i ⟨j.val, by omega⟩) := by
  unfold V
  entry_read
  pointwise
  rfl

/-- Its last columns. -/
theorem host9 (i : Fin 4096) (j : Fin 384) : V m c main_v9 (ix2 i j) = (args m c).wd (ix2 i ⟨640 + j.val, by omega⟩) := by
  unfold V
  entry_read
  pointwise
  rfl

/-- A piece of the upper half of the first weight. -/
theorem piece5 (p : ℕ) (hp : p < 8) (inb : ∀ a, ![p, 0, 0] a + ![1, 512, 512] a ≤ S8x512x512.size a) (hs) (i j : Fin 512) :
    View.read (Elt Ideal) (((View.whole main_v5).slice (Rect.unit (s := S8x512x512) ![p, 0, 0] ![1, 512, 512] inb)).reshape S512x512 hs)
      (V m c main_v5) (ix2 i j) = (args m c).wu (ix2 ⟨i.val, by omega⟩ ⟨p * 512 + j.val, by omega⟩) := by
  have e : (((View.whole main_v5).slice (Rect.unit (s := S8x512x512) ![p, 0, 0] ![1, 512, 512] inb)).reshape S512x512 hs).emb (ix2 i j)
      = ix3 ⟨p, hp⟩ i j := by
    show ((View.whole main_v5).slice (Rect.unit (s := S8x512x512) ![p, 0, 0] ![1, 512, 512] inb)).emb (Shape.reshapeEquiv hs (ix2 i j)) = _
    rw [slab hs]
    funext a; apply Fin.ext
    show ((Rect.unit (s := S8x512x512) ![p, 0, 0] ![1, 512, 512] inb).emb (ix3 0 i j) a).val = _
    fin_cases a <;> simp [Rect.unit, Rect.emb]
  exact (congrArg (V m c main_v5) e).trans (host5 m c ⟨p, hp⟩ i j)

/-- A piece of the lower half of the first weight. -/
theorem piece7 (p : ℕ) (hp : p < 8) (inb : ∀ a, ![p, 0, 0] a + ![1, 512, 512] a ≤ S8x512x512.size a) (hs) (i j : Fin 512) :
    View.read (Elt Ideal) (((View.whole main_v7).slice (Rect.unit (s := S8x512x512) ![p, 0, 0] ![1, 512, 512] inb)).reshape S512x512 hs)
      (V m c main_v7) (ix2 i j) = (args m c).wu (ix2 ⟨512 + i.val, by omega⟩ ⟨p * 512 + j.val, by omega⟩) := by
  have e : (((View.whole main_v7).slice (Rect.unit (s := S8x512x512) ![p, 0, 0] ![1, 512, 512] inb)).reshape S512x512 hs).emb (ix2 i j)
      = ix3 ⟨p, hp⟩ i j := by
    show ((View.whole main_v7).slice (Rect.unit (s := S8x512x512) ![p, 0, 0] ![1, 512, 512] inb)).emb (Shape.reshapeEquiv hs (ix2 i j)) = _
    rw [slab hs]
    funext a; apply Fin.ext
    show ((Rect.unit (s := S8x512x512) ![p, 0, 0] ![1, 512, 512] inb).emb (ix3 0 i j) a).val = _
    fin_cases a <;> simp [Rect.unit, Rect.emb]
  exact (congrArg (V m c main_v7) e).trans (host7 m c ⟨p, hp⟩ i j)

set_option maxHeartbeats 1000000 in
/-- The first weight after the first point. -/
theorem scr0 (h0 : t.val % 16 = 0) (l : Fin 1024) (k : Fin 4096) :
    (outsAt0 m c t.val t.isLt).2.2.2.2.1 (ix2 l k) = (args m c).wu (ix2 l k) := by
  rw [outsAt0_A m c t h0]; dsimp only; frame_out
  have hk : k.val < 512 ∨ (512 ≤ k.val ∧ k.val < 1024) ∨ (1024 ≤ k.val ∧ k.val < 1536) ∨ (1536 ≤ k.val ∧ k.val < 2048)
      ∨ (2048 ≤ k.val ∧ k.val < 2560) ∨ (2560 ≤ k.val ∧ k.val < 3072) ∨ (3072 ≤ k.val ∧ k.val < 3584) ∨ 3584 ≤ k.val := by omega
  by_cases hl : 512 ≤ l.val
  · obtain hk | hk | hk | hk | hk | hk | hk | hk := hk
    all_goals
      repeat first
        | refine (Rows.canon_hit _ _ _ _ _ l k (by omega)).trans ?_
        | refine (Rows.canon_miss _ _ _ _ _ l k (by omega)).trans ?_
      refine (piece7 m c _ (by omega) _ _ _ _).trans ?_
      congr 3 <;> dsimp only <;> omega
  · obtain hk | hk | hk | hk | hk | hk | hk | hk := hk
    all_goals
      repeat first
        | refine (Rows.canon_hit _ _ _ _ _ l k (by omega)).trans ?_
        | refine (Rows.canon_miss _ _ _ _ _ l k (by omega)).trans ?_
      refine (piece5 m c _ (by omega) _ _ _ _).trans ?_
      congr 3 <;> dsimp only <;> omega

/-- The second weight after the first point. -/
theorem scr1 (h0 : t.val % 16 = 0) (k : Fin 4096) (l : Fin 1024) :
    (outsAt0 m c t.val t.isLt).2.2.2.2.2 (ix2 k l) = (args m c).wd (ix2 k l) := by
  rw [outsAt0_A m c t h0]; dsimp only; frame_out
  by_cases h : 640 ≤ l.val
  · refine (Rows.canon_hit 0 640 _ _ _ k l ⟨by omega, by omega, h, by omega⟩).trans ((host9 m c _ _).trans ?_)
    congr 3
    show 640 + (l.val - 640) = l.val
    omega
  · refine (Rows.canon_miss 0 640 _ _ _ k l (by omega)).trans
      ((Rows.canon_hit 0 0 _ _ _ k l (by omega)).trans ((host8 m c _ _).trans ?_))
    congr 3

theorem keep0 (h0 : ¬t.val % 16 = 0) : (outsAt0 m c t.val t.isLt).2.2.2.2.1
    = (outsAt0 m c (t.val - 1) (Nat.lt_of_le_of_lt (Nat.sub_le _ _) t.isLt)).2.2.2.2.1 := by
  rw [outsAt0_B m c t h0]; dsimp only
  unfold sout0_B_0
  rfl

theorem keep1 (h0 : ¬t.val % 16 = 0) : (outsAt0 m c t.val t.isLt).2.2.2.2.2
    = (outsAt0 m c (t.val - 1) (Nat.lt_of_le_of_lt (Nat.sub_le _ _) t.isLt)).2.2.2.2.2 := by
  rw [outsAt0_B m c t h0]; dsimp only
  unfold sout0_B_1
  rfl

/-- Both weights after every point. -/
theorem scratch (n : ℕ) (h : n < cfg0.N) :
    (∀ l k, (outsAt0 m c n h).2.2.2.2.1 (ix2 l k) = (args m c).wu (ix2 l k))
      ∧ (∀ k l, (outsAt0 m c n h).2.2.2.2.2 (ix2 k l) = (args m c).wd (ix2 k l)) := by
  induction n with
  | zero => exact ⟨scr0 m c ⟨0, h⟩ rfl, scr1 m c ⟨0, h⟩ rfl⟩
  | succ n ih =>
    have h0 : ¬ (n + 1) % 16 = 0 := by have := lt16 ⟨n + 1, h⟩; dsimp only at this; omega
    obtain ⟨i0, i1⟩ := ih (by omega)
    exact ⟨fun l k => (congrFun (keep0 m c ⟨n + 1, h⟩ h0) _).trans (i0 l k), fun k l => (congrFun (keep1 m c ⟨n + 1, h⟩ h0) _).trans (i1 k l)⟩

end Cert.MlpFwdIdeal.Value

end
-- ==== Proof.FwdValue.lean ====
module

public import proofs.«01_k».proof.Proof.FwdScratch

@[expose] public section

set_option maxRecDepth 16384

/-! The arrays that the forward kernel leaves. -/

noncomputable section

namespace Cert.MlpFwdIdeal.Value

open Cert.MlpFwdIdeal Cert.MlpFwdIdeal.Gen Cert.Fwd
open Idealize.ShloMosaic Idealize.ShloMosaic.TcCoe Idealize.SL.Sem
open scoped BigOperators

variable (m : (ℓ : Loc nD τ sig) → Buf (Elt Ideal) ℓ) (c : Dev nD) (t : Fin cfg0.N)

/-- The first weight, read back at the first point from its copied pieces. -/
theorem first0 (h0 : t.val % 16 = 0) (L : List (View.Piece (Elt Ideal) S1024x4096 .bf16)) (inb)
    (hL : (outsAt0 m c t.val t.isLt).2.2.2.2.1 = View.canon L) :
    (View.whole cc0_scratch0).readCov L (Rect.unit (s := S1024x4096) ![0, 0] ![1024, 4096] inb).toLoadRect = (args m c).wu := by
  funext i
  idx_vars i
  exact (Rows.readCov_all _ L inb _ _).trans ((congrFun hL _).symm.trans (scr0 m c t h0 _ _))

/-- The second weight, read back at the first point from its copied pieces. -/
theorem first1 (h0 : t.val % 16 = 0) (L : List (View.Piece (Elt Ideal) S4096x1024 .bf16)) (inb)
    (hL : (outsAt0 m c t.val t.isLt).2.2.2.2.2 = View.canon L) :
    (View.whole cc0_scratch1).readCov L (Rect.unit (s := S4096x1024) ![0, 0] ![4096, 1024] inb).toLoadRect = (args m c).wd := by
  funext i
  idx_vars i
  exact (Rows.readCov_all _ L inb _ _).trans ((congrFun hL _).symm.trans (scr1 m c t h0 _ _))

/-- The first weight, read at the other points. -/
theorem later0 : View.read (Elt Ideal) (View.whole cc0_scratch0) ((Memref.isWhole_whole _).unread
      (outsAt0 m c (t.val - 1) (Nat.lt_of_le_of_lt (Nat.sub_le _ _) t.isLt)).2.2.2.2.1) = (args m c).wu := by
  funext i
  idx_vars i
  exact (congrFun (Memref.IsWhole.read_unread _ _) _).trans ((scratch m c _ _).1 _ _)

/-- The second weight, read at the other points. -/
theorem later1 : View.read (Elt Ideal) (View.whole cc0_scratch1) ((Memref.isWhole_whole _).unread
      (outsAt0 m c (t.val - 1) (Nat.lt_of_le_of_lt (Nat.sub_le _ _) t.isLt)).2.2.2.2.2) = (args m c).wd := by
  funext i
  idx_vars i
  exact (congrFun (Memref.IsWhole.read_unread _ _) _).trans ((scratch m c _ _).2 _ _)

/-- The normed rows of a tile, weighted and scaled. -/
abbrev scl : FVec Ideal S256x1024 .f32 := k0_pay5 (F := Ideal) (iblk m c 0 t) (iblk m c 2 t)
  (View.ld (iblk m c 1 t) (Rect.unit (s := S1x8x1024) ![0, 4, 0] S1x1x1024.size inb_S1x8x1024_S1x1x1024_0_4_0))

/-- The shift of a tile. -/
abbrev shift : FVec Ideal S256x1024 .f32 := k0_pay6 (F := Ideal)
  (View.ld (iblk m c 1 t) (Rect.unit (s := S1x8x1024) ![0, 3, 0] S1x1x1024.size inb_S1x8x1024_S1x1x1024_0_3_0))

theorem hid_tile (r : Fin 256) (l : Fin 1024) :
    k0_pay1 (F := Ideal) (scl m c t) (shift m c t) (ix2 r l) = hid (args m c) (tile t r) l := by
  rw [Pure.pay1]
  have h4 (k : Fin 1024) : View.ld (iblk m c 1 t) (Rect.unit (s := S1x8x1024) ![0, 4, 0] S1x1x1024.size inb_S1x8x1024_S1x1x1024_0_4_0) (ix3 0 0 k)
      = (args m c).md (ix3 (tseq t) 4 k) := by
    pointwise [blk1 m c t]
  have h3 (k : Fin 1024) : View.ld (iblk m c 1 t) (Rect.unit (s := S1x8x1024) ![0, 3, 0] S1x1x1024.size inb_S1x8x1024_S1x1x1024_0_3_0) (ix3 0 0 k)
      = (args m c).md (ix3 (tseq t) 3 k) := by
    pointwise [blk1 m c t]
  simp only [blk0 m c t, blk2 m c t, h3, h4]
  unfold hid
  rw [seq_tile]

section Weights
variable {WU : S1024x4096.Idx → EReal} {WD : S4096x1024.Idx → EReal}
variable (hWU : WU = (args m c).wu) (hWD : WD = (args m c).wd)
include hWU

theorem up_tile (r : Fin 256) (j : Fin 4096) :
    k0_pay2 (F := Ideal) (scl m c t) (shift m c t) WU (ix2 r j) = up (args m c) (tile t r) j := by
  subst hWU
  exact Pure.pay2 (hid_tile m c t) _ r j

theorem act_tile (r : Fin 256) (j : Fin 4096) :
    k0_pay3 (F := Ideal) (scl m c t) (shift m c t) WU (ix2 r j) = act (args m c) (tile t r) j := by
  subst hWU
  exact Pure.pay3 (hid_tile m c t) _ r j

include hWD

theorem down_tile (r : Fin 256) (l : Fin 1024) :
    k0_pay4 (F := Ideal) (scl m c t) (shift m c t) WU WD (ix2 r l) = down (args m c) (tile t r) l := by
  subst hWU hWD
  exact Pure.pay4 (hid_tile m c t) _ _ r l
end Weights

theorem up_A (h0 : t.val % 16 = 0) (r : Fin 256) (j : Fin 4096) :
    (outsAt0 m c t.val t.isLt).1 (ix2 r j) = up (args m c) (tile t r) j := by
  rw [outsAt0_A m c t h0]; dsimp only; frame_out
  refine up_tile m c t (first0 m c t h0 _ _ ?_) r j
  rw [outsAt0_A m c t h0]; dsimp only; frame_out

theorem up_B (h0 : ¬t.val % 16 = 0) (r : Fin 256) (j : Fin 4096) :
    (outsAt0 m c t.val t.isLt).1 (ix2 r j) = up (args m c) (tile t r) j := by
  rw [outsAt0_B m c t h0]; dsimp only; frame_out
  exact up_tile m c t (later0 m c t) r j

theorem act_A (h0 : t.val % 16 = 0) (r : Fin 256) (j : Fin 4096) :
    (outsAt0 m c t.val t.isLt).2.1 (ix2 r j) = act (args m c) (tile t r) j := by
  rw [outsAt0_A m c t h0]; dsimp only; frame_out
  refine act_tile m c t (first0 m c t h0 _ _ ?_) r j
  rw [outsAt0_A m c t h0]; dsimp only; frame_out

theorem act_B (h0 : ¬t.val % 16 = 0) (r : Fin 256) (j : Fin 4096) :
    (outsAt0 m c t.val t.isLt).2.1 (ix2 r j) = act (args m c) (tile t r) j := by
  rw [outsAt0_B m c t h0]; dsimp only; frame_out
  exact act_tile m c t (later0 m c t) r j

theorem down_A (h0 : t.val % 16 = 0) (r : Fin 256) (l : Fin 1024) :
    (outsAt0 m c t.val t.isLt).2.2.1 (ix2 r l) = down (args m c) (tile t r) l := by
  rw [outsAt0_A m c t h0]; dsimp only; frame_out
  refine down_tile m c t (first0 m c t h0 _ _ ?_) (first1 m c t h0 _ _ ?_) r l
  · rw [outsAt0_A m c t h0]; dsimp only; frame_out
  · rw [outsAt0_A m c t h0]; dsimp only; frame_out

theorem down_B (h0 : ¬t.val % 16 = 0) (r : Fin 256) (l : Fin 1024) :
    (outsAt0 m c t.val t.isLt).2.2.1 (ix2 r l) = down (args m c) (tile t r) l := by
  rw [outsAt0_B m c t h0]; dsimp only; frame_out
  exact down_tile m c t (later0 m c t) (later1 m c t) r l

theorem hid_A (h0 : t.val % 16 = 0) (r : Fin 256) (l : Fin 1024) :
    (outsAt0 m c t.val t.isLt).2.2.2.1 (ix2 r l) = hid (args m c) (tile t r) l := by
  rw [outsAt0_A m c t h0]; dsimp only; frame_out
  exact hid_tile m c t r l

theorem hid_B (h0 : ¬t.val % 16 = 0) (r : Fin 256) (l : Fin 1024) :
    (outsAt0 m c t.val t.isLt).2.2.2.1 (ix2 r l) = hid (args m c) (tile t r) l := by
  rw [outsAt0_B m c t h0]; dsimp only; frame_out
  exact hid_tile m c t r l

/-- The first product. -/
theorem final_3 : (dats m 0 c).arrAt 3 cfg0.N = two (up (args m c)) := by
  refine (dats m 0 c).arrAt_eq_of_covers 3 _ (by decide +kernel) fun t hf y => ?_
  blk_simp; rw [after0_3]
  have e : ∀ (r : Fin 256) (l : Fin 4096), ((View.whole main_v10_0).slice (win0_3.rect t)).emb (ix2 r l) = ix2 (tile t r) l := by
    intro r l; blk_ext [idx t, tile]
  idx_vars y
  rw [e]
  by_cases h0 : t.val % 16 = 0
  · exact up_A m c t h0 _ _
  · exact up_B m c t h0 _ _

/-- The square of its positive part. -/
theorem final_4 : (dats m 0 c).arrAt 4 cfg0.N = two (act (args m c)) := by
  refine (dats m 0 c).arrAt_eq_of_covers 4 _ (by decide +kernel) fun t hf y => ?_
  blk_simp; rw [after0_4]
  have e : ∀ (r : Fin 256) (l : Fin 4096), ((View.whole main_v10_1).slice (win0_4.rect t)).emb (ix2 r l) = ix2 (tile t r) l := by
    intro r l; blk_ext [idx t, tile]
  idx_vars y
  rw [e]
  by_cases h0 : t.val % 16 = 0
  · exact act_A m c t h0 _ _
  · exact act_B m c t h0 _ _

/-- The second product. -/
theorem final_5 : (dats m 0 c).arrAt 5 cfg0.N = two (down (args m c)) := by
  refine (dats m 0 c).arrAt_eq_of_covers 5 _ (by decide +kernel) fun t hf y => ?_
  blk_simp; rw [after0_5]
  have e : ∀ (r : Fin 256) (l : Fin 1024), ((View.whole main_v10_2).slice (win0_5.rect t)).emb (ix2 r l) = ix2 (tile t r) l := by
    intro r l; blk_ext [idx t, tile]
  idx_vars y
  rw [e]
  by_cases h0 : t.val % 16 = 0
  · exact down_A m c t h0 _ _
  · exact down_B m c t h0 _ _

/-- The hidden rows. -/
theorem final_6 : (dats m 0 c).arrAt 6 cfg0.N = two (hid (args m c)) := by
  refine (dats m 0 c).arrAt_eq_of_covers 6 _ (by decide +kernel) fun t hf y => ?_
  blk_simp; rw [after0_6]
  have e : ∀ (r : Fin 256) (l : Fin 1024), ((View.whole main_v10_3).slice (win0_6.rect t)).emb (ix2 r l) = ix2 (tile t r) l := by
    intro r l; blk_ext [idx t, tile]
  idx_vars y
  rw [e]
  by_cases h0 : t.val % 16 = 0
  · exact hid_A m c t h0 _ _
  · exact hid_B m c t h0 _ _

end Cert.MlpFwdIdeal.Value

end
-- ==== Proof.FwdRef.lean ====
module

public import proofs.«01_k».proof.Proof.Gen.FwdRefIdeal.Read
public import Idealize.ShloMosaic.Lib.Pointwise
public import proofs.«01_k».proof.Proof.FwdSpec

@[expose] public section

set_option maxRecDepth 16384

/-! The arrays that the forward reference leaves. -/

noncomputable section

namespace Cert.FwdRefIdeal.Value

open Cert.FwdRefIdeal Cert.FwdRefIdeal.Gen Cert.FwdRefIdeal.Read Cert.Fwd
open Cert.Mix (seq tok)
open Idealize.ShloMosaic Idealize.ShloMosaic.TcCoe Idealize.SL.Sem
open scoped BigOperators

variable (A : Fwd.Args)

theorem seq_tok (b : Fin 2) (s : Fin 2048) : seq (tok b s) = b := by
  apply Fin.ext; show (b.val * 2048 + s.val) / 2048 = b.val; omega

theorem tok_divmod (n : Fin 4096) (h : n.val / 2048 < 2) (h' : n.val % 2048 < 2048) : tok ⟨n.val / 2048, h⟩ ⟨n.val % 2048, h'⟩ = n := by
  apply Fin.ext; show n.val / 2048 * 2048 + n.val % 2048 = n.val; omega

/-- The tokens, by sequence. -/
theorem v0 (b : Fin 2) (s : Fin 2048) (l : Fin 1024) : val_main_v0 (F := Ideal) A.x (ix3 b s l) = A.x (ix2 (tok b s) l) := by
  pointwise [val_main_v0]
  rfl

/-- The reciprocal root mean square. -/
theorem v8 (b : Fin 2) (s : Fin 2048) (z : Fin 1) :
    val_main_v8 (F := Ideal) A.x (ix3 b s z) = rms fun k => A.x (ix2 (tok b s) k) := by
  pointwise [val_main_v8, val_main_v7, val_main_v6, val_main_v5, val_main_v4, val_main_v3, val_main_v2, val_main_v1, v0 A,
    val_main_cst, val_main_cst_0, val_main_cst_1]
  rfl

/-- One plus the scale. -/
theorem v17 (b : Fin 2) (s : Fin 2048) (l : Fin 1024) : val_main_v17 (F := Ideal) A.md (ix3 b s l) = 1 + A.md (ix3 b 4 l) := by
  pointwise [val_main_v17, val_main_v16, val_main_v15, val_main_v14, val_main_cst_2]

/-- The shift. -/
theorem v20 (b : Fin 2) (s : Fin 2048) (l : Fin 1024) : val_main_v20 (F := Ideal) A.md (ix3 b s l) = A.md (ix3 b 3 l) := by
  pointwise [val_main_v20, val_main_v19]

/-- The hidden rows. -/
theorem v21 (b : Fin 2) (s : Fin 2048) (l : Fin 1024) :
    val_main_v21 (F := Ideal) A.x A.md A.pw (ix3 b s l) = hid A (tok b s) l := by
  pointwise [val_main_v21, val_main_v18, val_main_v13, val_main_v12, val_main_v11, val_main_v10, val_main_v9, v8 A, v0 A, v17 A, v20 A]
  unfold hid Fwd.norm
  rw [seq_tok]

/-- The first product. -/
theorem v22 (b : Fin 2) (s : Fin 2048) (j : Fin 4096) :
    val_main_v22 (F := Ideal) A.x A.md A.pw A.wu (ix3 b s j) = up A (tok b s) j := by
  pointwise [val_main_v22, v21 A]
  rfl

/-- The square of its positive part. -/
theorem v24 (b : Fin 2) (s : Fin 2048) (j : Fin 4096) :
    val_main_v24 (F := Ideal) A.x A.md A.pw A.wu (ix3 b s j) = act A (tok b s) j := by
  pointwise [val_main_v24, val_main_v23, val_main_call0_v0, val_main_call0_cst, v22 A]
  rfl

/-- The second product. -/
theorem v28 (b : Fin 2) (s : Fin 2048) (l : Fin 1024) :
    val_main_v28 (F := Ideal) A.x A.md A.pw A.wu A.wd (ix3 b s l) = down A (tok b s) l := by
  pointwise [val_main_v28, v24 A]
  rfl

/-- The first product, token by token. -/
theorem v25 : val_main_v25 (F := Ideal) A.x A.md A.pw A.wu = two (up A) := by
  funext i
  idx_vars i
  pointwise [val_main_v25, v22 A, two_ix]
  rw [tok_divmod]

/-- The square of its positive part, token by token. -/
theorem v27 : val_main_v27 (F := Ideal) A.x A.md A.pw A.wu = two (act A) := by
  funext i
  idx_vars i
  pointwise [val_main_v27, val_main_v26, v24 A, two_ix]
  rw [tok_divmod]

/-- The second product, token by token. -/
theorem v29 : val_main_v29 (F := Ideal) A.x A.md A.pw A.wu A.wd = two (down A) := by
  funext i
  idx_vars i
  pointwise [val_main_v29, v28 A, two_ix]
  rw [tok_divmod]

/-- The hidden rows, token by token. -/
theorem v31 : val_main_v31 (F := Ideal) A.x A.md A.pw = two (hid A) := by
  funext i
  idx_vars i
  pointwise [val_main_v31, val_main_v30, v21 A, two_ix]
  rw [tok_divmod]

end Cert.FwdRefIdeal.Value

end
-- ==== Proof.FwdClaim.lean ====
module

public import proofs.«01_k».proof.Defs
public import proofs.«01_k».proof.Proof.Gen.MlpFwd
public import proofs.«01_k».proof.Proof.Gen.MlpFwdIdeal
public import proofs.«01_k».proof.Proof.FwdFrame
public import proofs.«01_k».proof.Proof.FwdBlocks
public import proofs.«01_k».proof.Proof.Gen.FwdRefIdeal
public import proofs.«01_k».proof.Proof.Gen.FwdRefIdeal.Run
public import proofs.«01_k».proof.Proof.Gen.FwdRefIdeal.Read
public import proofs.«01_k».proof.Proof.FwdValue
public import proofs.«01_k».proof.Proof.FwdRef

@[expose] public section

set_option maxRecDepth 16384

/-! The claim about the values of the two-layer block's forward pass. -/

noncomputable section

namespace Cert.FwdClaim

open Idealize.ShloMosaic Idealize.ShloMosaic.TcCoe Idealize.SL.Sem Cert.Fwd
open Cert.MlpFwdIdeal.Value (args)

/-- The kernel's arrays are the reference's. -/
theorem algebraic : algebraic_MlpFwdIdeal_FwdRefIdeal := by
  intro m g m' g' _ hagree
  refine ⟨fun c => two (up (args m c)), fun c => two (act (args m c)), fun c => two (down (args m c)), fun c => two (hid (args m c)), ?_, ?_⟩
  · refine (θ_run _ _ _).mono (fun r h c => ?_) (MlpFwdIdeal.Value.run_blocks m g)
    obtain ⟨h0, h1, h2, h3, hk⟩ := h c
    exact ⟨h0.trans (MlpFwdIdeal.Value.final_3 m c), h1.trans (MlpFwdIdeal.Value.final_4 m c), h2.trans (MlpFwdIdeal.Value.final_5 m c),
      h3.trans (MlpFwdIdeal.Value.final_6 m c), hk⟩
  · refine (θ_run _ _ _).mono (fun r h c => ?_) (FwdRefIdeal.Value.run m' g')
    obtain ⟨a0, a1, a2, a3, a4⟩ := hagree c
    obtain ⟨h0, h1, h2, h3, hk⟩ := h c
    refine ⟨h0.trans ?_, h1.trans ?_, h2.trans ?_, h3.trans ?_, hk⟩
    · rw [FwdRefIdeal.Read.val_main_v25_eq, a0, a1, a2, a3]
      exact FwdRefIdeal.Value.v25 (args m c)
    · rw [FwdRefIdeal.Read.val_main_v27_eq, a0, a1, a2, a3]
      exact FwdRefIdeal.Value.v27 (args m c)
    · rw [FwdRefIdeal.Read.val_main_v29_eq, a0, a1, a2, a3, a4]
      exact FwdRefIdeal.Value.v29 (args m c)
    · rw [FwdRefIdeal.Read.val_main_v31_eq, a0, a1, a2]
      exact FwdRefIdeal.Value.v31 (args m c)

end Cert.FwdClaim

end
-- ==== Proof.StepInValue.lean ====
module

public import proofs.«01_k».proof.Proof.Gen.StepInIdeal.Value
public import proofs.«01_k».proof.Proof.Gen.StepInRefIdeal.Read
public import Idealize.ShloMosaic.Lib.Pipeline.ValueKit
public import Idealize.ShloMosaic.Lib.Claim
public import Idealize.ShloMosaic.Lib.Pointwise

@[expose] public section

set_option maxRecDepth 16384

/-! One step of AdamW on the input weight: the gradient is the sum of four partial ones, and each number of the step
depends on that number's gradient, weight and moments alone. It is read at extended real numbers: no argument has to be
finite. -/

noncomputable section

namespace Cert.StepInSpec

open Idealize.ShloMosaic
open scoped BigOperators

/-- The arrays of the step's arguments and results, and of its four partial gradients. -/
abbrev Mat : Type := (⟨2, ![352, 1024]⟩ : Shape).Idx → EReal
abbrev Parts : Type := (⟨3, ![4, 352, 1024]⟩ : Shape).Idx → EReal

/-- The constant that a word denotes. -/
abbrev c (b : BitVec 32) : EReal := Ideal.ofBits .f32 b

/-- The gradient: the sum of the partial ones. -/
def grad (p : Parts) : Mat := fun i => ∑ k : Fin 4, p (ix3 k (i 0) (i 1))

/-- The first moment after the step. -/
def first (p : Parts) (m : Mat) : Mat := fun i => c 0x3F666666#32 * m i + c 0x3DCCCCCD#32 * grad p i

/-- The second moment after the step. -/
def second (p : Parts) (v : Mat) : Mat := fun i => c 0x3F7FBE77#32 * v i + c 0x3A83126F#32 * (grad p i * grad p i)

/-- The change of the weight: both moments without their bias, and the weight's decay. -/
def delta (p : Parts) (w m v : Mat) : Mat := fun i =>
  c 0xBA83126F#32 * (Ideal.div (Ideal.div (first p m i) (c 0x3F26BD02#32))
    (Ideal.sqrt (Ideal.div (second p v i) (c 0x3C231ACC#32)) + c 0x322BCC77#32) + c 0x3C23D70A#32 * w i)

theorem grad_ix (p : Parts) (i : Fin 352) (j : Fin 1024) :
    grad p (ix2 i j) = p (ix3 0 i j) + p (ix3 1 i j) + p (ix3 2 i j) + p (ix3 3 i j) := by
  show (∑ k : Fin 4, p (ix3 k i j)) = _
  rw [Fin.sum_univ_four]

end Cert.StepInSpec

namespace Cert.StepInIdeal.Value

open Cert.StepInIdeal Cert.StepInIdeal.Gen
open Idealize.ShloMosaic Idealize.ShloMosaic.TcCoe Idealize.SL.Sem
open scoped BigOperators

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

section Body

variable (p : StepInSpec.Parts) (w m v : StepInSpec.Mat) (A B C D : S1x352x1024.Idx → EReal)
  (hA : ∀ i j, A (ix3 0 i j) = p (ix3 0 i j)) (hB : ∀ i j, B (ix3 0 i j) = p (ix3 1 i j))
  (hC : ∀ i j, C (ix3 0 i j) = p (ix3 2 i j)) (hD : ∀ i j, D (ix3 0 i j) = p (ix3 3 i j))
include hA hB hC hD

/-- The body's gradient. -/
theorem pay2 : k0_pay2 (F := Ideal) A B C D = StepInSpec.grad p := by
  funext y; idx_vars y
  rw [StepInSpec.grad_ix, ← hA, ← hB, ← hC, ← hD]
  pointwise [k0_pay2]

/-- The body's first moment. -/
theorem pay3 : k0_pay3 (F := Ideal) A B C D m = StepInSpec.first p m := by
  funext y
  unfold k0_pay3
  rw [pay2 p A B C D hA hB hC hD]
  rfl

/-- The body's second moment. -/
theorem pay4 : k0_pay4 (F := Ideal) A B C D v = StepInSpec.second p v := by
  funext y
  unfold k0_pay4
  rw [pay2 p A B C D hA hB hC hD]
  rfl

/-- The body's change of the weight. -/
theorem pay1 : k0_pay1 (F := Ideal) w (k0_pay4 A B C D v) (k0_pay5 A B C D m) (Scalar.ofBits .f32 0x3C231ACC#32)
    = StepInSpec.delta p w m v := by
  funext y
  unfold k0_pay1 k0_pay5
  rw [pay3 p m A B C D hA hB hC hD, pay4 p v A B C D hA hB hC hD]
  rfl

end Body

variable (m : (ℓ : Loc nD τ sig) → Buf (Elt Ideal) ℓ) (c : Dev nD) (t : Fin cfg0.N)

/-- The argument arrays: the partial gradients, the weight and its two moments. -/
abbrev pa : StepInSpec.Parts := m ((c : Thread nD τ).loc main_arg0)
abbrev wa : StepInSpec.Mat := m ((c : Thread nD τ).loc main_arg1)
abbrev ma : StepInSpec.Mat := m ((c : Thread nD τ).loc main_arg2)
abbrev va : StepInSpec.Mat := m ((c : Thread nD τ).loc main_arg3)

/-- Each block of the one grid point is the whole argument. -/
theorem blk0 (k : Fin 4) (i : Fin 352) (j : Fin 1024) : iblk m c 0 t (ix3 k i j) = pa m c (ix3 k i j) := by
  blk_simp [iblk, V, idx t]
  have e : ((View.whole main_arg0).slice (win0_0.rect t)).emb (ix3 k i j) = ix3 k i j := by blk_ext [idx t]
  rw [e]

theorem blk1 : iblk m c 1 t = wa m c := by
  funext y; idx_vars y
  blk_simp [iblk, V, idx t]
  have e : ∀ i j, ((View.whole main_arg1).slice (win0_1.rect t)).emb (ix2 i j) = ix2 i j := by
    intro i j; blk_ext [idx t]
  rw [e]

theorem blk2 : iblk m c 2 t = ma m c := by
  funext y; idx_vars y
  blk_simp [iblk, V, idx t]
  have e : ∀ i j, ((View.whole main_arg2).slice (win0_2.rect t)).emb (ix2 i j) = ix2 i j := by
    intro i j; blk_ext [idx t]
  rw [e]

theorem blk3 : iblk m c 3 t = va m c := by
  funext y; idx_vars y
  blk_simp [iblk, V, idx t]
  have e : ∀ i j, ((View.whole main_arg3).slice (win0_3.rect t)).emb (ix2 i j) = ix2 i j := by
    intro i j; blk_ext [idx t]
  rw [e]

/-- The four partial gradients, as the body reads them. -/
theorem part0 (i : Fin 352) (j : Fin 1024) :
    View.ld (iblk m c 0 t) (Rect.unit (s := S4x352x1024) ![0, 0, 0] S1x352x1024.size inb_S4x352x1024_S1x352x1024_0_0_0) (ix3 0 i j)
      = pa m c (ix3 0 i j) := by
  pointwise [blk0 m c t]

theorem part1 (i : Fin 352) (j : Fin 1024) :
    View.ld (iblk m c 0 t) (Rect.unit (s := S4x352x1024) ![1, 0, 0] S1x352x1024.size inb_S4x352x1024_S1x352x1024_1_0_0) (ix3 0 i j)
      = pa m c (ix3 1 i j) := by
  pointwise [blk0 m c t]

theorem part2 (i : Fin 352) (j : Fin 1024) :
    View.ld (iblk m c 0 t) (Rect.unit (s := S4x352x1024) ![2, 0, 0] S1x352x1024.size inb_S4x352x1024_S1x352x1024_2_0_0) (ix3 0 i j)
      = pa m c (ix3 2 i j) := by
  pointwise [blk0 m c t]

theorem part3 (i : Fin 352) (j : Fin 1024) :
    View.ld (iblk m c 0 t) (Rect.unit (s := S4x352x1024) ![3, 0, 0] S1x352x1024.size inb_S4x352x1024_S1x352x1024_3_0_0) (ix3 0 i j)
      = pa m c (ix3 3 i j) := by
  pointwise [blk0 m c t]

/-- The arrays that the kernel leaves. -/
theorem final_4 : (dats m 0 c).arrAt 4 cfg0.N = StepInSpec.grad (pa m c) := by
  refine (dats m 0 c).arrAt_eq_of_covers 4 _ (by decide +kernel) fun t hf y => ?_
  blk_simp; rw [after0_4]
  have e : ∀ (i : Fin 352) (j : Fin 1024), ((View.whole main_v0_0).slice (win0_4.rect t)).emb (ix2 i j) = ix2 i j := by
    intro i j; blk_ext [idx t]
  unfold_out out0_4
  frame_out
  idx_vars y
  rw [e]
  exact congrFun (pay2 _ _ _ _ _ (part0 m c t) (part1 m c t) (part2 m c t) (part3 m c t)) _

theorem final_5 : (dats m 0 c).arrAt 5 cfg0.N = StepInSpec.delta (pa m c) (wa m c) (ma m c) (va m c) := by
  refine (dats m 0 c).arrAt_eq_of_covers 5 _ (by decide +kernel) fun t hf y => ?_
  blk_simp; rw [after0_5]
  have e : ∀ (i : Fin 352) (j : Fin 1024), ((View.whole main_v0_1).slice (win0_5.rect t)).emb (ix2 i j) = ix2 i j := by
    intro i j; blk_ext [idx t]
  unfold_out out0_5
  frame_out
  idx_vars y
  rw [e, blk1, blk2, blk3]
  exact congrFun (pay1 _ _ _ _ _ _ _ _ (part0 m c t) (part1 m c t) (part2 m c t) (part3 m c t)) _

theorem final_6 : (dats m 0 c).arrAt 6 cfg0.N = StepInSpec.first (pa m c) (ma m c) := by
  refine (dats m 0 c).arrAt_eq_of_covers 6 _ (by decide +kernel) fun t hf y => ?_
  blk_simp; rw [after0_6]
  have e : ∀ (i : Fin 352) (j : Fin 1024), ((View.whole main_v0_2).slice (win0_6.rect t)).emb (ix2 i j) = ix2 i j := by
    intro i j; blk_ext [idx t]
  unfold_out out0_6
  frame_out
  idx_vars y
  rw [e, blk2]
  exact congrFun (pay3 _ _ _ _ _ _ (part0 m c t) (part1 m c t) (part2 m c t) (part3 m c t)) _

theorem final_7 : (dats m 0 c).arrAt 7 cfg0.N = StepInSpec.second (pa m c) (va m c) := by
  refine (dats m 0 c).arrAt_eq_of_covers 7 _ (by decide +kernel) fun t hf y => ?_
  blk_simp; rw [after0_7]
  have e : ∀ (i : Fin 352) (j : Fin 1024), ((View.whole main_v0_3).slice (win0_7.rect t)).emb (ix2 i j) = ix2 i j := by
    intro i j; blk_ext [idx t]
  unfold_out out0_7
  frame_out
  idx_vars y
  rw [e, blk3]
  exact congrFun (pay4 _ _ _ _ _ _ (part0 m c t) (part1 m c t) (part2 m c t) (part3 m c t)) _

end Cert.StepInIdeal.Value

namespace Cert.StepInRefIdeal.Value

open Cert.StepInRefIdeal Cert.StepInRefIdeal.Gen Cert.StepInRefIdeal.Read
open Idealize.ShloMosaic Idealize.ShloMosaic.TcCoe Idealize.SL.Sem
open scoped BigOperators

variable (p : StepInSpec.Parts) (w m v : StepInSpec.Mat)

/-- The arrays that the reference leaves. -/
theorem v1 : val_main_v1 (F := Ideal) p = StepInSpec.grad p := by
  funext y
  idx_vars y
  show _ = ∑ k : Fin 4, p (ix3 k _ _)
  pointwise [val_main_v1, val_main_v0, val_main_cst]

theorem v6 : val_main_v6 (F := Ideal) p m = StepInSpec.first p m := by
  funext y
  unfold val_main_v6 val_main_v5
  rw [v1]
  rfl

theorem v12 : val_main_v12 (F := Ideal) p v = StepInSpec.second p v := by
  funext y
  unfold val_main_v12 val_main_v11 val_main_v9
  rw [v1]
  rfl

theorem v25 : val_main_v25 (F := Ideal) p w m v = StepInSpec.delta p w m v := by
  funext y
  unfold val_main_v25 val_main_v23 val_main_v20 val_main_v19 val_main_v17 val_main_v16 val_main_v14
  rw [v6, v12]
  rfl

end Cert.StepInRefIdeal.Value

end
-- ==== Proof.StepInClaim.lean ====
module

public import proofs.«01_k».proof.Defs
public import proofs.«01_k».proof.Proof.Gen.StepIn
public import proofs.«01_k».proof.Proof.Gen.StepIn.Frame
public import proofs.«01_k».proof.Proof.Gen.StepInIdeal
public import proofs.«01_k».proof.Proof.Gen.StepInIdeal.Frame
public import proofs.«01_k».proof.Proof.Gen.StepInRefIdeal
public import proofs.«01_k».proof.Proof.Gen.StepInRefIdeal.Run
public import proofs.«01_k».proof.Proof.StepInValue

@[expose] public section

set_option maxRecDepth 16384

/-! The claim about the values of AdamW's step on the input weight. -/

noncomputable section

namespace Cert.StepInClaim

open Idealize.ShloMosaic Idealize.ShloMosaic.TcCoe Idealize.SL.Sem
open Cert.StepInIdeal.Value (pa wa ma va)

/-- The kernel's arrays are the reference's. -/
theorem algebraic : algebraic_StepInIdeal_StepInRefIdeal := by
  intro m g m' g' _ hagree
  refine ⟨fun c => StepInSpec.grad (pa m c), fun c => StepInSpec.delta (pa m c) (wa m c) (ma m c) (va m c),
    fun c => StepInSpec.first (pa m c) (ma m c), fun c => StepInSpec.second (pa m c) (va m c), ?_, ?_⟩
  · refine (θ_run _ _ _).mono (fun r h c => ?_) (StepInIdeal.Value.run_blocks m g)
    obtain ⟨h0, h1, h2, h3, hk⟩ := h c
    exact ⟨h0.trans (StepInIdeal.Value.final_4 m c), h1.trans (StepInIdeal.Value.final_5 m c),
      h2.trans (StepInIdeal.Value.final_6 m c), h3.trans (StepInIdeal.Value.final_7 m c), hk⟩
  · refine (θ_run _ _ _).mono (fun r h c => ?_) (StepInRefIdeal.Value.run m' g')
    obtain ⟨a0, a1, a2, a3⟩ := hagree c
    obtain ⟨h0, h1, h2, h3, hk⟩ := h c
    refine ⟨h0.trans ?_, h1.trans ?_, h2.trans ?_, h3.trans ?_, hk⟩
    · rw [StepInRefIdeal.Read.val_main_v1_eq, a0]
      exact StepInRefIdeal.Value.v1 _
    · rw [StepInRefIdeal.Read.val_main_v25_eq, a0, a1, a2, a3]
      exact StepInRefIdeal.Value.v25 _ _ _ _
    · rw [StepInRefIdeal.Read.val_main_v6_eq, a0, a2]
      exact StepInRefIdeal.Value.v6 _ _
    · rw [StepInRefIdeal.Read.val_main_v12_eq, a0, a3]
      exact StepInRefIdeal.Value.v12 _ _

end Cert.StepInClaim

end
-- ==== Proof.Quiet.lean ====
module

public import Idealize.ShloMosaic.Lib.Claim

@[expose] public section

namespace Cert.Quiet

open Idealize.ShloMosaic Idealize.SL.Sem

/-- A memory of a program that has no semaphore has every counter at zero: there is none. -/
theorem sem_zero {nD : Nat} {τ : Topo} {sig : RefSig} {Val : EltTy → Type} (hs : sig.nSem = 0) (hd : sig.nDmaSem = 0)
    (m : MemSt nD τ sig Val) : m.sem = fun _ => 0 := by
  funext g
  rcases g with ⟨⟨d, p⟩, s⟩
  cases s with
  | reg s => exact (Fin.cast hs s).elim0
  | dma s => exact (Fin.cast hd s).elim0

end Cert.Quiet
-- ==== Proof.lean ====
module

public import proofs.«01_k».proof.Defs
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_finite_mix
public import proofs.«01_k».proof.Proof.Gen.MlpBwd
public import proofs.«01_k».proof.Proof.Gen.MlpBwdIdeal
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_finite_mlp
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Pre_finite_in
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.MlpFwd
public import proofs.«01_k».proof.Proof.Gen.MlpFwdIdeal
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.StepIn
public import proofs.«01_k».proof.Proof.Gen.StepIn.Frame
public import proofs.«01_k».proof.Proof.Gen.StepInIdeal
public import proofs.«01_k».proof.Proof.Gen.StepInIdeal.Frame
public import proofs.«01_k».proof.Proof.Gen.StepInIdeal.Value
public import proofs.«01_k».proof.Proof.Gen.StepInRefIdeal
public import proofs.«01_k».proof.Proof.Gen.StepInRefIdeal.Run
public import proofs.«01_k».proof.Proof.Gen.StepInRefIdeal.Read
public import proofs.«01_k».proof.Proof.MixClaim
public import proofs.«01_k».proof.Proof.MlpFrame
public import proofs.«01_k».proof.Proof.MlpClaim
public import proofs.«01_k».proof.Proof.InClaim
public import proofs.«01_k».proof.Proof.OutClaim
public import proofs.«01_k».proof.Proof.FwdFrame
public import proofs.«01_k».proof.Proof.FwdClaim
public import proofs.«01_k».proof.Proof.StepInClaim
public import proofs.«01_k».proof.Proof.Quiet
public import Idealize.ShloMosaic.Lib.Claim
public import Idealize.ShloMosaic.Adequacy
public import Idealize.ShloMosaic.Init

@[expose] public section

noncomputable section

namespace Cert.Proof

open Idealize.ShloMosaic Idealize.SL.Sem

/-- The kernel terminates without a fault and keeps its arguments, over floats. -/
theorem frame_mix : quiescent_MixBwd := fun m ρ _ => Cert.MixBwd.Gen.frame m ρ

/-- The same over real numbers. -/
theorem frame_mix_ideal : quiescent_MixBwdIdeal := fun m ρ _ => Cert.MixBwdIdeal.Gen.frame m ρ

/-- The reference terminates and keeps its arguments. -/
theorem frame_mix_ref : quiescent_MixRefIdeal := fun m ρ _ =>
  (θ_run Cert.MixRefIdeal.defs _ _).mono
    (fun r h => ⟨fun c => (h c).2.2.2.2, Quiet.sem_zero rfl rfl r.2⟩) (Cert.MixRefIdeal.Value.run (F := Ideal) m ρ)

/-- The call of the MLP's backward pass terminates without a fault and keeps its arguments, over floats: the run
    over any float values is of the same text. -/
theorem frame_mlp : quiescent_MlpBwd := fun m ρ _ =>
  Eq.mp (by sl_kernel_rfl) (Cert.MlpBwdIdeal.Gen.frame (F := Bits) m ρ)

/-- The same over real numbers. -/
theorem frame_mlp_ideal : quiescent_MlpBwdIdeal := fun m ρ _ => Cert.MlpBwdIdeal.Gen.frame m ρ

/-- The reference of the MLP terminates and keeps its arguments. -/
theorem frame_mlp_ref : quiescent_MlpRefIdeal := fun m ρ _ =>
  (θ_run Cert.MlpRefIdeal.defs _ _).mono
    (fun r h => ⟨fun c => (h c).2.2.2.2, Quiet.sem_zero rfl rfl r.2⟩) (Cert.MlpRefIdeal.Value.run (F := Ideal) m ρ)

/-- The call of the input projection terminates without a fault and keeps its arguments, over floats. -/
theorem frame_in : quiescent_InBwd := fun m ρ _ => Cert.InBwd.Gen.frame m ρ

/-- The same over real numbers. -/
theorem frame_in_ideal : quiescent_InBwdIdeal := fun m ρ _ => Cert.InBwdIdeal.Gen.frame m ρ

/-- The reference of the input projection terminates and keeps its arguments. -/
theorem frame_in_ref : quiescent_InRefIdeal := fun m ρ _ =>
  (θ_run Cert.InRefIdeal.defs _ _).mono
    (fun r h => ⟨fun c => (h c).2.2.2, Quiet.sem_zero rfl rfl r.2⟩) (Cert.InRefIdeal.Value.run (F := Ideal) m ρ)

/-- The call of the output weight's gradient terminates without a fault and keeps its arguments, over floats. -/
theorem frame_out : quiescent_OutBwd := fun m ρ _ => Cert.OutBwd.Gen.frame m ρ

/-- The same over real numbers. -/
theorem frame_out_ideal : quiescent_OutBwdIdeal := fun m ρ _ => Cert.OutBwdIdeal.Gen.frame m ρ

/-- The reference of the output weight's gradient terminates and keeps its arguments. -/
theorem frame_out_ref : quiescent_OutRefIdeal := fun m ρ _ =>
  (θ_run Cert.OutRefIdeal.defs _ _).mono
    (fun r h => ⟨fun c => (h c).2, Quiet.sem_zero rfl rfl r.2⟩) (Cert.OutRefIdeal.Value.run (F := Ideal) m ρ)

/-- The call of the MLP's forward pass terminates without a fault and keeps its arguments, over floats: the run over any
    float values is of the same text. -/
theorem frame_fwd : quiescent_MlpFwd := fun m ρ _ =>
  Eq.mp (by sl_kernel_rfl) (Cert.MlpFwdIdeal.Gen.frame (F := Bits) m ρ)

/-- The same over real numbers. -/
theorem frame_fwd_ideal : quiescent_MlpFwdIdeal := fun m ρ _ => Cert.MlpFwdIdeal.Gen.frame m ρ

/-- The reference of the MLP's forward pass terminates and keeps its arguments. -/
theorem frame_fwd_ref : quiescent_FwdRefIdeal := fun m ρ _ =>
  (θ_run Cert.FwdRefIdeal.defs _ _).mono
    (fun r h => ⟨fun c => (h c).2.2.2.2, Quiet.sem_zero rfl rfl r.2⟩) (Cert.FwdRefIdeal.Value.run (F := Ideal) m ρ)

/-- The call of the input weight's AdamW step terminates without a fault and keeps its arguments, over floats. -/
theorem frame_step_in : quiescent_StepIn := fun m ρ _ => Cert.StepIn.Gen.frame m ρ

/-- The same over real numbers. -/
theorem frame_step_in_ideal : quiescent_StepInIdeal := fun m ρ _ => Cert.StepInIdeal.Gen.frame m ρ

/-- The reference of the input weight's AdamW step terminates and keeps its arguments. -/
theorem frame_step_in_ref : quiescent_StepInRefIdeal := fun m ρ _ =>
  (θ_run Cert.StepInRefIdeal.defs _ _).mono
    (fun r h => ⟨fun c => (h c).2.2.2.2, Quiet.sem_zero rfl rfl r.2⟩) (Cert.StepInRefIdeal.Value.run (F := Ideal) m ρ)

/-- Everything that is claimed. -/
theorem claim : Cert.Claim :=
  ⟨Cert.MixBwd.Gen.facts, Cert.MixBwdIdeal.Gen.facts, Cert.MixRefIdeal.Gen.facts,
    Cert.MlpBwd.Gen.facts, Cert.MlpBwdIdeal.Gen.facts, Cert.MlpRefIdeal.Gen.facts,
    Cert.InBwd.Gen.facts, Cert.InBwdIdeal.Gen.facts, Cert.InRefIdeal.Gen.facts,
    Cert.OutBwd.Gen.facts, Cert.OutBwdIdeal.Gen.facts, Cert.OutRefIdeal.Gen.facts,
    Cert.MlpFwd.Gen.facts, Cert.MlpFwdIdeal.Gen.facts, Cert.FwdRefIdeal.Gen.facts,
    Cert.StepIn.Gen.facts, Cert.StepInIdeal.Gen.facts, Cert.StepInRefIdeal.Gen.facts,
    Cert.Pre_finite_mix.Gen.facts, Cert.Pre_finite_mlp.Gen.facts, Cert.Pre_finite_in.Gen.facts,
    frame_mix, frame_mix_ideal, fun m ρ _ => Cert.MixBwdIdeal.Gen.frame m ρ, frame_mix_ref, fun m ρ _ => frame_mix_ref m ρ trivial,
    frame_mlp, frame_mlp_ideal, fun m ρ _ => Cert.MlpBwdIdeal.Gen.frame m ρ, frame_mlp_ref, fun m ρ _ => frame_mlp_ref m ρ trivial,
    frame_in, frame_in_ideal, fun m ρ _ => Cert.InBwdIdeal.Gen.frame m ρ, frame_in_ref, fun m ρ _ => frame_in_ref m ρ trivial,
    frame_out, frame_out_ideal, frame_out_ref, frame_fwd, frame_fwd_ideal, frame_fwd_ref,
    frame_step_in, frame_step_in_ideal, frame_step_in_ref,
    trivial, Cert.MixClaim.algebraic, trivial, Cert.MlpClaim.algebraic, trivial, Cert.InClaim.algebraic,
    trivial, Cert.OutClaim.algebraic, trivial, Cert.FwdClaim.algebraic, trivial, Cert.StepInClaim.algebraic⟩

end Cert.Proof

end
